-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v6_5)) (v6 : (c : Dev Cert.KernelIdeal.nD) → Buf (Elt Ideal) ((c.tc : Thread Cert.KernelIdeal.nD Cert.KernelIdeal.τ).loc Cert.KernelIdeal.main_v6_6)) (v7 : (c : Dev Cert.KernelIdeal.nD) → Buf (Elt Ideal) ((c.tc : Thread Cert.KernelIdeal.nD Cert.KernelIdeal.τ).loc Cert.KernelIdeal.main_v6_7)) (v8 : (c : Dev Cert.KernelIdeal.nD) → Buf (Elt Ideal) ((c.tc : Thread Cert.KernelIdeal.nD Cert.KernelIdeal.τ).loc Cert.KernelIdeal.main_v6_8)) (v9 : (c : Dev Cert.KernelIdeal.nD) → Buf (Elt Ideal) ((c.tc : Thread Cert.KernelIdeal.nD Cert.KernelIdeal.τ).loc Cert.KernelIdeal.main_v6_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_v6_5) = v5 c
          ∧ r.2.mem ((c.tc : Thread Cert.KernelIdeal.nD Cert.KernelIdeal.τ).loc Cert.KernelIdeal.main_v6_6) = v6 c
          ∧ r.2.mem ((c.tc : Thread Cert.KernelIdeal.nD Cert.KernelIdeal.τ).loc Cert.KernelIdeal.main_v6_7) = v7 c
          ∧ r.2.mem ((c.tc : Thread Cert.KernelIdeal.nD Cert.KernelIdeal.τ).loc Cert.KernelIdeal.main_v6_8) = v8 c
          ∧ r.2.mem ((c.tc : Thread Cert.KernelIdeal.nD Cert.KernelIdeal.τ).loc Cert.KernelIdeal.main_v6_9) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_v192) = v1 c
          ∧ r.2.mem ((c.tc : Thread Cert.ReferenceIdeal.nD Cert.ReferenceIdeal.τ).loc Cert.ReferenceIdeal.main_v193) = v2 c
          ∧ r.2.mem ((c.tc : Thread Cert.ReferenceIdeal.nD Cert.ReferenceIdeal.τ).loc Cert.ReferenceIdeal.main_v194) = v3 c
          ∧ r.2.mem ((c.tc : Thread Cert.ReferenceIdeal.nD Cert.ReferenceIdeal.τ).loc Cert.ReferenceIdeal.main_v195) = v4 c
          ∧ r.2.mem ((c.tc : Thread Cert.ReferenceIdeal.nD Cert.ReferenceIdeal.τ).loc Cert.ReferenceIdeal.main_v196) = v5 c
          ∧ r.2.mem ((c.tc : Thread Cert.ReferenceIdeal.nD Cert.ReferenceIdeal.τ).loc Cert.ReferenceIdeal.main_v197) = v6 c
          ∧ r.2.mem ((c.tc : Thread Cert.ReferenceIdeal.nD Cert.ReferenceIdeal.τ).loc Cert.ReferenceIdeal.main_v185) = v7 c
          ∧ r.2.mem ((c.tc : Thread Cert.ReferenceIdeal.nD Cert.ReferenceIdeal.τ).loc Cert.ReferenceIdeal.main_v191) = v8 c
          ∧ r.2.mem ((c.tc : Thread Cert.ReferenceIdeal.nD Cert.ReferenceIdeal.τ).loc Cert.ReferenceIdeal.main_v198) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v36)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v36) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v18_0)) (v1 : (c : Dev Cert.Kernel6Ideal.nD) → Buf (Elt Ideal) ((c.tc : Thread Cert.Kernel6Ideal.nD Cert.Kernel6Ideal.τ).loc Cert.Kernel6Ideal.main_v18_1)) (v2 : (c : Dev Cert.Kernel6Ideal.nD) → Buf (Elt Ideal) ((c.tc : Thread Cert.Kernel6Ideal.nD Cert.Kernel6Ideal.τ).loc Cert.Kernel6Ideal.main_v18_2)) (v3 : (c : Dev Cert.Kernel6Ideal.nD) → Buf (Elt Ideal) ((c.tc : Thread Cert.Kernel6Ideal.nD Cert.Kernel6Ideal.τ).loc Cert.Kernel6Ideal.main_v18_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v18_0) = v0 c
          ∧ r.2.mem ((c.tc : Thread Cert.Kernel6Ideal.nD Cert.Kernel6Ideal.τ).loc Cert.Kernel6Ideal.main_v18_1) = v1 c
          ∧ r.2.mem ((c.tc : Thread Cert.Kernel6Ideal.nD Cert.Kernel6Ideal.τ).loc Cert.Kernel6Ideal.main_v18_2) = v2 c
          ∧ r.2.mem ((c.tc : Thread Cert.Kernel6Ideal.nD Cert.Kernel6Ideal.τ).loc Cert.Kernel6Ideal.main_v18_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v24) = v1 c
          ∧ r.2.mem ((c.tc : Thread Cert.Reference6Ideal.nD Cert.Reference6Ideal.τ).loc Cert.Reference6Ideal.main_v26) = v2 c
          ∧ r.2.mem ((c.tc : Thread Cert.Reference6Ideal.nD Cert.Reference6Ideal.τ).loc Cert.Reference6Ideal.main_v27) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)) (v2 : (c : Dev Cert.Kernel7Ideal.nD) → Buf (Elt Ideal) ((c.tc : Thread Cert.Kernel7Ideal.nD Cert.Kernel7Ideal.τ).loc Cert.Kernel7Ideal.main_v1_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_v1_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v24) = v1 c
          ∧ r.2.mem ((c.tc : Thread Cert.Reference7Ideal.nD Cert.Reference7Ideal.τ).loc Cert.Reference7Ideal.main_v26) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S2x2048x1024 : Shape := ⟨3, ![2, 2048, 1024]⟩
abbrev S3x6x1024 : Shape := ⟨3, ![3, 6, 1024]⟩
abbrev S1x1024 : Shape := ⟨2, ![1, 1024]⟩
abbrev S1024x1024 : Shape := ⟨2, ![1024, 1024]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S2x2048x4096 : Shape := ⟨3, ![2, 2048, 4096]⟩
abbrev S2x6x1024 : Shape := ⟨3, ![2, 6, 1024]⟩
abbrev S8x1024 : Shape := ⟨2, ![8, 1024]⟩
abbrev S8x128 : Shape := ⟨2, ![8, 128]⟩
abbrev S1x256x1024 : Shape := ⟨3, ![1, 256, 1024]⟩
abbrev S1x6x1024 : Shape := ⟨3, ![1, 6, 1024]⟩
abbrev S1x256x4096 : Shape := ⟨3, ![1, 256, 4096]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩
abbrev S1x1024x1024 : Shape := ⟨3, ![1, 1024, 1024]⟩
abbrev S1 : Shape := ⟨1, ![1]⟩
abbrev S1x1 : Shape := ⟨2, ![1, 1]⟩
abbrev S1x1x1 : Shape := ⟨3, ![1, 1, 1]⟩
abbrev S1024 : Shape := ⟨1, ![1024]⟩
abbrev S6x1024 : Shape := ⟨2, ![6, 1024]⟩

abbrev nBuf : Space → Nat
  | .hbm => 26
  | .vmem => 32
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S3x6x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x1024, .f32⟩
  | .hbm, ⟨8, _⟩ => ⟨S1024x4096, .f32⟩
  | .hbm, ⟨9, _⟩ => ⟨S4096x1024, .f32⟩
  | .hbm, ⟨10, _⟩ => ⟨S2x2048x1024, .bf16⟩
  | .hbm, ⟨11, _⟩ => ⟨S1024x1024, .bf16⟩
  | .hbm, ⟨12, _⟩ => ⟨S1024x4x1024, .f32⟩
  | .hbm, ⟨13, _⟩ => ⟨S4x1024x1024, .f32⟩
  | .hbm, ⟨14, _⟩ => ⟨S4x1024x1024, .bf16⟩
  | .hbm, ⟨15, _⟩ => ⟨S4096x1024, .bf16⟩
  | .hbm, ⟨16, _⟩ => ⟨S2x2048x1024, .f32⟩
  | .hbm, ⟨17, _⟩ => ⟨S2x2048x1024, .bf16⟩
  | .hbm, ⟨18, _⟩ => ⟨S2x2048x1024, .bf16⟩
  | .hbm, ⟨19, _⟩ => ⟨S2x2048x4096, .bf16⟩
  | .hbm, ⟨20, _⟩ => ⟨S2x2048x4096, .bf16⟩
  | .hbm, ⟨21, _⟩ => ⟨S2x2048x1024, .bf16⟩
  | .hbm, ⟨22, _⟩ => ⟨S2x2048x1024, .bf16⟩
  | .hbm, ⟨23, _⟩ => ⟨S2x6x1024, .f32⟩
  | .hbm, ⟨24, _⟩ => ⟨S8x1024, .f32⟩
  | .hbm, ⟨25, _⟩ => ⟨S8x128, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S4x1024x1024, .bf16⟩
  | .local _ .vmem, ⟨13, _⟩ => ⟨S4096x1024, .bf16⟩
  | .local _ .vmem, ⟨14, _⟩ => ⟨S1x256x1024, .f32⟩
  | .local _ .vmem, ⟨15, _⟩ => ⟨S1x256x1024, .f32⟩
  | .local _ .vmem, ⟨16, _⟩ => ⟨S1x256x1024, .bf16⟩
  | .local _ .vmem, ⟨17, _⟩ => ⟨S1x256x1024, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x256x4096, .bf16⟩
  | .local _ .vmem, ⟨21, _⟩ => ⟨S1x256x4096, .bf16⟩
  | .local _ .vmem, ⟨22, _⟩ => ⟨S1x256x4096, .bf16⟩
  | .local _ .vmem, ⟨23, _⟩ => ⟨S1x256x4096, .bf16⟩
  | .local _ .vmem, ⟨24, _⟩ => ⟨S1x256x1024, .bf16⟩
  | .local _ .vmem, ⟨25, _⟩ => ⟨S1x256x1024, .bf16⟩
  | .local _ .vmem, ⟨26, _⟩ => ⟨S1x256x1024, .bf16⟩
  | .local _ .vmem, ⟨27, _⟩ => ⟨S1x256x1024, .bf16⟩
  | .local _ .vmem, ⟨28, _⟩ => ⟨S1x6x1024, .f32⟩
  | .local _ .vmem, ⟨29, _⟩ => ⟨S1x6x1024, .f32⟩
  | .local _ .vmem, ⟨30, _⟩ => ⟨S8x1024, .f32⟩
  | .local _ .vmem, ⟨31, _⟩ => ⟨S8x128, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev main_v6_5 : Ref sig .tc := ⟨.hbm, 21, rfl⟩
abbrev main_v6_6 : Ref sig .tc := ⟨.hbm, 22, rfl⟩
abbrev main_v6_7 : Ref sig .tc := ⟨.hbm, 23, rfl⟩
abbrev main_v6_8 : Ref sig .tc := ⟨.hbm, 24, rfl⟩
abbrev main_v6_9 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg19_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem19_0 : DmaSem sig := 31

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x6x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 1 → Memref sig .tc .vmem S8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S8x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]
-- ==== ReferenceIdeal.lean ====
abbrev S2x2048x1024 : Shape := ⟨3, ![2, 2048, 1024]⟩
abbrev S3x6x1024 : Shape := ⟨3, ![3, 6, 1024]⟩
abbrev S1x1024 : Shape := ⟨2, ![1, 1024]⟩
abbrev S1024x1024 : Shape := ⟨2, ![1024, 1024]⟩
abbrev S1024x4096 : Shape := ⟨2, ![1024, 4096]⟩
abbrev S4096x1024 : Shape := ⟨2, ![4096, 1024]⟩
abbrev S2x1x1024 : Shape := ⟨3, ![2, 1, 1024]⟩
abbrev S2x1024 : Shape := ⟨2, ![2, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x4096 : Shape := ⟨3, ![2, 2048, 4096]⟩
abbrev S2x6x1024 : Shape := ⟨3, ![2, 6, 1024]⟩
abbrev S3x1024 : Shape := ⟨2, ![3, 1024]⟩
abbrev S5x1024 : Shape := ⟨2, ![5, 1024]⟩
abbrev S8x1024 : Shape := ⟨2, ![8, 1024]⟩
abbrev S8x128 : Shape := ⟨2, ![8, 128]⟩

abbrev nBuf : Space → Nat
  | .hbm => 257
  | .vmem => 0
  | .smem => 0
  | _ => 0

abbrev hbmTy0_0 (i : Nat) : BufTy := match i % 128 with
  | 0 => ⟨S2x2048x1024, .f32⟩
  | 1 => ⟨S2x2048x1024, .f32⟩
  | 2 => ⟨S2x2048x1024, .f32⟩
  | 3 => ⟨S3x6x1024, .f32⟩
  | 4 => ⟨S1x1024, .f32⟩
  | 5 => ⟨S1x1024, .f32⟩
  | 6 => ⟨S1x1024, .f32⟩
  | 7 => ⟨S1024x1024, .f32⟩
  | 8 => ⟨S1024x4096, .f32⟩
  | 9 => ⟨S4096x1024, .f32⟩
  | 10 => ⟨S2x1x1024, .f32⟩
  | 11 => ⟨S2x1024, .f32⟩
  | 12 => ⟨S2x1x1024, .f32⟩
  | 13 => ⟨S2x1x1024, .f32⟩
  | 14 => ⟨S2x1024, .f32⟩
  | 15 => ⟨S2x1x1024, .f32⟩
  | 16 => ⟨S2x1x1024, .f32⟩
  | 17 => ⟨S2x1024, .f32⟩
  | 18 => ⟨S2x1x1024, .f32⟩
  | 19 => ⟨S2x1x1024, .f32⟩
  | 20 => ⟨S2x1024, .f32⟩
  | 21 => ⟨S2x1x1024, .f32⟩
  | 22 => ⟨S1024, .f32⟩
  | 23 => ⟨S1024, .f32⟩
  | 24 => ⟨S1024, .f32⟩
  | 25 => ⟨S2x2048x1024, .f32⟩
  | 26 => ⟨S2x2048x1024, .f32⟩
  | 27 => ⟨S_, .f32⟩
  | 28 => ⟨S2x2048, .f32⟩
  | 29 => ⟨S2x2048x1, .f32⟩
  | 30 => ⟨S_, .f32⟩
  | 31 => ⟨S2x2048x1, .f32⟩
  | 32 => ⟨S2x2048x1, .f32⟩
  | 33 => ⟨S_, .f32⟩
  | 34 => ⟨S2x2048x1, .f32⟩
  | 35 => ⟨S2x2048x1, .f32⟩
  | 36 => ⟨S2x2048x1, .f32⟩
  | 37 => ⟨S2x2048x1, .f32⟩
  | 38 => ⟨S_, .f32⟩
  | 39 => ⟨S2x2048x1, .f32⟩
  | 40 => ⟨S2x2048x1, .f32⟩
  | 41 => ⟨S2x2048x1024, .f32⟩
  | 42 => ⟨S2x2048x1024, .f32⟩
  | 43 => ⟨S1x1x1024, .f32⟩
  | 44 => ⟨S2x2048x1024, .f32⟩
  | 45 => ⟨S2x2048x1024, .f32⟩
  | 46 => ⟨S2x2048x1024, .f32⟩
  | 47 => ⟨S2x2048x1024, .f32⟩
  | 48 => ⟨S2x2048x1024, .f32⟩
  | 49 => ⟨S2x2048x1024, .f32⟩
  | 50 => ⟨S_, .f32⟩
  | 51 => ⟨S2x2048, .f32⟩
  | 52 => ⟨S2x2048x1, .f32⟩
  | 53 => ⟨S_, .f32⟩
  | 54 => ⟨S2x2048x1, .f32⟩
  | 55 => ⟨S2x2048x1, .f32⟩
  | 56 => ⟨S_, .f32⟩
  | 57 => ⟨S2x2048x1, .f32⟩
  | 58 => ⟨S2x2048x1, .f32⟩
  | 59 => ⟨S2x2048x1, .f32⟩
  | 60 => ⟨S2x2048x1, .f32⟩
  | 61 => ⟨S_, .f32⟩
  | 62 => ⟨S2x2048x1, .f32⟩
  | 63 => ⟨S2x2048x1, .f32⟩
  | 64 => ⟨S2x2048x1024, .f32⟩
  | 65 => ⟨S2x2048x1024, .f32⟩
  | 66 => ⟨S1x1x1024, .f32⟩
  | 67 => ⟨S2x2048x1024, .f32⟩
  | 68 => ⟨S2x2048x1024, .f32⟩
  | 69 => ⟨S_, .f32⟩
  | 70 => ⟨S2x1x1024, .f32⟩
  | 71 => ⟨S2x1x1024, .f32⟩
  | 72 => ⟨S2x2048x1024, .f32⟩
  | 73 => ⟨S2x2048x1024, .f32⟩
  | 74 => ⟨S2x2048x1024, .f32⟩
  | 75 => ⟨S2x2048x1024, .f32⟩
  | 76 => ⟨S2x2048x4096, .f32⟩
  | 77 => ⟨S_, .f32⟩
  | 78 => ⟨S2x2048x4096, .f32⟩
  | 79 => ⟨S2x2048x4096, .f32⟩
  | 80 => ⟨S_, .f32⟩
  | 81 => ⟨S2x2048x4096, .f32⟩
  | 82 => ⟨S2x2048x4096, .i1⟩
  | 83 => ⟨S_, .f32⟩
  | 84 => ⟨S2x2048x4096, .f32⟩
  | 85 => ⟨S2x2048x4096, .f32⟩
  | 86 => ⟨S_, .f32⟩
  | 87 => ⟨S2x2048x4096, .f32⟩
  | 88 => ⟨S2x2048x4096, .f32⟩
  | 89 => ⟨S2x2048x1024, .f32⟩
  | 90 => ⟨S2x2048x1024, .f32⟩
  | 91 => ⟨S_, .f32⟩
  | 92 => ⟨S2x2048, .f32⟩
  | 93 => ⟨S2x2048x1, .f32⟩
  | 94 => ⟨S_, .f32⟩
  | 95 => ⟨S2x2048x1, .f32⟩
  | 96 => ⟨S2x2048x1, .f32⟩
  | 97 => ⟨S_, .f32⟩
  | 98 => ⟨S2x2048x1, .f32⟩
  | 99 => ⟨S2x2048x1, .f32⟩
  | 100 => ⟨S2x2048x1, .f32⟩
  | 101 => ⟨S2x2048x1, .f32⟩
  | 102 => ⟨S_, .f32⟩
  | 103 => ⟨S2x2048x1, .f32⟩
  | 104 => ⟨S2x2048x1, .f32⟩
  | 105 => ⟨S2x2048x1024, .f32⟩
  | 106 => ⟨S2x2048x1024, .f32⟩
  | 107 => ⟨S1x1x1024, .f32⟩
  | 108 => ⟨S2x2048x1024, .f32⟩
  | 109 => ⟨S2x2048x1024, .f32⟩
  | 110 => ⟨S2x2048x1024, .f32⟩
  | 111 => ⟨S2x2048x1024, .f32⟩
  | 112 => ⟨S2x2048x1024, .f32⟩
  | 113 => ⟨S2x2048x1024, .f32⟩
  | 114 => ⟨S2x2048x1024, .f32⟩
  | 115 => ⟨S_, .f32⟩
  | 116 => ⟨S2x2048x1024, .f32⟩
  | 117 => ⟨S2x2048x1024, .f32⟩
  | 118 => ⟨S_, .f32⟩
  | 119 => ⟨S2x2048, .f32⟩
  | 120 => ⟨S_, .f32⟩
  | 121 => ⟨S2x2048, .f32⟩
  | 122 => ⟨S2x2048, .f32⟩
  | 123 => ⟨S_, .f32⟩
  | 124 => ⟨S_, .f32⟩
  | 125 => ⟨S_, .f32⟩
  | 126 => ⟨S_, .f32⟩
  | 127 => ⟨S_, .f32⟩
  | _ => ⟨S2x2048x1024, .f32⟩

abbrev hbmTy0_1 (i : Nat) : BufTy := match i % 128 with
  | 0 => ⟨S_, .f32⟩
  | 1 => ⟨S_, .f32⟩
  | 2 => ⟨S2x2048, .f32⟩
  | 3 => ⟨S_, .f32⟩
  | 4 => ⟨S2x2048, .f32⟩
  | 5 => ⟨S2x2048, .f32⟩
  | 6 => ⟨S2x2048x1024, .f32⟩
  | 7 => ⟨S2x2048x1024, .f32⟩
  | 8 => ⟨S2x2048x1024, .f32⟩
  | 9 => ⟨S2x2048x1024, .f32⟩
  | 10 => ⟨S2x2048x1024, .f32⟩
  | 11 => ⟨S_, .f32⟩
  | 12 => ⟨S2x1024, .f32⟩
  | 13 => ⟨S2x1x1024, .f32⟩
  | 14 => ⟨S2x2048x1024, .f32⟩
  | 15 => ⟨S_, .f32⟩
  | 16 => ⟨S1024, .f32⟩
  | 17 => ⟨S1x1x1024, .f32⟩
  | 18 => ⟨S2x2048x1024, .f32⟩
  | 19 => ⟨S2x2048x1024, .f32⟩
  | 20 => ⟨S_, .f32⟩
  | 21 => ⟨S1024, .f32⟩
  | 22 => ⟨S2x2048x1024, .f32⟩
  | 23 => ⟨S_, .f32⟩
  | 24 => ⟨S2x2048, .f32⟩
  | 25 => ⟨S2x2048x1, .f32⟩
  | 26 => ⟨S2x2048x1024, .f32⟩
  | 27 => ⟨S2x2048x1024, .f32⟩
  | 28 => ⟨S2x2048x1, .f32⟩
  | 29 => ⟨S_, .f32⟩
  | 30 => ⟨S2x2048x1, .f32⟩
  | 31 => ⟨S2x2048x1, .f32⟩
  | 32 => ⟨S_, .f32⟩
  | 33 => ⟨S2x2048, .f32⟩
  | 34 => ⟨S2x2048x1024, .f32⟩
  | 35 => ⟨S2x2048x1024, .f32⟩
  | 36 => ⟨S2x2048x1024, .f32⟩
  | 37 => ⟨S2x2048x1024, .f32⟩
  | 38 => ⟨S2x2048x1024, .f32⟩
  | 39 => ⟨S2x2048x4096, .f32⟩
  | 40 => ⟨S2x2048x4096, .f32⟩
  | 41 => ⟨S_, .f32⟩
  | 42 => ⟨S2x2048x4096, .f32⟩
  | 43 => ⟨S2x2048x4096, .f32⟩
  | 44 => ⟨S2x2048x1024, .f32⟩
  | 45 => ⟨S_, .f32⟩
  | 46 => ⟨S2x1024, .f32⟩
  | 47 => ⟨S2x1x1024, .f32⟩
  | 48 => ⟨S2x2048x1024, .f32⟩
  | 49 => ⟨S_, .f32⟩
  | 50 => ⟨S2x1024, .f32⟩
  | 51 => ⟨S2x1x1024, .f32⟩
  | 52 => ⟨S2x2048x1024, .f32⟩
  | 53 => ⟨S2x2048x1024, .f32⟩
  | 54 => ⟨S2x2048x1024, .f32⟩
  | 55 => ⟨S_, .f32⟩
  | 56 => ⟨S1024, .f32⟩
  | 57 => ⟨S1x1x1024, .f32⟩
  | 58 => ⟨S2x2048x1024, .f32⟩
  | 59 => ⟨S2x2048x1024, .f32⟩
  | 60 => ⟨S_, .f32⟩
  | 61 => ⟨S1024, .f32⟩
  | 62 => ⟨S2x2048x1024, .f32⟩
  | 63 => ⟨S_, .f32⟩
  | 64 => ⟨S2x2048, .f32⟩
  | 65 => ⟨S2x2048x1, .f32⟩
  | 66 => ⟨S2x2048x1024, .f32⟩
  | 67 => ⟨S2x2048x1024, .f32⟩
  | 68 => ⟨S2x2048x1, .f32⟩
  | 69 => ⟨S_, .f32⟩
  | 70 => ⟨S2x2048x1, .f32⟩
  | 71 => ⟨S2x2048x1, .f32⟩
  | 72 => ⟨S_, .f32⟩
  | 73 => ⟨S2x2048, .f32⟩
  | 74 => ⟨S2x2048x1024, .f32⟩
  | 75 => ⟨S2x2048x1024, .f32⟩
  | 76 => ⟨S2x2048x1024, .f32⟩
  | 77 => ⟨S2x2048x1024, .f32⟩
  | 78 => ⟨S2x2048x1024, .f32⟩
  | 79 => ⟨S2x2048x1024, .f32⟩
  | 80 => ⟨S2x2048x1024, .f32⟩
  | 81 => ⟨S2x2048x1024, .f32⟩
  | 82 => ⟨S2x2048x1024, .f32⟩
  | 83 => ⟨S_, .f32⟩
  | 84 => ⟨S2x1024, .f32⟩
  | 85 => ⟨S2x1x1024, .f32⟩
  | 86 => ⟨S2x2048x1024, .f32⟩
  | 87 => ⟨S_, .f32⟩
  | 88 => ⟨S1024, .f32⟩
  | 89 => ⟨S1x1x1024, .f32⟩
  | 90 => ⟨S2x2048x1024, .f32⟩
  | 91 => ⟨S2x2048x1024, .f32⟩
  | 92 => ⟨S_, .f32⟩
  | 93 => ⟨S1024, .f32⟩
  | 94 => ⟨S2x2048x1024, .f32⟩
  | 95 => ⟨S_, .f32⟩
  | 96 => ⟨S2x2048, .f32⟩
  | 97 => ⟨S2x2048x1, .f32⟩
  | 98 => ⟨S2x2048x1024, .f32⟩
  | 99 => ⟨S2x2048x1024, .f32⟩
  | 100 => ⟨S2x2048x1, .f32⟩
  | 101 => ⟨S_, .f32⟩
  | 102 => ⟨S2x2048x1, .f32⟩
  | 103 => ⟨S2x2048x1, .f32⟩
  | 104 => ⟨S_, .f32⟩
  | 105 => ⟨S2x2048, .f32⟩
  | 106 => ⟨S2x2048x1024, .f32⟩
  | 107 => ⟨S2x2048x1024, .f32⟩
  | 108 => ⟨S2x2048x1024, .f32⟩
  | 109 => ⟨S2x2048x1024, .f32⟩
  | 110 => ⟨S2x2048x1024, .f32⟩
  | 111 => ⟨S2x2048x1024, .f32⟩
  | 112 => ⟨S_, .f32⟩
  | 113 => ⟨S2x1x1024, .f32⟩
  | 114 => ⟨S2x6x1024, .f32⟩
  | 115 => ⟨S1x1024, .f32⟩
  | 116 => ⟨S1x1024, .f32⟩
  | 117 => ⟨S1x1024, .f32⟩
  | 118 => ⟨S3x1024, .f32⟩
  | 119 => ⟨S_, .f32⟩
  | 120 => ⟨S5x1024, .f32⟩
  | 121 => ⟨S8x1024, .f32⟩
  | 122 => ⟨S2x2048x1024, .bf16⟩
  | 123 => ⟨S2x2048x1024, .bf16⟩
  | 124 => ⟨S2x2048x4096, .bf16⟩
  | 125 => ⟨S2x2048x4096, .bf16⟩
  | 126 => ⟨S2x2048x1024, .bf16⟩
  | 127 => ⟨S2x2048x1024, .bf16⟩
  | _ => ⟨S2x2048x1024, .f32⟩

abbrev hbmTy0_2 (i : Nat) : BufTy := match i % 128 with
  | 0 => ⟨S8x128, .f32⟩
  | _ => ⟨S2x2048x1024, .f32⟩

abbrev hbmTy (i : Nat) : BufTy := match i / 128 with
  | 0 => hbmTy0_0 i
  | 1 => hbmTy0_1 i
  | 2 => hbmTy0_2 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_call0_cst : Ref sig .tc := ⟨.hbm, 77, rfl⟩
abbrev main_call0_v0 : Ref sig .tc := ⟨.hbm, 78, rfl⟩
abbrev main_v58 : Ref sig .tc := ⟨.hbm, 79, rfl⟩
abbrev main_cst_8 : Ref sig .tc := ⟨.hbm, 80, rfl⟩
abbrev main_v59 : Ref sig .tc := ⟨.hbm, 81, rfl⟩
abbrev main_v60 : Ref sig .tc := ⟨.hbm, 82, rfl⟩
abbrev main_cst_9 : Ref sig .tc := ⟨.hbm, 83, rfl⟩
abbrev main_v61 : Ref sig .tc := ⟨.hbm, 84, rfl⟩
abbrev main_v62 : Ref sig .tc := ⟨.hbm, 85, rfl⟩
abbrev main_cst_10 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_11 : Ref sig .tc := ⟨.hbm, 91, rfl⟩
abbrev main_v67 : Ref sig .tc := ⟨.hbm, 92, rfl⟩
abbrev main_v68 : Ref sig .tc := ⟨.hbm, 93, rfl⟩
abbrev main_cst_12 : Ref sig .tc := ⟨.hbm, 94, rfl⟩
abbrev main_v69 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_15 : Ref sig .tc := ⟨.hbm, 115, rfl⟩
abbrev main_v87 : Ref sig .tc := ⟨.hbm, 116, rfl⟩
abbrev main_v88 : Ref sig .tc := ⟨.hbm, 117, rfl⟩
abbrev main_cst_16 : Ref sig .tc := ⟨.hbm, 118, rfl⟩
abbrev main_v89 : Ref sig .tc := ⟨.hbm, 119, rfl⟩
abbrev main_cst_17 : Ref sig .tc := ⟨.hbm, 120, rfl⟩
abbrev main_v90 : Ref sig .tc := ⟨.hbm, 121, rfl⟩
abbrev main_v91 : Ref sig .tc := ⟨.hbm, 122, rfl⟩
abbrev main_cst_18 : Ref sig .tc := ⟨.hbm, 123, rfl⟩
abbrev main_v92 : Ref sig .tc := ⟨.hbm, 124, rfl⟩
abbrev main_cst_19 : Ref sig .tc := ⟨.hbm, 125, rfl⟩
abbrev main_v93 : Ref sig .tc := ⟨.hbm, 126, rfl⟩
abbrev main_cst_20 : Ref sig .tc := ⟨.hbm, 127, rfl⟩
abbrev main_cst_21 : Ref sig .tc := ⟨.hbm, 128, rfl⟩
abbrev main_v94 : Ref sig .tc := ⟨.hbm, 129, rfl⟩
abbrev main_v95 : Ref sig .tc := ⟨.hbm, 130, rfl⟩
abbrev main_cst_22 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_23 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_24 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_25 : Ref sig .tc := ⟨.hbm, 148, rfl⟩
abbrev main_v110 : Ref sig .tc := ⟨.hbm, 149, rfl⟩
abbrev main_v111 : Ref sig .tc := ⟨.hbm, 150, rfl⟩
abbrev main_cst_26 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_cst_27 : Ref sig .tc := ⟨.hbm, 157, rfl⟩
abbrev main_v117 : Ref sig .tc := ⟨.hbm, 158, rfl⟩
abbrev main_v118 : Ref sig .tc := ⟨.hbm, 159, rfl⟩
abbrev main_cst_28 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_cst_29 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_cst_30 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_cst_31 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_cst_32 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_cst_33 : Ref sig .tc := ⟨.hbm, 188, rfl⟩
abbrev main_v142 : Ref sig .tc := ⟨.hbm, 189, rfl⟩
abbrev main_v143 : Ref sig .tc := ⟨.hbm, 190, rfl⟩
abbrev main_cst_34 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_cst_35 : Ref sig .tc := ⟨.hbm, 197, rfl⟩
abbrev main_v149 : Ref sig .tc := ⟨.hbm, 198, rfl⟩
abbrev main_v150 : Ref sig .tc := ⟨.hbm, 199, rfl⟩
abbrev main_cst_36 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_cst_37 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_cst_38 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_cst_39 : Ref sig .tc := ⟨.hbm, 220, rfl⟩
abbrev main_v168 : Ref sig .tc := ⟨.hbm, 221, rfl⟩
abbrev main_v169 : Ref sig .tc := ⟨.hbm, 222, rfl⟩
abbrev main_cst_40 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_cst_41 : Ref sig .tc := ⟨.hbm, 229, rfl⟩
abbrev main_v175 : Ref sig .tc := ⟨.hbm, 230, rfl⟩
abbrev main_v176 : Ref sig .tc := ⟨.hbm, 231, rfl⟩
abbrev main_cst_42 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_cst_43 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_cst_44 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩

abbrev nD : Nat := 1
abbrev τ : Topo := Topo.v7x

variable {F : FTy → Type} [FloatOps F]
-- ==== Kernel2.lean ====
abbrev S2x2048x1024 : Shape := ⟨3, ![2, 2048, 1024]⟩
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .bf16⟩
  | .hbm, ⟨3, _⟩ => ⟨S2x2048x1024, .bf16⟩
  | .hbm, ⟨4, _⟩ => ⟨S4096x1024, .bf16⟩
  | .hbm, ⟨5, _⟩ => ⟨S4096x1024, .bf16⟩
  | .hbm, ⟨6, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference2Ideal.lean ====
abbrev S2x2048x1024 : Shape := ⟨3, ![2, 2048, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S_, .f32⟩
  | .hbm, ⟨3, _⟩ => ⟨S1024x1024, .f32⟩
  | .hbm, ⟨4, _⟩ => ⟨S2x2048x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S2x2048x1024 : Shape := ⟨3, ![2, 2048, 1024]⟩
abbrev S2x2048x4096 : Shape := ⟨3, ![2, 2048, 4096]⟩
abbrev S4096x1024 : Shape := ⟨2, ![4096, 1024]⟩
abbrev S4096x4096 : Shape := ⟨2, ![4096, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S2x2048x4096, .f32⟩
  | .hbm, ⟨2, _⟩ => ⟨S2x2048x1024, .bf16⟩
  | .hbm, ⟨3, _⟩ => ⟨S2x2048x4096, .bf16⟩
  | .hbm, ⟨4, _⟩ => ⟨S4096x1024, .bf16⟩
  | .hbm, ⟨5, _⟩ => ⟨S4096x4096, .bf16⟩
  | .hbm, ⟨6, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![v2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2x2048x1024 : Shape := ⟨3, ![2, 2048, 1024]⟩
abbrev S2x2048x4096 : Shape := ⟨3, ![2, 2048, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x4096, .f32⟩
  | .hbm, ⟨2, _⟩ => ⟨S_, .f32⟩
  | .hbm, ⟨3, _⟩ => ⟨S1024x4096, .f32⟩
  | .hbm, ⟨4, _⟩ => ⟨S2x2048x4096, .f32⟩
  | .hbm, ⟨5, _⟩ => ⟨S4096x1024, .f32⟩
  | .hbm, ⟨6, _⟩ => ⟨S1024x4096, .f32⟩
  | .hbm, ⟨7, _⟩ => ⟨S1024x4x1024, .f32⟩
  | .hbm, ⟨8, _⟩ => ⟨S4x1024x1024, .f32⟩
  | .hbm, ⟨9, _⟩ => ⟨S4x1024x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S2x2048x4096 : Shape := ⟨3, ![2, 2048, 4096]⟩
abbrev S2x2048x1024 : Shape := ⟨3, ![2, 2048, 1024]⟩
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x2048x4096, .f32⟩
  | .hbm, ⟨1, _⟩ => ⟨S2x2048x1024, .f32⟩
  | .hbm, ⟨2, _⟩ => ⟨S2x2048x4096, .bf16⟩
  | .hbm, ⟨3, _⟩ => ⟨S2x2048x1024, .bf16⟩
  | .hbm, ⟨4, _⟩ => ⟨S4096x4096, .bf16⟩
  | .hbm, ⟨5, _⟩ => ⟨S4096x1024, .bf16⟩
  | .hbm, ⟨6, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2x2048x4096 : Shape := ⟨3, ![2, 2048, 4096]⟩
abbrev S2x2048x1024 : Shape := ⟨3, ![2, 2048, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S2x2048x1024, .f32⟩
  | .hbm, ⟨2, _⟩ => ⟨S_, .f32⟩
  | .hbm, ⟨3, _⟩ => ⟨S4096x1024, .f32⟩
  | .hbm, ⟨4, _⟩ => ⟨S2x2048x1024, .f32⟩
  | .hbm, ⟨5, _⟩ => ⟨S1024x4096, .f32⟩
  | .hbm, ⟨6, _⟩ => ⟨S4096x1024, .f32⟩
  | .hbm, ⟨7, _⟩ => ⟨S4096x1024, .bf16⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S2x2048x1024 : Shape := ⟨3, ![2, 2048, 1024]⟩
abbrev S2x2048x3584 : Shape := ⟨3, ![2, 2048, 3584]⟩
abbrev S2x256x1024 : Shape := ⟨3, ![2, 256, 1024]⟩
abbrev S2x256x3584 : Shape := ⟨3, ![2, 256, 3584]⟩
abbrev S4096x3584 : Shape := ⟨2, ![4096, 3584]⟩
abbrev S4096x1024 : Shape := ⟨2, ![4096, 1024]⟩
abbrev S32768x2x2x32 : Shape := ⟨4, ![32768, 2, 2, 32]⟩
abbrev S4096x2048 : Shape := ⟨2, ![4096, 2048]⟩
abbrev S4096x4x4x128 : Shape := ⟨4, ![4096, 4, 4, 128]⟩
abbrev S4096x1536 : Shape := ⟨2, ![4096, 1536]⟩
abbrev S4096x3x4x128 : Shape := ⟨4, ![4096, 3, 4, 128]⟩
abbrev S4096x4x3x128 : Shape := ⟨4, ![4096, 4, 3, 128]⟩
abbrev S512x3584 : Shape := ⟨2, ![512, 3584]⟩
abbrev S512x1024 : Shape := ⟨2, ![512, 1024]⟩
abbrev S4096x2x2x32 : Shape := ⟨4, ![4096, 2, 2, 32]⟩
abbrev S512x2048 : Shape := ⟨2, ![512, 2048]⟩
abbrev S512x4x4x128 : Shape := ⟨4, ![512, 4, 4, 128]⟩
abbrev S512x1536 : Shape := ⟨2, ![512, 1536]⟩
abbrev S512x3x4x128 : Shape := ⟨4, ![512, 3, 4, 128]⟩
abbrev S512x4x3x128 : Shape := ⟨4, ![512, 4, 3, 128]⟩
abbrev S4x1024x896 : Shape := ⟨3, ![4, 1024, 896]⟩
abbrev S1024x3584 : Shape := ⟨2, ![1024, 3584]⟩
abbrev S1024x128 : Shape := ⟨2, ![1024, 128]⟩
abbrev S1x1024x128 : Shape := ⟨3, ![1, 1024, 128]⟩

abbrev nBuf : Space → Nat
  | .hbm => 41
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S2x2048x3584, .f32⟩
  | .hbm, ⟨2, _⟩ => ⟨S2x256x1024, .f32⟩
  | .hbm, ⟨3, _⟩ => ⟨S2x256x3584, .f32⟩
  | .hbm, ⟨4, _⟩ => ⟨S2x2048x1024, .bf16⟩
  | .hbm, ⟨5, _⟩ => ⟨S2x256x1024, .bf16⟩
  | .hbm, ⟨6, _⟩ => ⟨S4096x3584, .f32⟩
  | .hbm, ⟨7, _⟩ => ⟨S4096x1024, .f32⟩
  | .hbm, ⟨8, _⟩ => ⟨S32768x2x2x32, .f32⟩
  | .hbm, ⟨9, _⟩ => ⟨S32768x2x2x32, .f32⟩
  | .hbm, ⟨10, _⟩ => ⟨S4096x1024, .f32⟩
  | .hbm, ⟨11, _⟩ => ⟨S4096x1024, .f32⟩
  | .hbm, ⟨12, _⟩ => ⟨S4096x2048, .f32⟩
  | .hbm, ⟨13, _⟩ => ⟨S4096x4x4x128, .f32⟩
  | .hbm, ⟨14, _⟩ => ⟨S4096x4x4x128, .f32⟩
  | .hbm, ⟨15, _⟩ => ⟨S4096x1536, .f32⟩
  | .hbm, ⟨16, _⟩ => ⟨S4096x3x4x128, .f32⟩
  | .hbm, ⟨17, _⟩ => ⟨S4096x4x3x128, .f32⟩
  | .hbm, ⟨18, _⟩ => ⟨S4096x2048, .f32⟩
  | .hbm, ⟨19, _⟩ => ⟨S4096x1536, .f32⟩
  | .hbm, ⟨20, _⟩ => ⟨S4096x3584, .f32⟩
  | .hbm, ⟨21, _⟩ => ⟨S4096x3584, .bf16⟩
  | .hbm, ⟨22, _⟩ => ⟨S512x3584, .f32⟩
  | .hbm, ⟨23, _⟩ => ⟨S512x1024, .f32⟩
  | .hbm, ⟨24, _⟩ => ⟨S4096x2x2x32, .f32⟩
  | .hbm, ⟨25, _⟩ => ⟨S4096x2x2x32, .f32⟩
  | .hbm, ⟨26, _⟩ => ⟨S512x1024, .f32⟩
  | .hbm, ⟨27, _⟩ => ⟨S512x1024, .f32⟩
  | .hbm, ⟨28, _⟩ => ⟨S512x2048, .f32⟩
  | .hbm, ⟨29, _⟩ => ⟨S512x4x4x128, .f32⟩
  | .hbm, ⟨30, _⟩ => ⟨S512x4x4x128, .f32⟩
  | .hbm, ⟨31, _⟩ => ⟨S512x1536, .f32⟩
  | .hbm, ⟨32, _⟩ => ⟨S512x3x4x128, .f32⟩
  | .hbm, ⟨33, _⟩ => ⟨S512x4x3x128, .f32⟩
  | .hbm, ⟨34, _⟩ => ⟨S512x2048, .f32⟩
  | .hbm, ⟨35, _⟩ => ⟨S512x1536, .f32⟩
  | .hbm, ⟨36, _⟩ => ⟨S512x3584, .f32⟩
  | .hbm, ⟨37, _⟩ => ⟨S512x3584, .bf16⟩
  | .hbm, ⟨38, _⟩ => ⟨S4096x1024, .bf16⟩
  | .hbm, ⟨39, _⟩ => ⟨S512x1024, .bf16⟩
  | .hbm, ⟨40, _⟩ => ⟨S4x1024x896, .bf16⟩
  | .local _ .vmem, ⟨0, _⟩ => ⟨S512x1024, .bf16⟩
  | .local _ .vmem, ⟨1, _⟩ => ⟨S512x1024, .bf16⟩
  | .local _ .vmem, ⟨2, _⟩ => ⟨S512x3584, .bf16⟩
  | .local _ .vmem, ⟨3, _⟩ => ⟨S512x3584, .bf16⟩
  | .local _ .vmem, ⟨4, _⟩ => ⟨S512x1024, .bf16⟩
  | .local _ .vmem, ⟨5, _⟩ => ⟨S512x1024, .bf16⟩
  | .local _ .vmem, ⟨6, _⟩ => ⟨S512x3584, .bf16⟩
  | .local _ .vmem, ⟨7, _⟩ => ⟨S512x3584, .bf16⟩
  | .local _ .vmem, ⟨8, _⟩ => ⟨S4x1024x896, .bf16⟩
  | .local _ .vmem, ⟨9, _⟩ => ⟨S1024x3584, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨3, ![1, 1, 9], ![false, false, false]⟩

def k0_cond4 (i : grid0.Coords) : BitVec 1 :=
  let arg2 : BitVec 32 := BitVec.ofNat 32 (i 2).val
  let c8_i32_5 : BitVec 32 := 8#32
  let v13 : BitVec 1 := Scalar.cmpi .eq arg2 c8_i32_5
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi arg2 c8_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi arg2 c8_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![v2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 1 → Memref sig .tc .vmem S4x1024x896 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]
-- ==== Reference5Ideal.lean ====
abbrev S2x2048x1024 : Shape := ⟨3, ![2, 2048, 1024]⟩
abbrev S2x2048x3584 : Shape := ⟨3, ![2, 2048, 3584]⟩
abbrev S2x256x1024 : Shape := ⟨3, ![2, 256, 1024]⟩
abbrev S2x256x3584 : Shape := ⟨3, ![2, 256, 3584]⟩
abbrev S_ : Shape := ⟨0, ![]⟩
abbrev S1024x3584 : Shape := ⟨2, ![1024, 3584]⟩
abbrev S3584x1024 : Shape := ⟨2, ![3584, 1024]⟩
abbrev S1024x4x896 : Shape := ⟨3, ![1024, 4, 896]⟩
abbrev S4x1024x896 : Shape := ⟨3, ![4, 1024, 896]⟩

abbrev nBuf : Space → Nat
  | .hbm => 16
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x3584, .f32⟩
  | .hbm, ⟨2, _⟩ => ⟨S2x256x1024, .f32⟩
  | .hbm, ⟨3, _⟩ => ⟨S2x256x3584, .f32⟩
  | .hbm, ⟨4, _⟩ => ⟨S_, .f32⟩
  | .hbm, ⟨5, _⟩ => ⟨S1024x3584, .f32⟩
  | .hbm, ⟨6, _⟩ => ⟨S2x2048x3584, .f32⟩
  | .hbm, ⟨7, _⟩ => ⟨S2x256x3584, .f32⟩
  | .hbm, ⟨8, _⟩ => ⟨S3584x1024, .f32⟩
  | .hbm, ⟨9, _⟩ => ⟨S1024x3584, .f32⟩
  | .hbm, ⟨10, _⟩ => ⟨S3584x1024, .f32⟩
  | .hbm, ⟨11, _⟩ => ⟨S1024x3584, .f32⟩
  | .hbm, ⟨12, _⟩ => ⟨S1024x3584, .f32⟩
  | .hbm, ⟨13, _⟩ => ⟨S1024x4x896, .f32⟩
  | .hbm, ⟨14, _⟩ => ⟨S4x1024x896, .f32⟩
  | .hbm, ⟨15, _⟩ => ⟨S4x1024x896, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel6.lean ====
abbrev S2x2048x1024 : Shape := ⟨3, ![2, 2048, 1024]⟩
abbrev S3x6x1024 : Shape := ⟨3, ![3, 6, 1024]⟩
abbrev S1x1024 : Shape := ⟨2, ![1, 1024]⟩
abbrev S1024x3584 : Shape := ⟨2, ![1024, 3584]⟩
abbrev S1024x2048 : Shape := ⟨2, ![1024, 2048]⟩
abbrev S1024x4x4x128 : Shape := ⟨4, ![1024, 4, 4, 128]⟩
abbrev S1024x1024 : Shape := ⟨2, ![1024, 1024]⟩
abbrev S8192x2x2x32 : Shape := ⟨4, ![8192, 2, 2, 32]⟩
abbrev S1024x1536 : Shape := ⟨2, ![1024, 1536]⟩
abbrev S1024x4x3x128 : Shape := ⟨4, ![1024, 4, 3, 128]⟩
abbrev S1024x3x4x128 : Shape := ⟨4, ![1024, 3, 4, 128]⟩
abbrev S1024x4x896 : Shape := ⟨3, ![1024, 4, 896]⟩
abbrev S4x1024x896 : Shape := ⟨3, ![4, 1024, 896]⟩
abbrev S2x2048x2048 : Shape := ⟨3, ![2, 2048, 2048]⟩
abbrev S2x2048x1536 : Shape := ⟨3, ![2, 2048, 1536]⟩
abbrev S1x512x1024 : Shape := ⟨3, ![1, 512, 1024]⟩
abbrev S1x6x1024 : Shape := ⟨3, ![1, 6, 1024]⟩
abbrev S1x512x2048 : Shape := ⟨3, ![1, 512, 2048]⟩
abbrev S1x512x1536 : Shape := ⟨3, ![1, 512, 1536]⟩
abbrev S1x1024x128 : Shape := ⟨3, ![1, 1024, 128]⟩
abbrev S1024x128 : Shape := ⟨2, ![1024, 128]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x2048 : Shape := ⟨2, ![512, 2048]⟩
abbrev S512x1536 : Shape := ⟨2, ![512, 1536]⟩

abbrev nBuf : Space → Nat
  | .hbm => 26
  | .vmem => 13
  | .smem => 0
  | _ => 0

abbrev bufTy : (tb : Table) → Fin (tcTables nBuf tb) → BufTy
  | .hbm, ⟨0, _⟩ => ⟨S2x2048x1024, .f32⟩
  | .hbm, ⟨1, _⟩ => ⟨S3x6x1024, .f32⟩
  | .hbm, ⟨2, _⟩ => ⟨S1x1024, .f32⟩
  | .hbm, ⟨3, _⟩ => ⟨S1024x3584, .f32⟩
  | .hbm, ⟨4, _⟩ => ⟨S1024x2048, .f32⟩
  | .hbm, ⟨5, _⟩ => ⟨S1024x4x4x128, .f32⟩
  | .hbm, ⟨6, _⟩ => ⟨S1024x4x4x128, .f32⟩
  | .hbm, ⟨7, _⟩ => ⟨S1024x2048, .f32⟩
  | .hbm, ⟨8, _⟩ => ⟨S1024x1024, .f32⟩
  | .hbm, ⟨9, _⟩ => ⟨S8192x2x2x32, .f32⟩
  | .hbm, ⟨10, _⟩ => ⟨S8192x2x2x32, .f32⟩
  | .hbm, ⟨11, _⟩ => ⟨S1024x1024, .f32⟩
  | .hbm, ⟨12, _⟩ => ⟨S1024x1024, .f32⟩
  | .hbm, ⟨13, _⟩ => ⟨S1024x2048, .f32⟩
  | .hbm, ⟨14, _⟩ => ⟨S1024x1536, .f32⟩
  | .hbm, ⟨15, _⟩ => ⟨S1024x4x3x128, .f32⟩
  | .hbm, ⟨16, _⟩ => ⟨S1024x3x4x128, .f32⟩
  | .hbm, ⟨17, _⟩ => ⟨S1024x1536, .f32⟩
  | .hbm, ⟨18, _⟩ => ⟨S1024x3584, .f32⟩
  | .hbm, ⟨19, _⟩ => ⟨S1024x3584, .bf16⟩
  | .hbm, ⟨20, _⟩ => ⟨S1024x4x896, .bf16⟩
  | .hbm, ⟨21, _⟩ => ⟨S4x1024x896, .bf16⟩
  | .hbm, ⟨22, _⟩ => ⟨S2x2048x1024, .bf16⟩
  | .hbm, ⟨23, _⟩ => ⟨S2x2048x2048, .f32⟩
  | .hbm, ⟨24, _⟩ => ⟨S2x2048x1536, .bf16⟩
  | .hbm, ⟨25, _⟩ => ⟨S1024x3584, .bf16⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S4x1024x896, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x2048, .f32⟩
  | .local _ .vmem, ⟨9, _⟩ => ⟨S1x512x2048, .f32⟩
  | .local _ .vmem, ⟨10, _⟩ => ⟨S1x512x1536, .bf16⟩
  | .local _ .vmem, ⟨11, _⟩ => ⟨S1x512x1536, .bf16⟩
  | .local _ .vmem, ⟨12, _⟩ => ⟨S1024x3584, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18_0 : Ref sig .tc := ⟨.hbm, 22, rfl⟩
abbrev main_v18_1 : Ref sig .tc := ⟨.hbm, 23, rfl⟩
abbrev main_v18_2 : Ref sig .tc := ⟨.hbm, 24, rfl⟩
abbrev main_v18_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x1024x896 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1024x3584 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference6Ideal.lean ====
abbrev S2x2048x1024 : Shape := ⟨3, ![2, 2048, 1024]⟩
abbrev S3x6x1024 : Shape := ⟨3, ![3, 6, 1024]⟩
abbrev S1x1024 : Shape := ⟨2, ![1, 1024]⟩
abbrev S1024x3584 : Shape := ⟨2, ![1024, 3584]⟩
abbrev S2x1x1024 : Shape := ⟨3, ![2, 1, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x3584 : Shape := ⟨3, ![2, 2048, 3584]⟩
abbrev S2x2048x2048 : Shape := ⟨3, ![2, 2048, 2048]⟩
abbrev S2x2048x1536 : Shape := ⟨3, ![2, 2048, 1536]⟩

abbrev nBuf : Space → Nat
  | .hbm => 36
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3x6x1024, .f32⟩
  | .hbm, ⟨2, _⟩ => ⟨S1x1024, .f32⟩
  | .hbm, ⟨3, _⟩ => ⟨S1024x3584, .f32⟩
  | .hbm, ⟨4, _⟩ => ⟨S2x1x1024, .f32⟩
  | .hbm, ⟨5, _⟩ => ⟨S2x1x1024, .f32⟩
  | .hbm, ⟨6, _⟩ => ⟨S1024, .f32⟩
  | .hbm, ⟨7, _⟩ => ⟨S2x2048x1024, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048x1024, .f32⟩
  | .hbm, ⟨19, _⟩ => ⟨S2x2048x1024, .f32⟩
  | .hbm, ⟨20, _⟩ => ⟨S1x1x1024, .f32⟩
  | .hbm, ⟨21, _⟩ => ⟨S2x2048x1024, .f32⟩
  | .hbm, ⟨22, _⟩ => ⟨S2x2048x1024, .f32⟩
  | .hbm, ⟨23, _⟩ => ⟨S_, .f32⟩
  | .hbm, ⟨24, _⟩ => ⟨S2x1x1024, .f32⟩
  | .hbm, ⟨25, _⟩ => ⟨S2x1x1024, .f32⟩
  | .hbm, ⟨26, _⟩ => ⟨S2x2048x1024, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S2x2048x3584, .f32⟩
  | .hbm, ⟨31, _⟩ => ⟨S2x2048x1024, .bf16⟩
  | .hbm, ⟨32, _⟩ => ⟨S2x2048x2048, .f32⟩
  | .hbm, ⟨33, _⟩ => ⟨S2x2048x1536, .f32⟩
  | .hbm, ⟨34, _⟩ => ⟨S2x2048x1536, .bf16⟩
  | .hbm, ⟨35, _⟩ => ⟨S1024x3584, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel7.lean ====
abbrev S2x256x1024 : Shape := ⟨3, ![2, 256, 1024]⟩
abbrev S3x6x1024 : Shape := ⟨3, ![3, 6, 1024]⟩
abbrev S1x1024 : Shape := ⟨2, ![1, 1024]⟩
abbrev S1024x3584 : Shape := ⟨2, ![1024, 3584]⟩
abbrev S2x256x2048 : Shape := ⟨3, ![2, 256, 2048]⟩
abbrev S2x256x1536 : Shape := ⟨3, ![2, 256, 1536]⟩
abbrev S1x256x1024 : Shape := ⟨3, ![1, 256, 1024]⟩
abbrev S1x6x1024 : Shape := ⟨3, ![1, 6, 1024]⟩
abbrev S1x256x2048 : Shape := ⟨3, ![1, 256, 2048]⟩
abbrev S1x256x1536 : Shape := ⟨3, ![1, 256, 1536]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S1024x2048 : Shape := ⟨2, ![1024, 2048]⟩
abbrev S256x2048 : Shape := ⟨2, ![256, 2048]⟩
abbrev S1024x1536 : Shape := ⟨2, ![1024, 1536]⟩
abbrev S256x1536 : Shape := ⟨2, ![256, 1536]⟩

abbrev nBuf : Space → Nat
  | .hbm => 8
  | .vmem => 11
  | .smem => 0
  | _ => 0

abbrev bufTy : (tb : Table) → Fin (tcTables nBuf tb) → BufTy
  | .hbm, ⟨0, _⟩ => ⟨S2x256x1024, .f32⟩
  | .hbm, ⟨1, _⟩ => ⟨S3x6x1024, .f32⟩
  | .hbm, ⟨2, _⟩ => ⟨S1x1024, .f32⟩
  | .hbm, ⟨3, _⟩ => ⟨S1024x3584, .f32⟩
  | .hbm, ⟨4, _⟩ => ⟨S1024x3584, .bf16⟩
  | .hbm, ⟨5, _⟩ => ⟨S2x256x1024, .bf16⟩
  | .hbm, ⟨6, _⟩ => ⟨S2x256x2048, .f32⟩
  | .hbm, ⟨7, _⟩ => ⟨S2x256x1536, .bf16⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x1024, .f32⟩
  | .local _ .vmem, ⟨4, _⟩ => ⟨S1024x3584, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x2048, .f32⟩
  | .local _ .vmem, ⟨8, _⟩ => ⟨S1x256x2048, .f32⟩
  | .local _ .vmem, ⟨9, _⟩ => ⟨S1x256x1536, .bf16⟩
  | .local _ .vmem, ⟨10, _⟩ => ⟨S1x256x1536, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference7Ideal.lean ====
abbrev S2x256x1024 : Shape := ⟨3, ![2, 256, 1024]⟩
abbrev S3x6x1024 : Shape := ⟨3, ![3, 6, 1024]⟩
abbrev S1x1024 : Shape := ⟨2, ![1, 1024]⟩
abbrev S1024x3584 : Shape := ⟨2, ![1024, 3584]⟩
abbrev S1x1x1024 : Shape := ⟨3, ![1, 1, 1024]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S2x256x3584 : Shape := ⟨3, ![2, 256, 3584]⟩
abbrev S2x256x2048 : Shape := ⟨3, ![2, 256, 2048]⟩
abbrev S2x256x1536 : Shape := ⟨3, ![2, 256, 1536]⟩

abbrev nBuf : Space → Nat
  | .hbm => 35
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S3x6x1024, .f32⟩
  | .hbm, ⟨2, _⟩ => ⟨S1x1024, .f32⟩
  | .hbm, ⟨3, _⟩ => ⟨S1024x3584, .f32⟩
  | .hbm, ⟨4, _⟩ => ⟨S1x1x1024, .f32⟩
  | .hbm, ⟨5, _⟩ => ⟨S1x1x1024, .f32⟩
  | .hbm, ⟨6, _⟩ => ⟨S1024, .f32⟩
  | .hbm, ⟨7, _⟩ => ⟨S2x256x1024, .f32⟩
  | .hbm, ⟨8, _⟩ => ⟨S_, .f32⟩
  | .hbm, ⟨9, _⟩ => ⟨S2x256, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S_, .f32⟩
  | .hbm, ⟨15, _⟩ => ⟨S2x256x1, .f32⟩
  | .hbm, ⟨16, _⟩ => ⟨S2x256x1, .f32⟩
  | .hbm, ⟨17, _⟩ => ⟨S2x256x1, .f32⟩
  | .hbm, ⟨18, _⟩ => ⟨S2x256x1024, .f32⟩
  | .hbm, ⟨19, _⟩ => ⟨S2x256x1024, .f32⟩
  | .hbm, ⟨20, _⟩ => ⟨S1x1x1024, .f32⟩
  | .hbm, ⟨21, _⟩ => ⟨S2x256x1024, .f32⟩
  | .hbm, ⟨22, _⟩ => ⟨S2x256x1024, .f32⟩
  | .hbm, ⟨23, _⟩ => ⟨S_, .f32⟩
  | .hbm, ⟨24, _⟩ => ⟨S1x1x1024, .f32⟩
  | .hbm, ⟨25, _⟩ => ⟨S1x1x1024, .f32⟩
  | .hbm, ⟨26, _⟩ => ⟨S2x256x1024, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S2x256x3584, .f32⟩
  | .hbm, ⟨31, _⟩ => ⟨S2x256x1024, .bf16⟩
  | .hbm, ⟨32, _⟩ => ⟨S2x256x2048, .f32⟩
  | .hbm, ⟨33, _⟩ => ⟨S2x256x1536, .f32⟩
  | .hbm, ⟨34, _⟩ => ⟨S2x256x1536, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Proof.Coordinates.lean ====
/- An index of a block, written by its coordinates. -/
module

public import Idealize.ShloMosaic.Lib.Pipeline.ValueKit

@[expose] public section

namespace Cert.Coordinates

open Idealize.ShloMosaic

theorem split3 {n k : ℕ} (y : (⟨3, ![1, n, k]⟩ : Shape).Idx) : ∃ (r : Fin n) (d : Fin k), y = ix3 0 r d :=
  ⟨y 1, y 2, funext fun a => match a with
    | ⟨0, _⟩ => Fin.ext (Nat.lt_one_iff.mp (y 0).isLt)
    | ⟨1, _⟩ => rfl
    | ⟨2, _⟩ => rfl⟩

theorem split2 {n k : ℕ} (y : (⟨2, ![n, k]⟩ : Shape).Idx) : ∃ (r : Fin n) (d : Fin k), y = ix2 r d :=
  ⟨y 0, y 1, funext fun a => match a with
    | ⟨0, _⟩ => rfl
    | ⟨1, _⟩ => rfl⟩

end Cert.Coordinates
-- ==== Proof.WeightOut.lean ====
/- The gradient of the weight of the mixer's output projection: the kernel's blocks, each a sum over the two samples' tokens, and the
   reference's product over all tokens. -/
module

public import proofs.«01_k».proof.Proof.Gen.Kernel2Ideal.Frame
public import proofs.«01_k».proof.Proof.Gen.Reference2Ideal.Read
public import proofs.«01_k».proof.Proof.Coordinates
public import Idealize.ShloMosaic.Lib.TwoAxisContraction

@[expose] public section

set_option maxRecDepth 16384

noncomputable section

namespace Cert.WeightOut

open Idealize.ShloMosaic Cert.Kernel2Ideal Cert.Kernel2Ideal.Gen Idealize.ShloMosaic.TcCoe Idealize.SL.Sem Cert.Coordinates
open scoped BigOperators

variable (m : (ℓ : Loc nD τ sig) → Buf (Elt Ideal) ℓ) (c : Dev nD)

/-- The rows that multiply from the left, and the cotangents, on one device. -/
def left : FVec Ideal S2x2048x1024 .f32 := m ((c : Thread nD τ).loc main_arg0)
def right : FVec Ideal S2x2048x1024 .f32 := m ((c : Thread nD τ).loc main_arg1)

/-- One step adds the products of a sample's tokens. -/
theorem step_at (v : Vec Ideal S1024x1024 .f32) (x y : Vec Ideal S2048x1024 .bf16) (i j : Fin 1024) :
    k0_pay2 (F := Ideal) v x y (ix2 i j) = v (ix2 i j) + ∑ n : Fin 2048, x (ix2 n i) * y (ix2 n j) := by
  pointwise [k0_pay2]

theorem start_at (i j : Fin 1024) : k0_pay1 (F := Ideal) (ix2 i j) = 0 := by pointwise [k0_pay1]

theorem stored_at (v : Vec Ideal S1024x1024 .f32) (i j : Fin 1024) : k0_pay3 (F := Ideal) v (ix2 i j) = v (ix2 i j) := by
  pointwise [k0_pay3]

variable (t : Fin cfg0.N)

/-- After a block's first point the scratch holds the first sample's products. -/
theorem scratch_first (h0 : t.val % 2 = 0) :
    (outsAt0 m c t.val t.isLt).2 = k0_pay2 (F := Ideal) (k0_pay1 (F := Ideal)) (iblk m c 0 t) (iblk m c 1 t) := by
  rw [outsAt0_A m c t h0 (by omega)]; frame_out

/-- At its last point the block is the scratch with the second sample's products added. -/
theorem out_last (h0 : ¬t.val % 2 = 0) :
    (outsAt0 m c t.val t.isLt).1 = k0_pay3 (F := Ideal) (k0_pay2 (F := Ideal)
      (outsAt0 m c (t.val - 1) (Nat.lt_of_le_of_lt (Nat.sub_le _ _) t.isLt)).2 (iblk m c 0 t) (iblk m c 1 t)) := by
  rw [outsAt0_B m c t h0 (by omega)]; frame_out
  exact congrArg (fun v => k0_pay3 (F := Ideal) (k0_pay2 (F := Ideal) v (iblk m c 0 t) (iblk m c 1 t)))
    ((Memref.isWhole_whole cc0_scratch0).read_unread _)

theorem tlt : t.val < 2 := lt_of_lt_of_eq t.isLt (by decide +kernel)

/-- Where each window stands at each grid point. -/
theorem idx : ∀ t : Fin cfg0.N, win0_0.index t = ![t.val % 2, 0] ∧ win0_1.index t = ![t.val % 2, 0]
    ∧ win0_2.index t = ![0, 0] :=
  (by decide +kernel : ∀ t : Fin grid0.N, _)

/-- The sample of grid point `t`. -/
def smp : Fin 2 := ⟨t.val % 2, by omega⟩

theorem left_at (n : Fin 2048) (i : Fin 1024) : iblk m c 0 t (ix2 n i) = left m c (ix3 (smp t) n i) := by
  show iblk m c 0 t (ix2 n i) = m ((c : Thread nD τ).loc main_arg0) (ix3 (smp t) n i)
  blk_simp [iblk, idx t, smp]
  entry_read
  pointwise
  blk_ext [idx t]

theorem right_at (n : Fin 2048) (j : Fin 1024) : iblk m c 1 t (ix2 n j) = right m c (ix3 (smp t) n j) := by
  show iblk m c 1 t (ix2 n j) = m ((c : Thread nD τ).loc main_arg1) (ix3 (smp t) n j)
  blk_simp [iblk, idx t, smp]
  entry_read
  pointwise
  blk_ext [idx t]

/-- The block that grid point `t` leaves, at its last step, in terms of the arguments. -/
theorem out_at (h0 : ¬t.val % 2 = 0) (i j : Fin 1024) :
    (outsAt0 m c t.val t.isLt).1 (ix2 i j) = ∑ b : Fin 2, ∑ n : Fin 2048, left m c (ix3 b n i) * right m c (ix3 b n j) := by
  obtain ⟨s, hs⟩ : ∃ s : Fin cfg0.N, s.val = t.val - 1 := ⟨⟨t.val - 1, Nat.lt_of_le_of_lt (Nat.sub_le _ _) t.isLt⟩, rfl⟩
  have e1 : (outsAt0 m c (t.val - 1) (Nat.lt_of_le_of_lt (Nat.sub_le _ _) t.isLt)).2 (ix2 i j)
      = ∑ n : Fin 2048, left m c (ix3 0 n i) * right m c (ix3 0 n j) := by
    have hb : smp s = 0 := Fin.ext (show s.val % 2 = 0 by omega)
    have hq : (outsAt0 m c (t.val - 1) (Nat.lt_of_le_of_lt (Nat.sub_le _ _) t.isLt)).2 = (outsAt0 m c s.val s.isLt).2 := by
      simp only [hs]
    rw [hq, scratch_first m c s (by omega), step_at, start_at, zero_add]
    exact Finset.sum_congr rfl fun n _ => by rw [left_at, right_at, hb]
  have hb : smp t = 1 := Fin.ext (show t.val % 2 = 1 by omega)
  rw [out_last m c t h0, stored_at, step_at, e1, Fin.sum_univ_two]
  exact congrArg (_ + ·) (Finset.sum_congr rfl fun n _ => by rw [left_at, right_at, hb])

/-- The reference's product over all tokens. -/
theorem product_at (x : FVec Ideal S2x2048x1024 .f32) (y : FVec Ideal S2x2048x1024 .f32) (i : Fin 1024) (j : Fin 1024) :
    Cert.Reference2Ideal.Read.val_main_v3 (F := Ideal) x y (ix2 i j) = ∑ b : Fin 2, ∑ n : Fin 2048, x (ix3 b n i) * y (ix3 b n j) := by
  pointwise [Cert.Reference2Ideal.Read.val_main_v3, Cert.Reference2Ideal.Read.val_main_v2]
  exact Finset.sum_congr rfl fun b _ => Finset.sum_congr rfl fun n _ => mul_comm _ _

theorem result_at (x : FVec Ideal S2x2048x1024 .f32) (y : FVec Ideal S2x2048x1024 .f32) (i j : Fin 1024) :
    Cert.Reference2Ideal.Read.val_main_v4 (F := Ideal) x y (ix2 i j) = Cert.Reference2Ideal.Read.val_main_v3 (F := Ideal) x y (ix2 i j) := by
  pointwise [Cert.Reference2Ideal.Read.val_main_v4]

/-- The final array is the reference's result. -/
theorem array : (dats m 0 c).arrAt 2 cfg0.N = Cert.Reference2Ideal.Read.val_main_v4 (F := Ideal) (left m c) (right m c) := by
  refine (dats m 0 c).arrAt_eq_of_covers 2 _ (by decide +kernel) fun t hf y => ?_
  obtain ⟨i, j, rfl⟩ := split2 y
  have h1 := (flush0_2 t).mp hf
  have he : ((cfg0.win 2).blk t).view.emb (ix2 i j) = ix2 i j := by blk_ext [idx t]
  rw [after0_2]
  refine (out_at m c t (by omega) i j).trans ?_
  refine Eq.trans ?_ (congrArg (Cert.Reference2Ideal.Read.val_main_v4 (F := Ideal) (left m c) (right m c)) he).symm
  exact ((result_at (left m c) (right m c) i j).trans (product_at (left m c) (right m c) i j)).symm

/-- The kernel's run: its result is the final array, its arguments are kept. -/
theorem kernel_run (ρ : Dev nD → PrngReg) :
    θ_run defs (onTc (τ := τ) (main (F := Ideal))) ⟨m, fun _ => 0, ρ⟩ fun r => ∀ c : Dev nD,
      r.2.mem ((c : Thread nD τ).loc main_v4) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1 2,
    ((h c).2 main_arg0 (Pipeline.mem_restRefs_of main_arg0 (by decide) (by decide))).trans (V_main_arg0 m c),
    ((h c).2 main_arg1 (Pipeline.mem_restRefs_of main_arg1 (by decide) (by decide))).trans (V_main_arg1 m c)⟩) (run_main m ρ)

/-- The reference's run from the same arguments: its result is the same array. -/
theorem reference_run
    (m' : (ℓ : Loc Cert.Reference2Ideal.nD Cert.Reference2Ideal.τ Cert.Reference2Ideal.sig) → Buf (Elt Ideal) ℓ) (g' : Dev Cert.Reference2Ideal.nD → PrngReg)
    (ha : ∀ c : Dev nD,
      m' ((c.tc : Thread Cert.Reference2Ideal.nD Cert.Reference2Ideal.τ).loc Cert.Reference2Ideal.main_arg0) = left m c
      ∧ m' ((c.tc : Thread Cert.Reference2Ideal.nD Cert.Reference2Ideal.τ).loc Cert.Reference2Ideal.main_arg1) = right m c) :
    θ_run (Cert.Reference2Ideal.defs (F := Ideal)) (onTc (τ := Cert.Reference2Ideal.τ) (Cert.Reference2Ideal.main (F := Ideal))) ⟨m', fun _ => 0, g'⟩
      (fun r => ∀ c : Dev Cert.Reference2Ideal.nD,
        r.2.mem ((c.tc : Thread Cert.Reference2Ideal.nD Cert.Reference2Ideal.τ).loc Cert.Reference2Ideal.main_v4) = (dats m 0 c).arrAt 2 cfg0.N
        ∧ r.2.mem ((c.tc : Thread Cert.Reference2Ideal.nD Cert.Reference2Ideal.τ).loc Cert.Reference2Ideal.main_arg0)
          = m' ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1)
          = m' ((c.tc : Thread Cert.Reference2Ideal.nD Cert.Reference2Ideal.τ).loc Cert.Reference2Ideal.main_arg1)) := by
  refine (θ_run _ _ _).mono (fun r h c => ?_) (Cert.Reference2Ideal.Value.run (F := Ideal) m' g')
  obtain ⟨h0, hk⟩ := h c
  have e := h0.trans (Cert.Reference2Ideal.Read.val_main_v4_eq (F := Ideal) _ _)
  rw [(ha c).1, (ha c).2] at e
  exact ⟨e.trans (array m c).symm, hk⟩

end Cert.WeightOut

end
-- ==== Proof.WeightUp.lean ====
/- The gradient of the weight of the MLP's first product: the kernel's blocks, each a sum over the two samples' tokens, and the
   reference's product over all tokens. -/
module

public import proofs.«01_k».proof.Proof.Gen.Kernel3Ideal.Frame
public import proofs.«01_k».proof.Proof.Gen.Reference3Ideal.Read
public import proofs.«01_k».proof.Proof.Coordinates
public import Idealize.ShloMosaic.Lib.TwoAxisContraction

@[expose] public section

set_option maxRecDepth 16384

noncomputable section

namespace Cert.WeightUp

open Idealize.ShloMosaic Cert.Kernel3Ideal Cert.Kernel3Ideal.Gen Idealize.ShloMosaic.TcCoe Idealize.SL.Sem Cert.Coordinates
open scoped BigOperators

variable (m : (ℓ : Loc nD τ sig) → Buf (Elt Ideal) ℓ) (c : Dev nD)

/-- The rows that multiply from the left, and the cotangents, on one device. -/
def left : FVec Ideal S2x2048x1024 .f32 := m ((c : Thread nD τ).loc main_arg0)
def right : FVec Ideal S2x2048x4096 .f32 := m ((c : Thread nD τ).loc main_arg1)

/-- One step adds the products of a sample's tokens. -/
theorem step_at (v : Vec Ideal S1024x1024 .f32) (x y : Vec Ideal S2048x1024 .bf16) (i j : Fin 1024) :
    k0_pay2 (F := Ideal) v x y (ix2 i j) = v (ix2 i j) + ∑ n : Fin 2048, x (ix2 n i) * y (ix2 n j) := by
  pointwise [k0_pay2]

theorem start_at (i j : Fin 1024) : k0_pay1 (F := Ideal) (ix2 i j) = 0 := by pointwise [k0_pay1]

theorem stored_at (v : Vec Ideal S1024x1024 .f32) (i j : Fin 1024) : k0_pay3 (F := Ideal) v (ix3 0 i j) = v (ix2 i j) := by
  pointwise [k0_pay3]

variable (t : Fin cfg0.N)

/-- After a block's first point the scratch holds the first sample's products. -/
theorem scratch_first (h0 : t.val % 2 = 0) :
    (outsAt0 m c t.val t.isLt).2 = k0_pay2 (F := Ideal) (k0_pay1 (F := Ideal)) (iblk m c 0 t) (iblk m c 1 t) := by
  rw [outsAt0_A m c t h0 (by omega)]; frame_out

/-- At its last point the block is the scratch with the second sample's products added. -/
theorem out_last (h0 : ¬t.val % 2 = 0) :
    (outsAt0 m c t.val t.isLt).1 = k0_pay3 (F := Ideal) (k0_pay2 (F := Ideal)
      (outsAt0 m c (t.val - 1) (Nat.lt_of_le_of_lt (Nat.sub_le _ _) t.isLt)).2 (iblk m c 0 t) (iblk m c 1 t)) := by
  rw [outsAt0_B m c t h0 (by omega)]; frame_out
  exact congrArg (fun v => k0_pay3 (F := Ideal) (k0_pay2 (F := Ideal) v (iblk m c 0 t) (iblk m c 1 t)))
    ((Memref.isWhole_whole cc0_scratch0).read_unread _)

theorem tlt : t.val < 8 := lt_of_lt_of_eq t.isLt (by decide +kernel)

/-- Where each window stands at each grid point. -/
theorem idx : ∀ t : Fin cfg0.N, win0_0.index t = ![t.val % 2, 0] ∧ win0_1.index t = ![t.val % 2, t.val / 2]
    ∧ win0_2.index t = ![t.val / 2, 0, 0] :=
  (by decide +kernel : ∀ t : Fin grid0.N, _)

/-- The sample of grid point `t`. -/
def smp : Fin 2 := ⟨t.val % 2, by omega⟩
/-- The block of columns of grid point `t`. -/
def blkOf : Fin 4 := ⟨t.val / 2, by have := tlt t; omega⟩
/-- Column `e` of the block of columns of grid point `t`. -/
def colOf (e : Fin 1024) : Fin 4096 := ⟨1024 * (t.val / 2) + e.val, by have := tlt t; omega⟩

theorem left_at (n : Fin 2048) (i : Fin 1024) : iblk m c 0 t (ix2 n i) = left m c (ix3 (smp t) n i) := by
  show iblk m c 0 t (ix2 n i) = m ((c : Thread nD τ).loc main_arg0) (ix3 (smp t) n i)
  blk_simp [iblk, idx t, smp]
  entry_read
  pointwise
  blk_ext [idx t]

theorem right_at (n : Fin 2048) (j : Fin 1024) : iblk m c 1 t (ix2 n j) = right m c (ix3 (smp t) n (colOf t j)) := by
  show iblk m c 1 t (ix2 n j) = m ((c : Thread nD τ).loc main_arg1) (ix3 (smp t) n (colOf t j))
  blk_simp [iblk, idx t, smp, colOf]
  entry_read
  pointwise
  blk_ext [idx t]

/-- The block that grid point `t` leaves, at its last step, in terms of the arguments. -/
theorem out_at (h0 : ¬t.val % 2 = 0) (i j : Fin 1024) :
    (outsAt0 m c t.val t.isLt).1 (ix3 0 i j) = ∑ b : Fin 2, ∑ n : Fin 2048, left m c (ix3 b n i) * right m c (ix3 b n (colOf t j)) := by
  obtain ⟨s, hs⟩ : ∃ s : Fin cfg0.N, s.val = t.val - 1 := ⟨⟨t.val - 1, Nat.lt_of_le_of_lt (Nat.sub_le _ _) t.isLt⟩, rfl⟩
  have e1 : (outsAt0 m c (t.val - 1) (Nat.lt_of_le_of_lt (Nat.sub_le _ _) t.isLt)).2 (ix2 i j)
      = ∑ n : Fin 2048, left m c (ix3 0 n i) * right m c (ix3 0 n (colOf t j)) := by
    have hb : smp s = 0 := Fin.ext (show s.val % 2 = 0 by omega)
    have hc : ∀ e, colOf s e = colOf t e := fun e => Fin.ext (show 1024 * (s.val / 2) + e.val = 1024 * (t.val / 2) + e.val by omega)
    have hq : (outsAt0 m c (t.val - 1) (Nat.lt_of_le_of_lt (Nat.sub_le _ _) t.isLt)).2 = (outsAt0 m c s.val s.isLt).2 := by
      simp only [hs]
    rw [hq, scratch_first m c s (by omega), step_at, start_at, zero_add]
    exact Finset.sum_congr rfl fun n _ => by rw [left_at, right_at, hb, hc]
  have hb : smp t = 1 := Fin.ext (show t.val % 2 = 1 by omega)
  rw [out_last m c t h0, stored_at, step_at, e1, Fin.sum_univ_two]
  exact congrArg (_ + ·) (Finset.sum_congr rfl fun n _ => by rw [left_at, right_at, hb])

/-- The reference's product over all tokens. -/
theorem product_at (x : FVec Ideal S2x2048x1024 .f32) (y : FVec Ideal S2x2048x4096 .f32) (i : Fin 1024) (j : Fin 4096) :
    Cert.Reference3Ideal.Read.val_main_v3 (F := Ideal) x y (ix2 i j) = ∑ b : Fin 2, ∑ n : Fin 2048, x (ix3 b n i) * y (ix3 b n j) := by
  pointwise [Cert.Reference3Ideal.Read.val_main_v3, Cert.Reference3Ideal.Read.val_main_v2]
  exact Finset.sum_congr rfl fun b _ => Finset.sum_congr rfl fun n _ => mul_comm _ _

theorem result_at (x : FVec Ideal S2x2048x1024 .f32) (y : FVec Ideal S2x2048x4096 .f32) (i : Fin 1024) (q : Fin 4) (j : Fin 1024) (e : Fin 4096) (he : e.val = 1024 * q.val + j.val) :
    Cert.Reference3Ideal.Read.val_main_v6 (F := Ideal) x y (ix3 q i j) = Cert.Reference3Ideal.Read.val_main_v3 (F := Ideal) x y (ix2 i e) := by
  pointwise [Cert.Reference3Ideal.Read.val_main_v6, Cert.Reference3Ideal.Read.val_main_v5, Cert.Reference3Ideal.Read.val_main_v4]
  exact congrArg (fun k => Cert.Reference3Ideal.Read.val_main_v3 (F := Ideal) x y (ix2 i k)) (Fin.ext (show q.val * 1024 + j.val = e.val by omega))

/-- The final array is the reference's result. -/
theorem array : (dats m 0 c).arrAt 2 cfg0.N = Cert.Reference3Ideal.Read.val_main_v6 (F := Ideal) (left m c) (right m c) := by
  refine (dats m 0 c).arrAt_eq_of_covers 2 _ (by decide +kernel) fun t hf y => ?_
  obtain ⟨i, j, rfl⟩ := split3 y
  have h1 := (flush0_2 t).mp hf
  have he : ((cfg0.win 2).blk t).view.emb (ix3 0 i j) = ix3 (blkOf t) i j := by blk_ext [idx t, blkOf]
  rw [after0_2]
  refine (out_at m c t (by omega) i j).trans ?_
  refine Eq.trans ?_ (congrArg (Cert.Reference3Ideal.Read.val_main_v6 (F := Ideal) (left m c) (right m c)) he).symm
  exact ((result_at (left m c) (right m c) i (blkOf t) j (colOf t j) rfl).trans (product_at (left m c) (right m c) i (colOf t j))).symm

/-- The kernel's run: its result is the final array, its arguments are kept. -/
theorem kernel_run (ρ : Dev nD → PrngReg) :
    θ_run defs (onTc (τ := τ) (main (F := Ideal))) ⟨m, fun _ => 0, ρ⟩ fun r => ∀ c : Dev nD,
      r.2.mem ((c : Thread nD τ).loc main_v4) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1 2,
    ((h c).2 main_arg0 (Pipeline.mem_restRefs_of main_arg0 (by decide) (by decide))).trans (V_main_arg0 m c),
    ((h c).2 main_arg1 (Pipeline.mem_restRefs_of main_arg1 (by decide) (by decide))).trans (V_main_arg1 m c)⟩) (run_main m ρ)

/-- The reference's run from the same arguments: its result is the same array. -/
theorem reference_run
    (m' : (ℓ : Loc Cert.Reference3Ideal.nD Cert.Reference3Ideal.τ Cert.Reference3Ideal.sig) → Buf (Elt Ideal) ℓ) (g' : Dev Cert.Reference3Ideal.nD → PrngReg)
    (ha : ∀ c : Dev nD,
      m' ((c.tc : Thread Cert.Reference3Ideal.nD Cert.Reference3Ideal.τ).loc Cert.Reference3Ideal.main_arg0) = left m c
      ∧ m' ((c.tc : Thread Cert.Reference3Ideal.nD Cert.Reference3Ideal.τ).loc Cert.Reference3Ideal.main_arg1) = right m c) :
    θ_run (Cert.Reference3Ideal.defs (F := Ideal)) (onTc (τ := Cert.Reference3Ideal.τ) (Cert.Reference3Ideal.main (F := Ideal))) ⟨m', fun _ => 0, g'⟩
      (fun r => ∀ c : Dev Cert.Reference3Ideal.nD,
        r.2.mem ((c.tc : Thread Cert.Reference3Ideal.nD Cert.Reference3Ideal.τ).loc Cert.Reference3Ideal.main_v6) = (dats m 0 c).arrAt 2 cfg0.N
        ∧ r.2.mem ((c.tc : Thread Cert.Reference3Ideal.nD Cert.Reference3Ideal.τ).loc Cert.Reference3Ideal.main_arg0)
          = m' ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1)
          = m' ((c.tc : Thread Cert.Reference3Ideal.nD Cert.Reference3Ideal.τ).loc Cert.Reference3Ideal.main_arg1)) := by
  refine (θ_run _ _ _).mono (fun r h c => ?_) (Cert.Reference3Ideal.Value.run (F := Ideal) m' g')
  obtain ⟨h0, hk⟩ := h c
  have e := h0.trans (Cert.Reference3Ideal.Read.val_main_v6_eq (F := Ideal) _ _)
  rw [(ha c).1, (ha c).2] at e
  exact ⟨e.trans (array m c).symm, hk⟩

end Cert.WeightUp

end
-- ==== Proof.WeightDown.lean ====
/- The gradient of the weight of the MLP's second product: the kernel's blocks, each a sum over the two samples' tokens, and the
   reference's product over all tokens. -/
module

public import proofs.«01_k».proof.Proof.Gen.Kernel4Ideal.Frame
public import proofs.«01_k».proof.Proof.Gen.Reference4Ideal.Read
public import proofs.«01_k».proof.Proof.Coordinates
public import Idealize.ShloMosaic.Lib.TwoAxisContraction

@[expose] public section

set_option maxRecDepth 16384

noncomputable section

namespace Cert.WeightDown

open Idealize.ShloMosaic Cert.Kernel4Ideal Cert.Kernel4Ideal.Gen Idealize.ShloMosaic.TcCoe Idealize.SL.Sem Cert.Coordinates
open scoped BigOperators

variable (m : (ℓ : Loc nD τ sig) → Buf (Elt Ideal) ℓ) (c : Dev nD)

/-- The rows that multiply from the left, and the cotangents, on one device. -/
def left : FVec Ideal S2x2048x4096 .f32 := m ((c : Thread nD τ).loc main_arg0)
def right : FVec Ideal S2x2048x1024 .f32 := m ((c : Thread nD τ).loc main_arg1)

/-- One step adds the products of a sample's tokens. -/
theorem step_at (v : Vec Ideal S1024x1024 .f32) (x y : Vec Ideal S2048x1024 .bf16) (i j : Fin 1024) :
    k0_pay2 (F := Ideal) v x y (ix2 i j) = v (ix2 i j) + ∑ n : Fin 2048, x (ix2 n i) * y (ix2 n j) := by
  pointwise [k0_pay2]

theorem start_at (i j : Fin 1024) : k0_pay1 (F := Ideal) (ix2 i j) = 0 := by pointwise [k0_pay1]

theorem stored_at (v : Vec Ideal S1024x1024 .f32) (i j : Fin 1024) : k0_pay3 (F := Ideal) v (ix2 i j) = v (ix2 i j) := by
  pointwise [k0_pay3]

variable (t : Fin cfg0.N)

/-- After a block's first point the scratch holds the first sample's products. -/
theorem scratch_first (h0 : t.val % 2 = 0) :
    (outsAt0 m c t.val t.isLt).2 = k0_pay2 (F := Ideal) (k0_pay1 (F := Ideal)) (iblk m c 0 t) (iblk m c 1 t) := by
  rw [outsAt0_A m c t h0 (by omega)]; frame_out

/-- At its last point the block is the scratch with the second sample's products added. -/
theorem out_last (h0 : ¬t.val % 2 = 0) :
    (outsAt0 m c t.val t.isLt).1 = k0_pay3 (F := Ideal) (k0_pay2 (F := Ideal)
      (outsAt0 m c (t.val - 1) (Nat.lt_of_le_of_lt (Nat.sub_le _ _) t.isLt)).2 (iblk m c 0 t) (iblk m c 1 t)) := by
  rw [outsAt0_B m c t h0 (by omega)]; frame_out
  exact congrArg (fun v => k0_pay3 (F := Ideal) (k0_pay2 (F := Ideal) v (iblk m c 0 t) (iblk m c 1 t)))
    ((Memref.isWhole_whole cc0_scratch0).read_unread _)

theorem tlt : t.val < 8 := lt_of_lt_of_eq t.isLt (by decide +kernel)

/-- Where each window stands at each grid point. -/
theorem idx : ∀ t : Fin cfg0.N, win0_0.index t = ![t.val % 2, t.val / 2] ∧ win0_1.index t = ![t.val % 2, 0]
    ∧ win0_2.index t = ![t.val / 2, 0] :=
  (by decide +kernel : ∀ t : Fin grid0.N, _)

/-- The sample of grid point `t`. -/
def smp : Fin 2 := ⟨t.val % 2, by omega⟩
/-- Column `e` of the block of columns of grid point `t`. -/
def colOf (e : Fin 1024) : Fin 4096 := ⟨1024 * (t.val / 2) + e.val, by have := tlt t; omega⟩

theorem left_at (n : Fin 2048) (i : Fin 1024) : iblk m c 0 t (ix2 n i) = left m c (ix3 (smp t) n (colOf t i)) := by
  show iblk m c 0 t (ix2 n i) = m ((c : Thread nD τ).loc main_arg0) (ix3 (smp t) n (colOf t i))
  blk_simp [iblk, idx t, smp, colOf]
  entry_read
  pointwise
  blk_ext [idx t]

theorem right_at (n : Fin 2048) (j : Fin 1024) : iblk m c 1 t (ix2 n j) = right m c (ix3 (smp t) n j) := by
  show iblk m c 1 t (ix2 n j) = m ((c : Thread nD τ).loc main_arg1) (ix3 (smp t) n j)
  blk_simp [iblk, idx t, smp]
  entry_read
  pointwise
  blk_ext [idx t]

/-- The block that grid point `t` leaves, at its last step, in terms of the arguments. -/
theorem out_at (h0 : ¬t.val % 2 = 0) (i j : Fin 1024) :
    (outsAt0 m c t.val t.isLt).1 (ix2 i j) = ∑ b : Fin 2, ∑ n : Fin 2048, left m c (ix3 b n (colOf t i)) * right m c (ix3 b n j) := by
  obtain ⟨s, hs⟩ : ∃ s : Fin cfg0.N, s.val = t.val - 1 := ⟨⟨t.val - 1, Nat.lt_of_le_of_lt (Nat.sub_le _ _) t.isLt⟩, rfl⟩
  have e1 : (outsAt0 m c (t.val - 1) (Nat.lt_of_le_of_lt (Nat.sub_le _ _) t.isLt)).2 (ix2 i j)
      = ∑ n : Fin 2048, left m c (ix3 0 n (colOf t i)) * right m c (ix3 0 n j) := by
    have hb : smp s = 0 := Fin.ext (show s.val % 2 = 0 by omega)
    have hc : ∀ e, colOf s e = colOf t e := fun e => Fin.ext (show 1024 * (s.val / 2) + e.val = 1024 * (t.val / 2) + e.val by omega)
    have hq : (outsAt0 m c (t.val - 1) (Nat.lt_of_le_of_lt (Nat.sub_le _ _) t.isLt)).2 = (outsAt0 m c s.val s.isLt).2 := by
      simp only [hs]
    rw [hq, scratch_first m c s (by omega), step_at, start_at, zero_add]
    exact Finset.sum_congr rfl fun n _ => by rw [left_at, right_at, hb, hc]
  have hb : smp t = 1 := Fin.ext (show t.val % 2 = 1 by omega)
  rw [out_last m c t h0, stored_at, step_at, e1, Fin.sum_univ_two]
  exact congrArg (_ + ·) (Finset.sum_congr rfl fun n _ => by rw [left_at, right_at, hb])

/-- The reference's product over all tokens. -/
theorem product_at (x : FVec Ideal S2x2048x4096 .f32) (y : FVec Ideal S2x2048x1024 .f32) (i : Fin 4096) (j : Fin 1024) :
    Cert.Reference4Ideal.Read.val_main_v3 (F := Ideal) x y (ix2 i j) = ∑ b : Fin 2, ∑ n : Fin 2048, x (ix3 b n i) * y (ix3 b n j) := by
  pointwise [Cert.Reference4Ideal.Read.val_main_v3, Cert.Reference4Ideal.Read.val_main_v2]
  exact Finset.sum_congr rfl fun b _ => Finset.sum_congr rfl fun n _ => mul_comm _ _

theorem result_at (x : FVec Ideal S2x2048x4096 .f32) (y : FVec Ideal S2x2048x1024 .f32) (i : Fin 4096) (j : Fin 1024) :
    Cert.Reference4Ideal.Read.val_main_v4 (F := Ideal) x y (ix2 i j) = Cert.Reference4Ideal.Read.val_main_v3 (F := Ideal) x y (ix2 i j) := by
  pointwise [Cert.Reference4Ideal.Read.val_main_v4]

/-- The final array is the reference's result. -/
theorem array : (dats m 0 c).arrAt 2 cfg0.N = Cert.Reference4Ideal.Read.val_main_v4 (F := Ideal) (left m c) (right m c) := by
  refine (dats m 0 c).arrAt_eq_of_covers 2 _ (by decide +kernel) fun t hf y => ?_
  obtain ⟨i, j, rfl⟩ := split2 y
  have h1 := (flush0_2 t).mp hf
  have he : ((cfg0.win 2).blk t).view.emb (ix2 i j) = ix2 (colOf t i) j := by blk_ext [idx t, colOf]
  rw [after0_2]
  refine (out_at m c t (by omega) i j).trans ?_
  refine Eq.trans ?_ (congrArg (Cert.Reference4Ideal.Read.val_main_v4 (F := Ideal) (left m c) (right m c)) he).symm
  exact ((result_at (left m c) (right m c) (colOf t i) j).trans (product_at (left m c) (right m c) (colOf t i) j)).symm

/-- The kernel's run: its result is the final array, its arguments are kept. -/
theorem kernel_run (ρ : Dev nD → PrngReg) :
    θ_run defs (onTc (τ := τ) (main (F := Ideal))) ⟨m, fun _ => 0, ρ⟩ fun r => ∀ c : Dev nD,
      r.2.mem ((c : Thread nD τ).loc main_v4) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1 2,
    ((h c).2 main_arg0 (Pipeline.mem_restRefs_of main_arg0 (by decide) (by decide))).trans (V_main_arg0 m c),
    ((h c).2 main_arg1 (Pipeline.mem_restRefs_of main_arg1 (by decide) (by decide))).trans (V_main_arg1 m c)⟩) (run_main m ρ)

/-- The reference's run from the same arguments: its result is the same array. -/
theorem reference_run
    (m' : (ℓ : Loc Cert.Reference4Ideal.nD Cert.Reference4Ideal.τ Cert.Reference4Ideal.sig) → Buf (Elt Ideal) ℓ) (g' : Dev Cert.Reference4Ideal.nD → PrngReg)
    (ha : ∀ c : Dev nD,
      m' ((c.tc : Thread Cert.Reference4Ideal.nD Cert.Reference4Ideal.τ).loc Cert.Reference4Ideal.main_arg0) = left m c
      ∧ m' ((c.tc : Thread Cert.Reference4Ideal.nD Cert.Reference4Ideal.τ).loc Cert.Reference4Ideal.main_arg1) = right m c) :
    θ_run (Cert.Reference4Ideal.defs (F := Ideal)) (onTc (τ := Cert.Reference4Ideal.τ) (Cert.Reference4Ideal.main (F := Ideal))) ⟨m', fun _ => 0, g'⟩
      (fun r => ∀ c : Dev Cert.Reference4Ideal.nD,
        r.2.mem ((c.tc : Thread Cert.Reference4Ideal.nD Cert.Reference4Ideal.τ).loc Cert.Reference4Ideal.main_v4) = (dats m 0 c).arrAt 2 cfg0.N
        ∧ r.2.mem ((c.tc : Thread Cert.Reference4Ideal.nD Cert.Reference4Ideal.τ).loc Cert.Reference4Ideal.main_arg0)
          = m' ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1)
          = m' ((c.tc : Thread Cert.Reference4Ideal.nD Cert.Reference4Ideal.τ).loc Cert.Reference4Ideal.main_arg1)) := by
  refine (θ_run _ _ _).mono (fun r h c => ?_) (Cert.Reference4Ideal.Value.run (F := Ideal) m' g')
  obtain ⟨h0, hk⟩ := h c
  have e := h0.trans (Cert.Reference4Ideal.Read.val_main_v4_eq (F := Ideal) _ _)
  rw [(ha c).1, (ha c).2] at e
  exact ⟨e.trans (array m c).symm, hk⟩

end Cert.WeightDown

end
-- ==== Proof.Columns.lean ====
/- The columns of the input projection in the order in which the calls of the step keep them, read one by one: two axes of a
   split row exchanged, and the two parts of the row put together again. -/
module

public import Idealize.ShloMosaic.Lib.Pipeline.ValueKit
public import Idealize.ShloMosaic.Lib.Pipeline.Value

@[expose] public section

set_option maxRecDepth 16384

namespace Cert.Columns

open Idealize.ShloMosaic

variable {α : Type}

/-- A row split into parts of four coordinates, the middle two exchanged, and joined again. -/
theorem exchange_at {N C M A B L : ℕ} (x : (⟨2, ![N, C]⟩ : Shape).Idx → α)
    (h1 : (⟨2, ![N, C]⟩ : Shape).ShapeCasts ⟨4, ![M, A, B, L]⟩)
    (hT : (⟨4, ![M, A, B, L]⟩ : Shape).Transposes [0, 2, 1, 3] ⟨4, ![M, B, A, L]⟩)
    (h2 : (⟨4, ![M, B, A, L]⟩ : Shape).ShapeCasts ⟨2, ![N, C]⟩)
    (n : Fin N) (j j' : Fin C) (m : Fin M) (a : Fin A) (b : Fin B) (l : Fin L)
    (hs : n.val * C + j.val = ((m.val * A + a.val) * B + b.val) * L + l.val)
    (ht : n.val * C + j'.val = ((m.val * B + b.val) * A + a.val) * L + l.val) :
    shapeCast ⟨2, ![N, C]⟩ (transpose ⟨4, ![M, B, A, L]⟩ [0, 2, 1, 3] (shapeCast ⟨4, ![M, A, B, L]⟩ x h1) hT) h2 (ix2 n j')
      = x (ix2 n j) := by
  refine (shapeCast_apply _ h2 (ix2 n j') (ix4 m b a l) ?_).trans ?_
  · rw [Shape.rowMajor_val_four, Shape.rowMajor_val_two]; exact ht.symm
  refine (transpose_apply [0, 2, 1, 3] _ hT (ix4 m b a l) (ix4 m a b l) fun k => ?_).trans ?_
  · match k with
    | ⟨0, _⟩ => rfl
    | ⟨1, _⟩ => rfl
    | ⟨2, _⟩ => rfl
    | ⟨3, _⟩ => rfl
  refine shapeCast_apply x h1 (ix4 m a b l) (ix2 n j) ?_
  rw [Shape.rowMajor_val_four, Shape.rowMajor_val_two]; exact hs

/-- Where column `c` stands in that order. -/
def src (c : Fin 3584) : Fin 3584 :=
  if c.val < 1024 then
    ⟨(c.val / 128 % 4 * 4 + c.val / 512) * 128 + c.val / 32 % 2 * 64 + c.val / 64 % 2 * 32 + c.val % 32, by have := c.isLt; omega⟩
  else if c.val < 2048 then ⟨(c.val / 128 % 4 * 4 + c.val / 512) * 128 + c.val % 128, by have := c.isLt; omega⟩
  else ⟨2048 + (c.val / 128 % 4 * 3 + (c.val / 512 - 4)) * 128 + c.val % 128, by have := c.isLt; omega⟩

variable {N M : ℕ}

/-- The whole of the host's layout, read at the place of a column, is that column. -/
theorem columns_at (x : (⟨2, ![N, 3584]⟩ : Shape).Idx → α)
    (s1 : (⟨2, ![N, 3584]⟩ : Shape).Slices ![0, 0] ⟨2, ![N, 1024]⟩)
    (s2 : (⟨2, ![N, 3584]⟩ : Shape).Slices ![0, 1024] ⟨2, ![N, 1024]⟩)
    (s3 : (⟨2, ![N, 3584]⟩ : Shape).Slices ![0, 2048] ⟨2, ![N, 1536]⟩)
    (a1 : (⟨2, ![N, 1024]⟩ : Shape).ShapeCasts ⟨4, ![M, 2, 2, 32]⟩)
    (a2 : (⟨4, ![M, 2, 2, 32]⟩ : Shape).Transposes [0, 2, 1, 3] ⟨4, ![M, 2, 2, 32]⟩)
    (a3 : (⟨4, ![M, 2, 2, 32]⟩ : Shape).ShapeCasts ⟨2, ![N, 1024]⟩)
    (c1 : Shape.Concatenates [⟨2, ![N, 1024]⟩, ⟨2, ![N, 1024]⟩] ⟨2, ![N, 2048]⟩ 1)
    (b1 : (⟨2, ![N, 2048]⟩ : Shape).ShapeCasts ⟨4, ![N, 4, 4, 128]⟩)
    (b2 : (⟨4, ![N, 4, 4, 128]⟩ : Shape).Transposes [0, 2, 1, 3] ⟨4, ![N, 4, 4, 128]⟩)
    (b3 : (⟨4, ![N, 4, 4, 128]⟩ : Shape).ShapeCasts ⟨2, ![N, 2048]⟩)
    (d1 : (⟨2, ![N, 1536]⟩ : Shape).ShapeCasts ⟨4, ![N, 3, 4, 128]⟩)
    (d2 : (⟨4, ![N, 3, 4, 128]⟩ : Shape).Transposes [0, 2, 1, 3] ⟨4, ![N, 4, 3, 128]⟩)
    (d3 : (⟨4, ![N, 4, 3, 128]⟩ : Shape).ShapeCasts ⟨2, ![N, 1536]⟩)
    (c2 : Shape.Concatenates [⟨2, ![N, 2048]⟩, ⟨2, ![N, 1536]⟩] ⟨2, ![N, 3584]⟩ 1)
    (hM : M = 8 * N) (n : Fin N) (c : Fin 3584) :
    concatenate ⟨2, ![N, 3584]⟩ 1
      [⟨⟨2, ![N, 2048]⟩, shapeCast ⟨2, ![N, 2048]⟩ (transpose ⟨4, ![N, 4, 4, 128]⟩ [0, 2, 1, 3] (shapeCast ⟨4, ![N, 4, 4, 128]⟩
          (concatenate ⟨2, ![N, 2048]⟩ 1
            [⟨⟨2, ![N, 1024]⟩, shapeCast ⟨2, ![N, 1024]⟩ (transpose ⟨4, ![M, 2, 2, 32]⟩ [0, 2, 1, 3] (shapeCast ⟨4, ![M, 2, 2, 32]⟩
                (extractStridedSlice ⟨2, ![N, 1024]⟩ ![0, 0] x s1) a1) a2) a3⟩,
              ⟨⟨2, ![N, 1024]⟩, extractStridedSlice ⟨2, ![N, 1024]⟩ ![0, 1024] x s2⟩] c1) b1) b2) b3⟩,
        ⟨⟨2, ![N, 1536]⟩, shapeCast ⟨2, ![N, 1536]⟩ (transpose ⟨4, ![N, 4, 3, 128]⟩ [0, 2, 1, 3] (shapeCast ⟨4, ![N, 3, 4, 128]⟩
          (extractStridedSlice ⟨2, ![N, 1536]⟩ ![0, 2048] x s3) d1) d2) d3⟩] c2 (ix2 n (src c))
      = x (ix2 n c) := by
  have hc := c.isLt
  have hn := n.isLt
  unfold src
  split
  · rename_i h
    refine (concatenate_pair_apply_left 1 _ _ c2 _ rfl
      (ix2 n ⟨(c.val / 128 % 4 * 4 + c.val / 512) * 128 + c.val / 32 % 2 * 64 + c.val / 64 % 2 * 32 + c.val % 32, by omega⟩)
      (fun k => by match k with | ⟨0, _⟩ => rfl | ⟨1, _⟩ => rfl)).trans ?_
    refine (exchange_at _ b1 b2 b3 n ⟨c.val / 128 * 128 + c.val / 32 % 2 * 64 + c.val / 64 % 2 * 32 + c.val % 32, by omega⟩ _ n
      ⟨c.val / 512, by omega⟩ ⟨c.val / 128 % 4, by omega⟩ ⟨c.val / 32 % 2 * 64 + c.val / 64 % 2 * 32 + c.val % 32, by omega⟩
      (by dsimp only; omega) (by dsimp only; omega)).trans ?_
    refine (concatenate_pair_apply_left 1 _ _ c1 _ rfl
      (ix2 n ⟨c.val / 128 * 128 + c.val / 32 % 2 * 64 + c.val / 64 % 2 * 32 + c.val % 32, by omega⟩)
      (fun k => by match k with | ⟨0, _⟩ => rfl | ⟨1, _⟩ => rfl)).trans ?_
    refine (exchange_at _ a1 a2 a3 n ⟨c.val, h⟩ _ ⟨n.val * 8 + c.val / 128, by omega⟩ ⟨c.val / 64 % 2, by omega⟩
      ⟨c.val / 32 % 2, by omega⟩ ⟨c.val % 32, by omega⟩ (by dsimp only; omega) (by dsimp only; omega)).trans ?_
    exact extractStridedSlice_apply _ x s1 _ (ix2 n c)
      (fun k => by match k with | ⟨0, _⟩ => exact (Nat.zero_add _).symm | ⟨1, _⟩ => exact (Nat.zero_add _).symm)
  split
  · rename_i h h'
    refine (concatenate_pair_apply_left 1 _ _ c2 _ rfl (ix2 n ⟨(c.val / 128 % 4 * 4 + c.val / 512) * 128 + c.val % 128, by omega⟩)
      (fun k => by match k with | ⟨0, _⟩ => rfl | ⟨1, _⟩ => rfl)).trans ?_
    refine (exchange_at _ b1 b2 b3 n ⟨c.val, by omega⟩ _ n ⟨c.val / 512, by omega⟩ ⟨c.val / 128 % 4, by omega⟩ ⟨c.val % 128, by omega⟩
      (by dsimp only; omega) (by dsimp only; omega)).trans ?_
    refine (concatenate_pair_apply_right 1 _ _ c1 (ix2 n ⟨c.val, by omega⟩) rfl rfl (ix2 n ⟨c.val - 1024, by omega⟩)
      (fun k hk => by match k with | ⟨0, _⟩ => rfl | ⟨1, _⟩ => exact absurd rfl hk)
      (show c.val - 1024 + 1024 = c.val by omega)).trans ?_
    exact extractStridedSlice_apply _ x s2 _ (ix2 n c) (fun k => by
      match k with
      | ⟨0, _⟩ => exact (Nat.zero_add _).symm
      | ⟨1, _⟩ => exact (show c.val = 1024 + (c.val - 1024) by omega))
  · rename_i h h'
    refine (concatenate_pair_apply_right 1 _ _ c2
      (ix2 n ⟨2048 + (c.val / 128 % 4 * 3 + (c.val / 512 - 4)) * 128 + c.val % 128, by omega⟩) rfl rfl
      (ix2 n ⟨(c.val / 128 % 4 * 3 + (c.val / 512 - 4)) * 128 + c.val % 128, by omega⟩)
      (fun k hk => by match k with | ⟨0, _⟩ => rfl | ⟨1, _⟩ => exact absurd rfl hk)
      (show (c.val / 128 % 4 * 3 + (c.val / 512 - 4)) * 128 + c.val % 128 + 2048
        = 2048 + (c.val / 128 % 4 * 3 + (c.val / 512 - 4)) * 128 + c.val % 128 by omega)).trans ?_
    refine (exchange_at _ d1 d2 d3 n ⟨c.val - 2048, by omega⟩ _ n ⟨c.val / 512 - 4, by omega⟩ ⟨c.val / 128 % 4, by omega⟩
      ⟨c.val % 128, by omega⟩ (by dsimp only; omega) (by dsimp only; omega)).trans ?_
    exact extractStridedSlice_apply _ x s3 _ (ix2 n c) (fun k => by
      match k with
      | ⟨0, _⟩ => exact (Nat.zero_add _).symm
      | ⟨1, _⟩ => exact (show c.val = 2048 + (c.val - 2048) by omega))

end Cert.Columns

end
-- ==== Proof.Tiles.lean ====
/- Reading a buffer at one index after a list of stores: the newest store whose box holds the index, read at the index
   less the box's corner. -/
module

public import Idealize.ShloMosaic.Lib.Pipeline.ValueKit
public import Idealize.ShloMosaic.Lib.WritesUnit

@[expose] public section

namespace Cert.Tail

open Idealize.ShloMosaic

section
variable {S : Shape} {e : EltTy} {Val : EltTy → Type} [∀ e, Nonempty (Val e)]

/-- An index inside the newest store's box reads that store. -/
theorem canon_mem {off size : Fin S.rank → ℕ} (inb : ∀ a, off a + size a ≤ S.size a)
    (w : (Rect.unit off size inb).shape.Idx → Val e) (L : List (View.Piece Val S e)) (y : S.Idx)
    (x : (Rect.unit off size inb).shape.Idx) (hx : ∀ a, (y a).val = off a + (x a).val) :
    View.canon ((⟨Rect.unit off size inb, w⟩ : View.Piece Val S e) :: L) y = w x := by
  have hy : (Rect.unit off size inb).emb x = y := funext fun a => Fin.ext (by
    show off a + 1 * (x a).val = (y a).val
    rw [hx a, Nat.one_mul])
  rw [← hy]
  exact View.canon_cons_emb _ _ _ _

/-- An index outside it reads the stores before. -/
theorem canon_skip {off size : Fin S.rank → ℕ} (inb : ∀ a, off a + size a ≤ S.size a)
    (w : (Rect.unit off size inb).shape.Idx → Val e) (L : List (View.Piece Val S e)) (y : S.Idx) (a : Fin S.rank)
    (ha : (y a).val < off a ∨ off a + size a ≤ (y a).val) :
    View.canon ((⟨Rect.unit off size inb, w⟩ : View.Piece Val S e) :: L) y = View.canon L y := by
  refine View.canon_cons_of_not_mem _ _ ?_
  rw [Rect.mem_set_unit]
  intro hall
  have := hall a
  omega

/-- A load of a box after stores reads them at the box's index. -/
theorem readCov_at {sig : RefSig} {κ : Kind} {sp : Space} (v : View sig κ sp S e) (L : List (View.Piece Val S e))
    {off size : Fin S.rank → ℕ} (inb : ∀ a, off a + size a ≤ S.size a) (x : (Rect.unit off size inb).shape.Idx)
    (y : S.Idx) (hx : ∀ a, (y a).val = off a + (x a).val) :
    v.readCov L (Rect.unit off size inb).toLoadRect x = View.canon L y := by
  rw [View.readCov_eq_canon']
  refine congrArg (View.canon L) (funext fun a => Fin.ext ?_)
  show off a + 1 * (x a).val = (y a).val
  rw [hx a, Nat.one_mul]

/-- A load of a box reads the contents at the box's index. -/
theorem ld_at (X : S.Idx → Val e) {off size : Fin S.rank → ℕ} (inb : ∀ a, off a + size a ≤ S.size a)
    (x : (Rect.unit off size inb).shape.Idx) (y : S.Idx) (hx : ∀ a, (y a).val = off a + (x a).val) :
    View.ld X (Rect.unit off size inb) x = X y := by
  refine congrArg X (funext fun a => Fin.ext ?_)
  show off a + 1 * (x a).val = (y a).val
  rw [hx a, Nat.one_mul]

end

/-- Coordinates at a rank-three index of literal extents. -/
theorem coord3 {n₀ n₁ n₂ k₀ k₁ k₂ : ℕ} {i₀ : Fin n₀} {i₁ : Fin n₁} {i₂ : Fin n₂} {j₀ : Fin k₀} {j₁ : Fin k₁} {j₂ : Fin k₂}
    {o₀ o₁ o₂ : ℕ} (h₀ : i₀.val = o₀ + j₀.val) (h₁ : i₁.val = o₁ + j₁.val) (h₂ : i₂.val = o₂ + j₂.val) :
    ∀ a : Fin 3, ((ix3 i₀ i₁ i₂) a).val = ![o₀, o₁, o₂] a + ((ix3 j₀ j₁ j₂) a).val := fun a =>
  match a with
  | ⟨0, _⟩ => h₀
  | ⟨1, _⟩ => h₁
  | ⟨2, _⟩ => h₂

theorem coord2 {n₀ n₁ k₀ k₁ : ℕ} {i₀ : Fin n₀} {i₁ : Fin n₁} {j₀ : Fin k₀} {j₁ : Fin k₁}
    {o₀ o₁ : ℕ} (h₀ : i₀.val = o₀ + j₀.val) (h₁ : i₁.val = o₁ + j₁.val) :
    ∀ a : Fin 2, ((ix2 i₀ i₁) a).val = ![o₀, o₁] a + ((ix2 j₀ j₁) a).val := fun a =>
  match a with
  | ⟨0, _⟩ => h₀
  | ⟨1, _⟩ => h₁

/-! The same at literal coordinates, rank three and two. -/

section
variable {e : EltTy} {Val : EltTy → Type} [∀ e, Nonempty (Val e)]

theorem canon_mem3 {d o z : Fin 3 → ℕ} (inb : ∀ a : Fin 3, o a + z a ≤ d a)
    (w : (Rect.unit (s := ⟨3, d⟩) o z inb).shape.Idx → Val e) (L : List (View.Piece Val ⟨3, d⟩ e))
    (y : (⟨3, d⟩ : Shape).Idx) (x : (⟨3, z⟩ : Shape).Idx) (h₀ : (y 0).val = o 0 + (x 0).val)
    (h₁ : (y 1).val = o 1 + (x 1).val) (h₂ : (y 2).val = o 2 + (x 2).val) :
    View.canon ((⟨Rect.unit (s := ⟨3, d⟩) o z inb, w⟩ : View.Piece Val ⟨3, d⟩ e) :: L) y = w x :=
  canon_mem (S := ⟨3, d⟩) inb w L y x fun a => match a with
    | ⟨0, _⟩ => h₀
    | ⟨1, _⟩ => h₁
    | ⟨2, _⟩ => h₂

theorem canon_mem2 {d o z : Fin 2 → ℕ} (inb : ∀ a : Fin 2, o a + z a ≤ d a)
    (w : (Rect.unit (s := ⟨2, d⟩) o z inb).shape.Idx → Val e) (L : List (View.Piece Val ⟨2, d⟩ e))
    (y : (⟨2, d⟩ : Shape).Idx) (x : (⟨2, z⟩ : Shape).Idx) (h₀ : (y 0).val = o 0 + (x 0).val)
    (h₁ : (y 1).val = o 1 + (x 1).val) :
    View.canon ((⟨Rect.unit (s := ⟨2, d⟩) o z inb, w⟩ : View.Piece Val ⟨2, d⟩ e) :: L) y = w x :=
  canon_mem (S := ⟨2, d⟩) inb w L y x fun a => match a with
    | ⟨0, _⟩ => h₀
    | ⟨1, _⟩ => h₁

end

end Cert.Tail
-- ==== Proof.WeightInBlock.lean ====
/- The block of the input projection's gradient at its last grid point: 28 pieces of 128 columns, each a piece of the accumulated
   product, eight of them with their middle quarters exchanged. -/
module

public import proofs.«01_k».proof.Proof.Gen.Kernel5Ideal.Frame
public import proofs.«01_k».proof.Proof.Coordinates
public import proofs.«01_k».proof.Proof.Columns
public import proofs.«01_k».proof.Proof.Tiles

@[expose] public section

set_option maxRecDepth 16384

noncomputable section

namespace Cert.WeightIn

open Idealize.ShloMosaic Cert.Kernel5Ideal Cert.Kernel5Ideal.Gen Idealize.ShloMosaic.TcCoe Idealize.SL.Sem Cert.Coordinates Cert.Columns
open Cert.Tail
open scoped BigOperators

theorem plain_at (v : Vec Ideal S1024x128 .f32) (i : Fin 1024) (l : Fin 128) :
    k0_pay21 (F := Ideal) v (ix3 0 i l) = v (ix2 i l) := by
  pointwise [k0_pay21]

/-- The middle quarters of a row of 128 exchanged. -/
def turn (l : Fin 128) : Fin 128 := ⟨l.val / 32 % 2 * 64 + l.val / 64 * 32 + l.val % 32, by omega⟩

theorem turned_at (v : Vec Ideal S1024x128 .f32) (i : Fin 1024) (l : Fin 128) :
    k0_pay5 (F := Ideal) v (ix3 0 i l) = v (ix2 i (turn l)) := by
  have e1 : ∀ l : Fin 128, IntOp.andi (IntOp.cmpi .sge (BitVec.ofNat 32 l.val) 32#32) (IntOp.cmpi .slt (BitVec.ofNat 32 l.val) 64#32)
      = if l.val / 32 = 1 then 1#1 else 0#1 := by decide +kernel
  have e2 : ∀ l : Fin 128, IntOp.andi (IntOp.cmpi .sge (BitVec.ofNat 32 l.val) 64#32) (IntOp.cmpi .slt (BitVec.ofNat 32 l.val) 96#32)
      = if l.val / 32 = 2 then 1#1 else 0#1 := by decide +kernel
  pointwise [k0_pay5]
  rw [e1, e2]
  by_cases h1 : l.val / 32 = 1
  · rw [if_pos h1]
    exact congrArg (fun k => v (ix2 i k)) (Fin.ext (show (l.val + 128 - 96) % 128 = l.val / 32 % 2 * 64 + l.val / 64 * 32 + l.val % 32 by omega))
  rw [if_neg h1]
  by_cases h2 : l.val / 32 = 2
  · rw [if_pos h2]
    exact congrArg (fun k => v (ix2 i k)) (Fin.ext (show (l.val + 128 - 32) % 128 = l.val / 32 % 2 * 64 + l.val / 64 * 32 + l.val % 32 by omega))
  rw [if_neg h2]
  exact congrArg (fun k => v (ix2 i k)) (Fin.ext (show l.val = l.val / 32 % 2 * 64 + l.val / 64 * 32 + l.val % 32 by omega))

/-- What the block holds of an accumulated product: at block `y 0` and column `y 2`, the product's column in the step's order. -/
def laid (A : Vec Ideal S1024x3584 .f32) : FVec Ideal S4x1024x896 .bf16 := fun y =>
  A (ix2 ⟨(y 1).val, (y 1).isLt⟩ (src ⟨896 * (y 0).val + (y 2).val, by have := (y 0).isLt; have := (y 2).isLt; simp at *; omega⟩))

variable (A : Vec Ideal S1024x3584 .f32) {q e off : ℕ}
  (inb : ∀ a, (![q, 0, e] : Fin 3 → ℕ) a + (![1, 1024, 128] : Fin 3 → ℕ) a ≤ S4x1024x896.size a)
  (inb' : ∀ a, (![0, off] : Fin 2 → ℕ) a + (![1024, 128] : Fin 2 → ℕ) a ≤ S1024x3584.size a)
  (inb0 : ∀ a, (![0, 0] : Fin 2 → ℕ) a + (![1024, 3584] : Fin 2 → ℕ) a ≤ S1024x3584.size a)

include inb' in
/-- The piece of the product that is read back. -/
theorem read_at (i : Fin 1024) (l : Fin 128) :
    (View.whole cc0_scratch0).readCov (Val := Elt Ideal) [⟨Rect.unit (s := S1024x3584) ![0, 0] ![1024, 3584] inb0, A⟩]
      (Rect.unit (s := S1024x3584) ![0, off] ![1024, 128] inb').toLoadRect (ix2 i l)
      = A (ix2 i ⟨off + l.val, by have h : off + 128 ≤ 3584 := inb' 1; omega⟩) := by
  have h : off + 128 ≤ 3584 := inb' 1
  refine (readCov_at (Val := Elt Ideal) (S := S1024x3584) (e := .f32) _ _ inb' (ix2 i l) (ix2 i ⟨off + l.val, by omega⟩) fun a => by
    match a with | ⟨0, _⟩ => exact (Nat.zero_add _).symm | ⟨1, _⟩ => rfl).trans ?_
  exact canon_mem2 _ _ _ _ (ix2 i ⟨off + l.val, by omega⟩) (Nat.zero_add _).symm (Nat.zero_add _).symm

/-- Where a piece's columns come from, checked column by column. -/
def Taken (f : Fin 128 → Fin 128) (q e off : ℕ) : Prop := ∀ l : Fin 128, ∀ h : 896 * q + (e + l.val) < 3584,
  (src ⟨896 * q + (e + l.val), h⟩).val = off + (f l).val

theorem laid_at (f : Fin 128 → Fin 128) (h : Taken f q e off) (i : Fin 1024) (l : Fin 128)
    (y : S4x1024x896.Idx) (h0 : (y 0).val = q) (h1 : (y 1).val = i.val) (h2 : (y 2).val = e + l.val) (hb : off + (f l).val < 3584) :
    A (ix2 i ⟨off + (f l).val, hb⟩) = laid A y := by
  have b0 : (y 0).val < 4 := (y 0).isLt
  have b2 : (y 2).val < 896 := (y 2).isLt
  have e1 : (⟨(y 1).val, (y 1).isLt⟩ : Fin 1024) = i := Fin.ext h1
  have e2 : src ⟨896 * (y 0).val + (y 2).val, by omega⟩ = ⟨off + (f l).val, hb⟩ := Fin.ext (by
    have hk := h l (by rw [← h0, ← h2]; omega)
    simpa only [h0, h2] using hk)
  unfold laid
  rw [e1, e2]

theorem plain_piece (h : Taken id q e off) (x : (Rect.unit (s := S4x1024x896) ![q, 0, e] ![1, 1024, 128] inb).shape.Idx) :
    k0_pay21 (F := Ideal) ((View.whole cc0_scratch0).readCov (Val := Elt Ideal) [⟨Rect.unit (s := S1024x3584) ![0, 0] ![1024, 3584] inb0, A⟩]
      (Rect.unit (s := S1024x3584) ![0, off] ![1024, 128] inb').toLoadRect) x
      = laid A ((Rect.unit (s := S4x1024x896) ![q, 0, e] ![1, 1024, 128] inb).emb x) := by
  obtain ⟨i, l, rfl⟩ := split3 (n := 1024) (k := 128) x
  refine (plain_at _ i l).trans ((read_at A inb' inb0 i l).trans ?_)
  refine laid_at A id h i l _ ?_ ?_ ?_ _
  · exact Nat.add_zero q
  · show 0 + 1 * i.val = i.val; omega
  · show e + 1 * l.val = e + l.val; omega

theorem turned_piece (h : Taken turn q e off) (x : (Rect.unit (s := S4x1024x896) ![q, 0, e] ![1, 1024, 128] inb).shape.Idx) :
    k0_pay5 (F := Ideal) ((View.whole cc0_scratch0).readCov (Val := Elt Ideal) [⟨Rect.unit (s := S1024x3584) ![0, 0] ![1024, 3584] inb0, A⟩]
      (Rect.unit (s := S1024x3584) ![0, off] ![1024, 128] inb').toLoadRect) x
      = laid A ((Rect.unit (s := S4x1024x896) ![q, 0, e] ![1, 1024, 128] inb).emb x) := by
  obtain ⟨i, l, rfl⟩ := split3 (n := 1024) (k := 128) x
  refine (turned_at _ i l).trans ((read_at A inb' inb0 i (turn l)).trans ?_)
  refine laid_at A turn h i l _ ?_ ?_ ?_ _
  · exact Nat.add_zero q
  · show 0 + 1 * i.val = i.val; omega
  · show e + 1 * l.val = e + l.val; omega

end Cert.WeightIn

end
-- ==== Proof.WeightIn.lean ====
/- The gradient of the weight of the mixer's input projection: the kernel's sum over the tokens' and then the contexts' rows, and the
   reference's two products. -/
module

public import proofs.«01_k».proof.Proof.WeightInBlock
public import proofs.«01_k».proof.Proof.Gen.Reference5Ideal.Read
public import Idealize.ShloMosaic.Lib.TwoAxisContraction

@[expose] public section

set_option maxRecDepth 16384

noncomputable section

namespace Cert.WeightIn

open Idealize.ShloMosaic Cert.Kernel5Ideal Cert.Kernel5Ideal.Gen Idealize.ShloMosaic.TcCoe Idealize.SL.Sem Cert.Coordinates Cert.Columns
open scoped BigOperators

variable (m : (ℓ : Loc nD τ sig) → Buf (Elt Ideal) ℓ) (c : Dev nD)

/-- The mixer's inputs and the cotangents of their projections, of the tokens and of the contexts, on one device. -/
def left : FVec Ideal S2x2048x1024 .f32 := m ((c : Thread nD τ).loc main_arg0)
def right : FVec Ideal S2x2048x3584 .f32 := m ((c : Thread nD τ).loc main_arg1)
def leftC : FVec Ideal S2x256x1024 .f32 := m ((c : Thread nD τ).loc main_arg2)
def rightC : FVec Ideal S2x256x3584 .f32 := m ((c : Thread nD τ).loc main_arg3)

/-- One step adds the products of 512 rows. -/
theorem step_at (v : Vec Ideal S1024x3584 .f32) (x : Vec Ideal S512x1024 .bf16) (y : Vec Ideal S512x3584 .bf16) (i : Fin 1024) (j : Fin 3584) :
    k0_pay2 (F := Ideal) v x y (ix2 i j) = v (ix2 i j) + ∑ n : Fin 512, x (ix2 n i) * y (ix2 n j) := by
  pointwise [k0_pay2]

theorem last_at (v : Vec Ideal S1024x3584 .f32) (x : Vec Ideal S512x1024 .bf16) (y : Vec Ideal S512x3584 .bf16) (i : Fin 1024) (j : Fin 3584) :
    k0_pay3 (F := Ideal) v x y (ix2 i j) = v (ix2 i j) + ∑ n : Fin 512, x (ix2 n i) * y (ix2 n j) := step_at v x y i j

theorem start_at (i : Fin 1024) (j : Fin 3584) : k0_pay1 (F := Ideal) (ix2 i j) = 0 := by pointwise [k0_pay1]

variable (t : Fin cfg0.N)

theorem scratch_first (h0 : t.val = 0) :
    (outsAt0 m c t.val t.isLt).2 = k0_pay2 (F := Ideal) (k0_pay1 (F := Ideal)) (iblk m c 0 t) (iblk m c 1 t) := by
  rw [outsAt0_A m c t (by omega) (by omega) (by omega) (by omega)]; frame_out

theorem scratch_next (h0 : t.val ≠ 0) (h1 : t.val < 8) :
    (outsAt0 m c t.val t.isLt).2 = k0_pay2 (F := Ideal)
      (outsAt0 m c (t.val - 1) (Nat.lt_of_le_of_lt (Nat.sub_le _ _) t.isLt)).2 (iblk m c 0 t) (iblk m c 1 t) := by
  rw [outsAt0_B m c t (by omega) (by omega) (by omega) (by omega)]; frame_out
  exact congrArg (fun v => k0_pay2 (F := Ideal) v (iblk m c 0 t) (iblk m c 1 t)) ((Memref.isWhole_whole cc0_scratch0).read_unread _)

/-- At its last point the block is the accumulated product, the contexts' products added, laid out in four blocks. -/
theorem out_last (h1 : t.val = 8) :
    (outsAt0 m c t.val t.isLt).1 = laid (k0_pay3 (F := Ideal)
      (outsAt0 m c (t.val - 1) (Nat.lt_of_le_of_lt (Nat.sub_le _ _) t.isLt)).2 (iblk m c 2 t) (iblk m c 3 t)) := by
  rw [outsAt0_C m c t (by omega) (by omega) (by omega) (by omega)]; frame_out
  simp only [(Memref.isWhole_whole cc0_scratch0).read_unread]
  generalize k0_pay3 (F := Ideal) (outsAt0 m c (t.val - 1) (Nat.lt_of_le_of_lt (Nat.sub_le _ _) t.isLt)).2 (iblk m c 2 t) (iblk m c 3 t) = A
  funext y
  refine View.canon_apply_of_pieces _ _ ?_ y (View.cover_of_tiledL (s := S4x1024x896) _ ![1, 1024, 128] (by sl_kernel_rfl) y)
  iterate 20
    refine List.forall_mem_cons.mpr ⟨fun x => ?_, ?_⟩
    · dsimp only
      refine plain_piece A _ _ _ ?_ x
      unfold Taken; decide +kernel
  iterate 8
    refine List.forall_mem_cons.mpr ⟨fun x => ?_, ?_⟩
    · dsimp only
      refine turned_piece A _ _ _ ?_ x
      unfold Taken; decide +kernel
  exact List.forall_mem_nil _

theorem tlt : t.val < 9 := lt_of_lt_of_eq t.isLt (by decide +kernel)

/-- Where each window stands at each grid point. -/
theorem idx : ∀ t : Fin cfg0.N, win0_0.index t = ![min t.val 7, 0] ∧ win0_1.index t = ![min t.val 7, 0]
    ∧ win0_2.index t = ![0, 0] ∧ win0_3.index t = ![0, 0] ∧ win0_4.index t = ![0, 0, 0] :=
  (by decide +kernel : ∀ t : Fin grid0.N, _)

/-- A row of the flattened tokens, or contexts, is the row of its sample. -/
theorem row_at (x : FVec Ideal S2x2048x3584 .f32) (h : S2x2048x3584.ShapeCasts S4096x3584) (r : Fin 4096) (b : Fin 2) (n : Fin 2048) (j : Fin 3584)
    (e : r.val = b.val * 2048 + n.val) : shapeCast S4096x3584 x h (ix2 r j) = x (ix3 b n j) :=
  shapeCast_apply x h (ix2 r j) (ix3 b n j) (by
    rw [Shape.rowMajor_val_two, Shape.rowMajor_val_three]
    show (b.val * 2048 + n.val) * 3584 + j.val = r.val * 3584 + j.val
    rw [e])

theorem rowC_at (x : FVec Ideal S2x256x3584 .f32) (h : S2x256x3584.ShapeCasts S512x3584) (r : Fin 512) (b : Fin 2) (n : Fin 256) (j : Fin 3584)
    (e : r.val = b.val * 256 + n.val) : shapeCast S512x3584 x h (ix2 r j) = x (ix3 b n j) :=
  shapeCast_apply x h (ix2 r j) (ix3 b n j) (by
    rw [Shape.rowMajor_val_two, Shape.rowMajor_val_three]
    show (b.val * 256 + n.val) * 3584 + j.val = r.val * 3584 + j.val
    rw [e])

/-- The sample and the token of row `n` of grid point `t`'s rows. -/
def smp (h : t.val < 8) : Fin 2 := ⟨t.val / 4, by omega⟩
def tok (h : t.val < 8) (n : Fin 512) : Fin 2048 := ⟨t.val % 4 * 512 + n.val, by omega⟩

theorem left_at (h : t.val < 8) (n : Fin 512) (i : Fin 1024) : iblk m c 0 t (ix2 n i) = left m c (ix3 (smp t h) (tok t h n) i) := by
  show iblk m c 0 t (ix2 n i) = m ((c : Thread nD τ).loc main_arg0) (ix3 (smp t h) (tok t h n) i)
  blk_simp [iblk, idx t, smp, tok]
  entry_read
  pointwise
  blk_ext [idx t]

theorem right_at (h : t.val < 8) (n : Fin 512) (j : Fin 3584) :
    iblk m c 1 t (ix2 n (src j)) = right m c (ix3 (smp t h) (tok t h n) j) := by
  show iblk m c 1 t (ix2 n (src j)) = m ((c : Thread nD τ).loc main_arg1) (ix3 (smp t h) (tok t h n) j)
  blk_simp [iblk, idx t, smp, tok]
  entry_read
  have e : ((View.whole main_v17).slice (win0_1.rect t)).emb (ix2 n (src j)) = ix2 ⟨t.val * 512 + n.val, by omega⟩ (src j) := by
    blk_ext [idx t]
  rw [e]
  refine Eq.trans (b := shapeCast S4096x3584 (m ((c : Thread nD τ).loc main_arg1)) _ _) (columns_at (N := 4096) (M := 32768) _ _ _ _ _ _ _ _ _ _ _ _ _ _ concatenates_S4096x2048_S4096x1536_S4096x3584_d1 rfl _ j) ?_
  refine row_at _ _ _ _ _ _ ?_
  show t.val * 512 + n.val = t.val / 4 * 2048 + (t.val % 4 * 512 + n.val)
  omega

theorem leftC_at (h : t.val = 8) (b : Fin 2) (n : Fin 256) (i : Fin 1024) :
    iblk m c 2 t (ix2 ⟨b.val * 256 + n.val, by omega⟩ i) = leftC m c (ix3 b n i) := by
  show iblk m c 2 t (ix2 ⟨b.val * 256 + n.val, by omega⟩ i) = m ((c : Thread nD τ).loc main_arg2) (ix3 b n i)
  blk_simp [iblk, idx t]
  entry_read
  pointwise
  blk_ext [idx t]

theorem rightC_at (h : t.val = 8) (b : Fin 2) (n : Fin 256) (j : Fin 3584) :
    iblk m c 3 t (ix2 ⟨b.val * 256 + n.val, by omega⟩ (src j)) = rightC m c (ix3 b n j) := by
  show iblk m c 3 t (ix2 ⟨b.val * 256 + n.val, by omega⟩ (src j)) = m ((c : Thread nD τ).loc main_arg3) (ix3 b n j)
  blk_simp [iblk, idx t]
  entry_read
  have e : ((View.whole main_v33).slice (win0_3.rect t)).emb (ix2 ⟨b.val * 256 + n.val, by omega⟩ (src j))
      = ix2 ⟨b.val * 256 + n.val, by omega⟩ (src j) := by
    blk_ext [idx t]
  rw [e]
  refine Eq.trans (b := shapeCast S512x3584 (m ((c : Thread nD τ).loc main_arg3)) _ _) (columns_at (N := 512) (M := 4096) _ _ _ _ _ _ _ _ _ _ _ _ _ _ concatenates_S512x2048_S512x1536_S512x3584_d1 rfl _ j) ?_
  exact rowC_at _ _ _ _ _ _ rfl

/-- The blocks that a step multiplies. -/
abbrev rowsL : Vec Ideal S512x1024 .bf16 := iblk m c 0 t
abbrev rowsR : Vec Ideal S512x3584 .bf16 := iblk m c 1 t
abbrev rowsLC : Vec Ideal S512x1024 .bf16 := iblk m c 2 t
abbrev rowsRC : Vec Ideal S512x3584 .bf16 := iblk m c 3 t

/-- The products of the rows of grid point `t`'s step, and all contexts' products. -/
def part (i : Fin 1024) (j : Fin 3584) (p : Fin 2 × Fin 4) : Ideal .f32 :=
  ∑ n : Fin 512, left m c (ix3 p.1 ⟨p.2.val * 512 + n.val, by omega⟩ i) * right m c (ix3 p.1 ⟨p.2.val * 512 + n.val, by omega⟩ j)

theorem step_part (h : t.val < 8) (i : Fin 1024) (j : Fin 3584) :
    ∑ n : Fin 512, rowsL m c t (ix2 n i) * rowsR m c t (ix2 n (src j))
      = part m c i j (finProdFinEquiv.symm (⟨t.val, h⟩ : Fin (2 * 4))) :=
  Finset.sum_congr rfl fun n _ => congrArg₂ (· * ·) (left_at m c t h n i) (right_at m c t h n j)

/-- After grid point `t` of the tokens' steps the scratch holds the sum of the steps so far. -/
theorem scratch_at (i : Fin 1024) (j : Fin 3584) : ∀ (k : ℕ) (hk : k < 8) (t : Fin cfg0.N), t.val = k →
    (outsAt0 m c t.val t.isLt).2 (ix2 i (src j))
      = ∑ q : Fin (k + 1), part m c i j (finProdFinEquiv.symm (⟨q.val, by omega⟩ : Fin (2 * 4)))
  | 0, hk, t, e => by
    rw [scratch_first m c t e, step_at, start_at, zero_add, step_part m c t (by omega)]
    simp [e]
  | k + 1, hk, t, e => by
    have hs : t.val - 1 < cfg0.N := Nat.lt_of_le_of_lt (Nat.sub_le _ _) t.isLt
    rw [scratch_next m c t (by omega) (by omega), step_at, step_part m c t (by omega),
      scratch_at i j k (by omega) ⟨t.val - 1, hs⟩ (by show t.val - 1 = k; omega), Fin.sum_univ_castSucc (n := k + 1)]
    simp [e]

/-- A sum over the tokens of a sample is a sum over four steps of 512. -/
theorem tokens_sum (f : Fin 2048 → Ideal .f32) : ∑ p : Fin 4, ∑ n : Fin 512, f ⟨p.val * 512 + n.val, by omega⟩ = ∑ n : Fin 2048, f n := by
  rw [← Fintype.sum_prod_type']
  refine Fintype.sum_equiv (finProdFinEquiv (m := 4) (n := 512)) _ _ fun p => congrArg f (Fin.ext ?_)
  show p.1.val * 512 + p.2.val = p.2.val + 512 * p.1.val
  omega

theorem contexts_sum (f : Fin 512 → Ideal .f32) : ∑ n : Fin 512, f n = ∑ b : Fin 2, ∑ n : Fin 256, f ⟨b.val * 256 + n.val, by omega⟩ := by
  rw [← Fintype.sum_prod_type']
  refine (Fintype.sum_equiv (finProdFinEquiv (m := 2) (n := 256)) _ _ fun p => congrArg f (Fin.ext ?_)).symm
  show p.1.val * 256 + p.2.val = p.2.val + 256 * p.1.val
  omega

/-- All the tokens' products. -/
theorem parts_sum (i : Fin 1024) (j : Fin 3584) :
    ∑ q : Fin (7 + 1), part m c i j (finProdFinEquiv.symm (⟨q.val, by omega⟩ : Fin (2 * 4)))
      = ∑ b : Fin 2, ∑ n : Fin 2048, left m c (ix3 b n i) * right m c (ix3 b n j) := by
  refine Eq.trans (Fintype.sum_equiv (finProdFinEquiv (m := 2) (n := 4)).symm _ (part m c i j) fun q => rfl) ?_
  rw [Fintype.sum_prod_type]
  exact Finset.sum_congr rfl fun b _ => tokens_sum fun n => left m c (ix3 b n i) * right m c (ix3 b n j)

/-- The block that the last grid point leaves, in terms of the arguments. -/
theorem out_at (h : t.val = 8) (q : Fin 4) (i : Fin 1024) (e : Fin 896) (j : Fin 3584) (hj : j.val = 896 * q.val + e.val) :
    (outsAt0 m c t.val t.isLt).1 (ix3 q i e) = ∑ b : Fin 2, ∑ n : Fin 2048, left m c (ix3 b n i) * right m c (ix3 b n j)
      + ∑ b : Fin 2, ∑ n : Fin 256, leftC m c (ix3 b n i) * rightC m c (ix3 b n j) := by
  have hs : t.val - 1 < cfg0.N := Nat.lt_of_le_of_lt (Nat.sub_le _ _) t.isLt
  have hl : ∀ A : FVec Ideal S1024x3584 .f32, laid A (ix3 q i e) = A (ix2 i (src j)) := fun A => by
    show A (ix2 i (src ⟨896 * q.val + e.val, _⟩)) = A (ix2 i (src j))
    exact congrArg (fun k => A (ix2 i (src k))) (Fin.ext hj.symm)
  rw [out_last m c t h, hl, last_at, scratch_at m c i j 7 (by omega) ⟨t.val - 1, hs⟩ (by show t.val - 1 = 7; omega), parts_sum]
  refine congrArg (_ + ·) ((contexts_sum fun n => rowsLC m c t (ix2 n i)
    * rowsRC m c t (ix2 n (src j))).trans ?_)
  exact Finset.sum_congr rfl fun b _ => Finset.sum_congr rfl fun n _ => congrArg₂ (· * ·) (leftC_at m c t h b n i) (rightC_at m c t h b n j)

/-- The reference's products over all tokens and over all contexts. -/
theorem tokens_at (x : FVec Ideal S2x2048x1024 .f32) (y : FVec Ideal S2x2048x3584 .f32) (i : Fin 1024) (j : Fin 3584) :
    Cert.Reference5Ideal.Read.val_main_v6 (F := Ideal) x y (ix2 i j) = ∑ b : Fin 2, ∑ n : Fin 2048, x (ix3 b n i) * y (ix3 b n j) := by
  pointwise [Cert.Reference5Ideal.Read.val_main_v6, Cert.Reference5Ideal.Read.val_main_v5]
  exact Finset.sum_congr rfl fun b _ => Finset.sum_congr rfl fun n _ => mul_comm _ _

theorem contexts_at (x : FVec Ideal S2x256x1024 .f32) (y : FVec Ideal S2x256x3584 .f32) (i : Fin 1024) (j : Fin 3584) :
    Cert.Reference5Ideal.Read.val_main_v4 (F := Ideal) x y (ix2 i j) = ∑ b : Fin 2, ∑ n : Fin 256, x (ix3 b n i) * y (ix3 b n j) := by
  pointwise [Cert.Reference5Ideal.Read.val_main_v4, Cert.Reference5Ideal.Read.val_main_v3]
  exact Finset.sum_congr rfl fun b _ => Finset.sum_congr rfl fun n _ => mul_comm _ _

theorem result_at (x : FVec Ideal S2x2048x1024 .f32) (y : FVec Ideal S2x2048x3584 .f32) (x' : FVec Ideal S2x256x1024 .f32)
    (y' : FVec Ideal S2x256x3584 .f32) (q : Fin 4) (i : Fin 1024) (e : Fin 896) (j : Fin 3584) (hj : j.val = 896 * q.val + e.val) :
    Cert.Reference5Ideal.Read.val_main_v10 (F := Ideal) x y x' y' (ix3 q i e)
      = Cert.Reference5Ideal.Read.val_main_v6 (F := Ideal) x y (ix2 i j) + Cert.Reference5Ideal.Read.val_main_v4 (F := Ideal) x' y' (ix2 i j) := by
  refine Eq.trans ?_ (add_comm _ _)
  refine (Cert.Reference5Ideal.Read.val_main_v9_apply (F := Ideal) x y x' y' (ix3 q i e)).trans ?_
  refine shapeCast_apply (Cert.Reference5Ideal.Read.val_main_v7 (F := Ideal) x y x' y') _ (ix3 i q e) (ix2 i j) ?_
  rw [Shape.rowMajor_val_two, Shape.rowMajor_val_three]
  show i.val * 3584 + j.val = (i.val * 4 + q.val) * 896 + e.val
  omega

theorem split (y : S4x1024x896.Idx) : ∃ (q : Fin 4) (i : Fin 1024) (e : Fin 896), y = ix3 q i e :=
  ⟨y 0, y 1, y 2, by funext a; fin_cases a <;> rfl⟩

/-- The final array is the reference's result. -/
theorem array : (dats m 0 c).arrAt 4 cfg0.N
    = Cert.Reference5Ideal.Read.val_main_v10 (F := Ideal) (left m c) (right m c) (leftC m c) (rightC m c) := by
  refine (dats m 0 c).arrAt_eq_of_covers 4 _ (by decide +kernel) fun t hf y => ?_
  obtain ⟨q, i, e, rfl⟩ := split y
  have h1 := (flush0_4 t).mp hf
  have h2 := tlt t
  have he : ((cfg0.win 4).blk t).view.emb (ix3 q i e) = ix3 q i e := by blk_ext [idx t]
  rw [after0_4]
  refine (out_at m c t (by omega) q i e ⟨896 * q.val + e.val, by omega⟩ rfl).trans ?_
  refine Eq.trans ?_ (congrArg (Cert.Reference5Ideal.Read.val_main_v10 (F := Ideal) (left m c) (right m c) (leftC m c) (rightC m c)) he).symm
  refine Eq.symm ((result_at _ _ _ _ q i e ⟨896 * q.val + e.val, by omega⟩ rfl).trans ?_)
  rw [tokens_at, contexts_at]

/-- The kernel's run: its result is the final array, its arguments are kept. -/
theorem kernel_run (ρ : Dev nD → PrngReg) :
    θ_run defs (onTc (τ := τ) (main (F := Ideal))) ⟨m, fun _ => 0, ρ⟩ fun r => ∀ c : Dev nD,
      r.2.mem ((c : Thread nD τ).loc main_v36) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1 4,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩) (run_main m ρ)

/-- The reference's run from the same arguments: its result is the same array. -/
theorem reference_run
    (m' : (ℓ : Loc Cert.Reference5Ideal.nD Cert.Reference5Ideal.τ Cert.Reference5Ideal.sig) → Buf (Elt Ideal) ℓ) (g' : Dev Cert.Reference5Ideal.nD → PrngReg)
    (ha : ∀ c : Dev nD,
      m' ((c.tc : Thread Cert.Reference5Ideal.nD Cert.Reference5Ideal.τ).loc Cert.Reference5Ideal.main_arg0) = left m c
      ∧ m' ((c.tc : Thread Cert.Reference5Ideal.nD Cert.Reference5Ideal.τ).loc Cert.Reference5Ideal.main_arg1) = right m c
      ∧ m' ((c.tc : Thread Cert.Reference5Ideal.nD Cert.Reference5Ideal.τ).loc Cert.Reference5Ideal.main_arg2) = leftC m c
      ∧ m' ((c.tc : Thread Cert.Reference5Ideal.nD Cert.Reference5Ideal.τ).loc Cert.Reference5Ideal.main_arg3) = rightC m c) :
    θ_run (Cert.Reference5Ideal.defs (F := Ideal)) (onTc (τ := Cert.Reference5Ideal.τ) (Cert.Reference5Ideal.main (F := Ideal))) ⟨m', fun _ => 0, g'⟩
      (fun r => ∀ c : Dev Cert.Reference5Ideal.nD,
        r.2.mem ((c.tc : Thread Cert.Reference5Ideal.nD Cert.Reference5Ideal.τ).loc Cert.Reference5Ideal.main_v10) = (dats m 0 c).arrAt 4 cfg0.N
        ∧ r.2.mem ((c.tc : Thread Cert.Reference5Ideal.nD Cert.Reference5Ideal.τ).loc Cert.Reference5Ideal.main_arg0)
          = m' ((c.tc : Thread Cert.Reference5Ideal.nD Cert.Reference5Ideal.τ).loc Cert.Reference5Ideal.main_arg0)
        ∧ r.2.mem ((c.tc : Thread Cert.Reference5Ideal.nD Cert.Reference5Ideal.τ).loc Cert.Reference5Ideal.main_arg1)
          = m' ((c.tc : Thread Cert.Reference5Ideal.nD Cert.Reference5Ideal.τ).loc Cert.Reference5Ideal.main_arg1)
        ∧ r.2.mem ((c.tc : Thread Cert.Reference5Ideal.nD Cert.Reference5Ideal.τ).loc Cert.Reference5Ideal.main_arg2)
          = m' ((c.tc : Thread Cert.Reference5Ideal.nD Cert.Reference5Ideal.τ).loc Cert.Reference5Ideal.main_arg2)
        ∧ r.2.mem ((c.tc : Thread Cert.Reference5Ideal.nD Cert.Reference5Ideal.τ).loc Cert.Reference5Ideal.main_arg3)
          = m' ((c.tc : Thread Cert.Reference5Ideal.nD Cert.Reference5Ideal.τ).loc Cert.Reference5Ideal.main_arg3)) := by
  refine (θ_run _ _ _).mono (fun r h c => ?_) (Cert.Reference5Ideal.Value.run (F := Ideal) m' g')
  obtain ⟨h0, hk⟩ := h c
  have e := h0.trans (Cert.Reference5Ideal.Read.val_main_v10_eq (F := Ideal) _ _ _ _)
  rw [(ha c).1, (ha c).2.1, (ha c).2.2.1, (ha c).2.2.2] at e
  exact ⟨e.trans (array m c).symm, hk⟩

end Cert.WeightIn

end
-- ==== Proof.ProjRun.lean ====
/- The body of the projection's call run once from symbolic buffers at the first grid point, where it also puts the weight's
   columns into their order. -/
module

public import proofs.«01_k».proof.Proof.Gen.Kernel6Ideal.Frame
public import proofs.«01_k».proof.Proof.Gen.Kernel6Ideal.Skeleton

@[expose] public section

set_option maxRecDepth 16384

noncomputable section

namespace Cert.ProjRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel6Ideal Cert.Kernel6Ideal.Gen

variable {F : FTy → Type} [FloatOps F]

variable (c : Dev nD) (i : grid0.Coords)
  {tok : Memref sig .tc .vmem S1x512x1024 .f32} {mod : Memref sig .tc .vmem S1x6x1024 .f32}
  {gain : Memref sig .tc .vmem S1x1024 .f32} {wgt : Memref sig .tc .vmem S4x1024x896 .bf16}
  {hid : Memref sig .tc .vmem S1x512x1024 .bf16} {ret : Memref sig .tc .vmem S1x512x2048 .f32}
  {att : Memref sig .tc .vmem S1x512x1536 .bf16} {col : Memref sig .tc .vmem S1024x3584 .bf16}
  (h2 : tok.IsWhole) (h3 : mod.IsWhole) (h4 : gain.IsWhole) (h5 : wgt.IsWhole) (h6 : hid.IsWhole) (h7 : ret.IsWhole)
  (h8 : att.IsWhole) (h9 : col.IsWhole)

set_option maxHeartbeats 4000000 in
/-- The first point: what its stores leave in the four outputs, with the triple of its run. -/
noncomputable def first (hc : k0_cond1 i = 1#1)
    (x : Vec F S1x512x1024 .f32) (a : Vec F S1x6x1024 .f32) (g : Vec F S1x1024 .f32) (p : Vec F S4x1024x896 .bf16) :
    Σ' (L : List (View.Piece (Elt F) S1x512x1024 .bf16)) (R : List (View.Piece (Elt F) S1x512x2048 .f32))
      (N : List (View.Piece (Elt F) S1x512x1536 .bf16)), { U : List (View.Piece (Elt F) S1024x3584 .bf16) //
      ∀ (E : Set ℕ) (K : PUnit → sProp (MT nD τ sig Unit (Elt F) ℕ (UR sig nD τ) ℕ)),
        iprop(owns (c : Thread nD τ) tok fullShare x ∗ owns (c : Thread nD τ) mod fullShare a ∗ owns (c : Thread nD τ) gain fullShare g
            ∗ owns (c : Thread nD τ) wgt fullShare p
            ∗ (∃ d, owns (c : Thread nD τ) hid fullShare d) ∗ (∃ d, owns (c : Thread nD τ) ret fullShare d)
            ∗ (∃ d, owns (c : Thread nD τ) att fullShare d) ∗ (∃ d, owns (c : Thread nD τ) col fullShare d)
            ∗ (iprop(owns (c : Thread nD τ) tok fullShare x ∗ owns (c : Thread nD τ) mod fullShare a ∗ owns (c : Thread nD τ) gain fullShare g
                ∗ owns (c : Thread nD τ) wgt fullShare p
                ∗ (∃ f, hid.view.loc (c : Thread nD τ) ↦[hid.view.set]{fullShare} hid.view.writes (Elt F) f L)
                ∗ (∃ f, ret.view.loc (c : Thread nD τ) ↦[ret.view.set]{fullShare} ret.view.writes (Elt F) f R)
                ∗ (∃ f, att.view.loc (c : Thread nD τ) ↦[att.view.set]{fullShare} att.view.writes (Elt F) f N)
                ∗ (∃ f, col.view.loc (c : Thread nD τ) ↦[col.view.set]{fullShare} col.view.writes (Elt F) f U)) -∗ K ⟨⟩))
          ⊢ wp frame (wpE (defs₀ (F := F)) Variants.none c none) E (cc0_premix_proj i tok h2 mod h3 gain h4 wgt h5 hid h6 ret h7 att h8 col h9) K } := by
  refine ⟨?_, ?_, ?_, ?_, fun E K => ?run⟩
  case run =>
    simp only [cc0_premix_proj_eq_skeleton]; unfold cc0_premix_proj_skel
    simp only [k0_part8_eq_skeleton, k0_part1_eq_skeleton, k0_part2_eq_skeleton, k0_part3_eq_skeleton, k0_part4_eq_skeleton,
      k0_part5_eq_skeleton, k0_part6_eq_skeleton, k0_part7_eq_skeleton]
    unfold owns
    iintro ⟨⟨%f0, %e0, H0⟩, ⟨%f1, %e1, H1⟩, ⟨%f2, %e2, H2⟩, ⟨%f3, %e3, H3⟩, ⟨%d4, %f4, -, H4⟩, ⟨%d5, %f5, -, H5⟩, ⟨%d6, %f6, -, H6⟩, ⟨%d7, %f7, -, H7⟩, Hk⟩
    obtain rfl := h2.eq_unread e0; obtain rfl := h3.eq_unread e1; obtain rfl := h4.eq_unread e2; obtain rfl := h5.eq_unread e3
    sl_exec (disch := sl_exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]; · iexists _; iexact H5
    isplitl [H6]; · iexists _; iexact H6
    iexists _; iexact H7

end Cert.ProjRun

end
-- ==== Proof.ProjLater.lean ====
/- The body of the projection's call run once from symbolic buffers at a later grid point, where it reads the columns the first has
   put in order. -/
module

public import proofs.«01_k».proof.Proof.Gen.Kernel6Ideal.Frame
public import proofs.«01_k».proof.Proof.Gen.Kernel6Ideal.Skeleton

@[expose] public section

set_option maxRecDepth 16384

noncomputable section

namespace Cert.ProjRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel6Ideal Cert.Kernel6Ideal.Gen

variable {F : FTy → Type} [FloatOps F]

variable (c : Dev nD) (i : grid0.Coords)
  {tok : Memref sig .tc .vmem S1x512x1024 .f32} {mod : Memref sig .tc .vmem S1x6x1024 .f32}
  {gain : Memref sig .tc .vmem S1x1024 .f32} {wgt : Memref sig .tc .vmem S4x1024x896 .bf16}
  {hid : Memref sig .tc .vmem S1x512x1024 .bf16} {ret : Memref sig .tc .vmem S1x512x2048 .f32}
  {att : Memref sig .tc .vmem S1x512x1536 .bf16} {col : Memref sig .tc .vmem S1024x3584 .bf16}
  (h2 : tok.IsWhole) (h3 : mod.IsWhole) (h4 : gain.IsWhole) (h5 : wgt.IsWhole) (h6 : hid.IsWhole) (h7 : ret.IsWhole)
  (h8 : att.IsWhole) (h9 : col.IsWhole)

set_option maxHeartbeats 4000000 in
/-- A later point: it reads the columns `u` and leaves them as they are. -/
noncomputable def later (hc : ¬k0_cond1 i = 1#1)
    (x : Vec F S1x512x1024 .f32) (a : Vec F S1x6x1024 .f32) (g : Vec F S1x1024 .f32) (p : Vec F S4x1024x896 .bf16)
    (u : Vec F S1024x3584 .bf16) :
    Σ' (L : List (View.Piece (Elt F) S1x512x1024 .bf16)) (R : List (View.Piece (Elt F) S1x512x2048 .f32)),
      { N : List (View.Piece (Elt F) S1x512x1536 .bf16) //
      ∀ (E : Set ℕ) (K : PUnit → sProp (MT nD τ sig Unit (Elt F) ℕ (UR sig nD τ) ℕ)),
        iprop(owns (c : Thread nD τ) tok fullShare x ∗ owns (c : Thread nD τ) mod fullShare a ∗ owns (c : Thread nD τ) gain fullShare g
            ∗ owns (c : Thread nD τ) wgt fullShare p
            ∗ (∃ d, owns (c : Thread nD τ) hid fullShare d) ∗ (∃ d, owns (c : Thread nD τ) ret fullShare d)
            ∗ (∃ d, owns (c : Thread nD τ) att fullShare d) ∗ owns (c : Thread nD τ) col fullShare u
            ∗ (iprop(owns (c : Thread nD τ) tok fullShare x ∗ owns (c : Thread nD τ) mod fullShare a ∗ owns (c : Thread nD τ) gain fullShare g
                ∗ owns (c : Thread nD τ) wgt fullShare p
                ∗ (∃ f, hid.view.loc (c : Thread nD τ) ↦[hid.view.set]{fullShare} hid.view.writes (Elt F) f L)
                ∗ (∃ f, ret.view.loc (c : Thread nD τ) ↦[ret.view.set]{fullShare} ret.view.writes (Elt F) f R)
                ∗ (∃ f, att.view.loc (c : Thread nD τ) ↦[att.view.set]{fullShare} att.view.writes (Elt F) f N)
                ∗ owns (c : Thread nD τ) col fullShare u) -∗ K ⟨⟩))
          ⊢ wp frame (wpE (defs₀ (F := F)) Variants.none c none) E (cc0_premix_proj i tok h2 mod h3 gain h4 wgt h5 hid h6 ret h7 att h8 col h9) K } := by
  refine ⟨?_, ?_, ?_, fun E K => ?run⟩
  case run =>
    simp only [cc0_premix_proj_eq_skeleton]; unfold cc0_premix_proj_skel
    simp only [k0_part8_eq_skeleton]
    unfold owns
    iintro ⟨⟨%f0, %e0, H0⟩, ⟨%f1, %e1, H1⟩, ⟨%f2, %e2, H2⟩, ⟨%f3, %e3, H3⟩, ⟨%d4, %f4, -, H4⟩, ⟨%d5, %f5, -, H5⟩, ⟨%d6, %f6, -, H6⟩, ⟨%f7, %e7, H7⟩, Hk⟩
    obtain rfl := h2.eq_unread e0; obtain rfl := h3.eq_unread e1; obtain rfl := h4.eq_unread e2; obtain rfl := h5.eq_unread e3
    obtain rfl := h9.eq_unread e7
    sl_exec (disch := sl_exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]; · iexists _; iexact H5
    isplitl [H6]; · iexists _; iexact H6
    iexists _; isplitr; · ipureintro; exact h9.read_unread _
    iexact H7

end Cert.ProjRun

end
-- ==== Proof.ProjFrame.lean ====
/- The projection's call as a whole: what each grid point leaves in the outputs' buffers, that the body does so at every point, and
   the run of the program that follows. The buffer of the columns is written at the first point only and carried to the last. -/
module

public import proofs.«01_k».proof.Proof.ProjRun
public import proofs.«01_k».proof.Proof.ProjLater
public import Idealize.ShloMosaic.Lib.Pipeline.TableIdle
public import Idealize.ShloMosaic.Lib.Claim

@[expose] public section

set_option maxRecDepth 16384

noncomputable section

namespace Cert.ProjFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen Cert.ProjRun

variable {F : FTy → Type} [FloatOps F]

abbrev Held (F : FTy → Type) := sProp (MT nD τ sig Unit (Elt F) ℕ (UR sig nD τ) ℕ)

variable (m : (ℓ : Loc nD τ sig) → Buf (Elt F) ℓ) (ρ : Dev nD → PrngReg) (c : Dev nD)

/-- The columns are put in order at the first point. -/
theorem starts : ∀ t : Fin cfg0.N, k0_cond1 (grid0.coords t) = 1#1 ↔ t.val = 0 := fun t => by
  have ht : t.val < 8 := Nat.lt_of_lt_of_eq t.isLt N_0
  have e0 : (grid0.coords t 0).val = t.val / 4 % 2 := Pipeline.Grid.coords_val t 0 (by decide) rfl
  have e1 : (grid0.coords t 1).val = t.val / 1 % 4 := Pipeline.Grid.coords_val t 1 (by decide) rfl
  have e : (t.val = 0) ↔ t.val % 8 = 0 := by omega
  rw [e]; simp only [k0_cond1, e0, e1]
  word_cmp

/-- One buffer of each output, through which its contents are stated. -/
abbrev hidV : View sig .tc .vmem S1x512x1024 .bf16 := (Memref.whole cc0_stg4_0 : Memref sig .tc .vmem S1x512x1024 .bf16).view
abbrev retV : View sig .tc .vmem S1x512x2048 .f32 := (Memref.whole cc0_stg5_0 : Memref sig .tc .vmem S1x512x2048 .f32).view
abbrev attV : View sig .tc .vmem S1x512x1536 .bf16 := (Memref.whole cc0_stg6_0 : Memref sig .tc .vmem S1x512x1536 .bf16).view
abbrev colV : View sig .tc .vmem S1024x3584 .bf16 := (Memref.whole cc0_stg7_0 : Memref sig .tc .vmem S1024x3584 .bf16).view

/-- The buffer a window is on at point `t`, and that it is a whole one. -/
abbrev s0 (t : Fin cfg0.N) : Memref sig .tc .vmem S1x512x1024 .f32 := win0_0.stage (cfg0.slots t 0)
abbrev w0 (t : Fin cfg0.N) : (s0 t).IsWhole := hstage0_0 ((cfg0.slots t 0).cast nbuf0_0)
abbrev s1 (t : Fin cfg0.N) : Memref sig .tc .vmem S1x6x1024 .f32 := win0_1.stage (cfg0.slots t 1)
abbrev w1 (t : Fin cfg0.N) : (s1 t).IsWhole := hstage0_1 ((cfg0.slots t 1).cast nbuf0_1)
abbrev s2 (t : Fin cfg0.N) : Memref sig .tc .vmem S1x1024 .f32 := win0_2.stage (cfg0.slots t 2)
abbrev w2 (t : Fin cfg0.N) : (s2 t).IsWhole := hstage0_2 ((cfg0.slots t 2).cast nbuf0_2)
abbrev s3 (t : Fin cfg0.N) : Memref sig .tc .vmem S4x1024x896 .bf16 := win0_3.stage (cfg0.slots t 3)
abbrev w3 (t : Fin cfg0.N) : (s3 t).IsWhole := hstage0_3 ((cfg0.slots t 3).cast nbuf0_3)
abbrev s4 (t : Fin cfg0.N) : Memref sig .tc .vmem S1x512x1024 .bf16 := win0_4.stage (cfg0.slots t 4)
abbrev w4 (t : Fin cfg0.N) : (s4 t).IsWhole := hstage0_4 ((cfg0.slots t 4).cast nbuf0_4)
abbrev s5 (t : Fin cfg0.N) : Memref sig .tc .vmem S1x512x2048 .f32 := win0_5.stage (cfg0.slots t 5)
abbrev w5 (t : Fin cfg0.N) : (s5 t).IsWhole := hstage0_5 ((cfg0.slots t 5).cast nbuf0_5)
abbrev s6 (t : Fin cfg0.N) : Memref sig .tc .vmem S1x512x1536 .bf16 := win0_6.stage (cfg0.slots t 6)
abbrev w6 (t : Fin cfg0.N) : (s6 t).IsWhole := hstage0_6 ((cfg0.slots t 6).cast nbuf0_6)
abbrev s7 (t : Fin cfg0.N) : Memref sig .tc .vmem S1024x3584 .bf16 := win0_7.stage (cfg0.slots t 7)
abbrev w7 (t : Fin cfg0.N) : (s7 t).IsWhole := hstage0_7 ((cfg0.slots t 7).cast nbuf0_7)

/-- The first point's run, on its buffers and blocks. -/
abbrev firstRun (t : Fin cfg0.N) (h : t.val = 0) :=
  first c (grid0.coords t) (w0 t) (w1 t) (w2 t) (w3 t) (w4 t) (w5 t) (w6 t) (w7 t) ((starts t).mpr h)
    (iblk m c 0 t) (iblk m c 1 t) (iblk m c 2 t) (iblk m c 3 t)

/-- A later point's run, over the columns `u`. -/
abbrev laterRun (u : Vec F S1024x3584 .bf16) (t : Fin cfg0.N) (h : ¬t.val = 0) :=
  later c (grid0.coords t) (w0 t) (w1 t) (w2 t) (w3 t) (w4 t) (w5 t) (w6 t) (w7 t) (fun e => h ((starts t).mp e))
    (iblk m c 0 t) (iblk m c 1 t) (iblk m c 2 t) (iblk m c 3 t) u

abbrev start : Fin cfg0.N := ⟨0, by decide⟩

/-- The columns in order, as the first point leaves them. -/
def cols : Vec F S1024x3584 .bf16 :=
  colV.read (Elt F) (colV.writes (Elt F) colV.junk (firstRun m c start rfl).2.2.2.1)

/-- What a point leaves in the other outputs. -/
def hidAt (t : Fin cfg0.N) : Vec F S1x512x1024 .bf16 :=
  if h : t.val = 0 then hidV.read (Elt F) (hidV.writes (Elt F) hidV.junk (firstRun m c t h).1)
  else hidV.read (Elt F) (hidV.writes (Elt F) hidV.junk (laterRun m c (cols m c) t h).1)
def retAt (t : Fin cfg0.N) : Vec F S1x512x2048 .f32 :=
  if h : t.val = 0 then retV.read (Elt F) (retV.writes (Elt F) retV.junk (firstRun m c t h).2.1)
  else retV.read (Elt F) (retV.writes (Elt F) retV.junk (laterRun m c (cols m c) t h).2.1)
def attAt (t : Fin cfg0.N) : Vec F S1x512x1536 .bf16 :=
  if h : t.val = 0 then attV.read (Elt F) (attV.writes (Elt F) attV.junk (firstRun m c t h).2.2.1)
  else attV.read (Elt F) (attV.writes (Elt F) attV.junk (laterRun m c (cols m c) t h).2.2.1)

/-- The pieces of each run cover their blocks. -/
theorem first_hid (t : Fin cfg0.N) (h) (y : S1x512x1024.Idx) : ∃ p ∈ (firstRun m c t h).1, y ∈ p.1.set :=
  View.cover_of_tiledL (firstRun m c t h).1 S1x512x1024.size (by sl_kernel_rfl) y
theorem first_ret (t : Fin cfg0.N) (h) (y : S1x512x2048.Idx) : ∃ p ∈ (firstRun m c t h).2.1, y ∈ p.1.set :=
  View.cover_of_tiledL (firstRun m c t h).2.1 S1x512x2048.size (by sl_kernel_rfl) y
theorem first_att (t : Fin cfg0.N) (h) (y : S1x512x1536.Idx) : ∃ p ∈ (firstRun m c t h).2.2.1, y ∈ p.1.set :=
  View.cover_of_tiledL (firstRun m c t h).2.2.1 S1x512x1536.size (by sl_kernel_rfl) y
theorem first_col (t : Fin cfg0.N) (h) (y : S1024x3584.Idx) : ∃ p ∈ (firstRun m c t h).2.2.2.1, y ∈ p.1.set :=
  View.cover_of_tiledL (firstRun m c t h).2.2.2.1 S1024x128.size (by sl_kernel_rfl) y
theorem later_hid (u) (t : Fin cfg0.N) (h) (y : S1x512x1024.Idx) : ∃ p ∈ (laterRun m c u t h).1, y ∈ p.1.set :=
  View.cover_of_tiledL (laterRun m c u t h).1 S1x512x1024.size (by sl_kernel_rfl) y
theorem later_ret (u) (t : Fin cfg0.N) (h) (y : S1x512x2048.Idx) : ∃ p ∈ (laterRun m c u t h).2.1, y ∈ p.1.set :=
  View.cover_of_tiledL (laterRun m c u t h).2.1 S1x512x2048.size (by sl_kernel_rfl) y
theorem later_att (u) (t : Fin cfg0.N) (h) (y : S1x512x1536.Idx) : ∃ p ∈ (laterRun m c u t h).2.2.1, y ∈ p.1.set :=
  View.cover_of_tiledL (laterRun m c u t h).2.2.1 S1x512x1536.size (by sl_kernel_rfl) y

/-- What every window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => hidAt m c t
    | ⟨5, _⟩ => retAt m c t
    | ⟨6, _⟩ => attAt m c t
    | ⟨7, _⟩ => cols m c
  Φ _ := Pipeline.ΦA spec0 c
  q _ := fullShare
  owed _ := 0

variable (t : Fin cfg0.N)

theorem entry (w : Fin cfg0.W) : (dats m 0 c).A w = V m c (Pipeline.arrRef spec0 w) := by dsimp only [dats]
theorem after_tok : (dats m 0 c).after 0 t = iblk m c 0 t := by dsimp only [dats]
theorem after_mod : (dats m 0 c).after 1 t = iblk m c 1 t := by dsimp only [dats]
theorem after_gain : (dats m 0 c).after 2 t = iblk m c 2 t := by dsimp only [dats]
theorem after_wgt : (dats m 0 c).after 3 t = iblk m c 3 t := by dsimp only [dats]
theorem after_hid : (dats m 0 c).after 4 t = hidAt m c t := by dsimp only [dats]
theorem after_ret : (dats m 0 c).after 5 t = retAt m c t := by dsimp only [dats]
theorem after_att : (dats m 0 c).after 6 t = attAt m c t := by dsimp only [dats]
theorem after_col : (dats m 0 c).after 7 t = cols m c := by dsimp only [dats]

theorem before_tok (d) : (dats m 0 c).before 0 t d = iblk m c 0 t := before0_0_of m _ (entry m c 0) (after_tok m c) t d
theorem before_mod (d) : (dats m 0 c).before 1 t d = iblk m c 1 t := before0_1_of m _ (entry m c 1) (after_mod m c) t d
theorem before_gain (d) : (dats m 0 c).before 2 t d = iblk m c 2 t := before0_2_of m _ (entry m c 2) (after_gain m c) t d
theorem before_wgt (d) : (dats m 0 c).before 3 t d = iblk m c 3 t := before0_3_of m _ (entry m c 3) (after_wgt m c) t d

/-- Whether nothing has been put into the columns' buffer yet: only before the first point, and after the last. -/
def untouched (n : ℕ) : Bool := n == 0 || n == 8

theorem untouched_step : ∀ t : Fin cfg0.N,
    untouched (t.val + 1) = ((cfg0.win 7).flush t || (cfg0.idle 7 (cfg0.grid.coords t) && untouched t.val)) := by decide +kernel

theorem fresh_eq : cfg0.fresh 7 t.val = untouched t.val :=
  Pipeline.Cfg.fresh_tab cfg0 7 untouched rfl untouched_step t.val (Nat.le_of_lt t.isLt)

theorem before_col (h : ¬t.val = 0) (d) : (dats m 0 c).before 7 t d = cols m c := by
  have ht : t.val < 8 := Nat.lt_of_lt_of_eq t.isLt N_0
  have hu : untouched t.val = false := by
    unfold untouched; rw [Bool.or_eq_false_iff]; exact ⟨beq_eq_false_iff_ne.mpr h, beq_eq_false_iff_ne.mpr (by omega)⟩
  rw [Dat.before_out_traj _ 7 rfl (fun _ _ => rfl) (fun t _ _ _ => by rw [after_col, after_col]) t.val t rfl d,
    fresh_eq, hu, if_neg Bool.false_ne_true, after_col]

/-- At the first point the columns are stored; at a later one they are not, and stay. -/
theorem stored_first : ∀ t : Fin cfg0.N, t.val = 0 → cfg0.idle 7 (grid0.coords t) = false := by decide +kernel

theorem leaves_col (h : ¬t.val = 0) :
    owns (c : Thread nD τ) (s7 t) fullShare (cols m c) ⊢ ((dats m 0 c).leavesExact 7 t : Held F) := by
  unfold Dat.leavesExact
  split
  · split
    · iintro H; iexists (cols m c)
      rw [before_col m c t h]; iexact H
    · rw [after_col]
  · rw [after_col]

/-- What the body finds at a point, and what it leaves. -/
def found : Held F :=
  iprop((dats m 0 c).Φ t.castSucc ∗ (dats m 0 c).owesAt () t.castSucc
    ∗ (∃ d, owns (c : Thread nD τ) (s0 t) fullShare ((dats m 0 c).before 0 t d))
    ∗ (∃ d, owns (c : Thread nD τ) (s1 t) fullShare ((dats m 0 c).before 1 t d))
    ∗ (∃ d, owns (c : Thread nD τ) (s2 t) fullShare ((dats m 0 c).before 2 t d))
    ∗ (∃ d, owns (c : Thread nD τ) (s3 t) fullShare ((dats m 0 c).before 3 t d))
    ∗ (∃ d, owns (c : Thread nD τ) (s4 t) fullShare ((dats m 0 c).before 4 t d))
    ∗ (∃ d, owns (c : Thread nD τ) (s5 t) fullShare ((dats m 0 c).before 5 t d))
    ∗ (∃ d, owns (c : Thread nD τ) (s6 t) fullShare ((dats m 0 c).before 6 t d))
    ∗ (∃ d, owns (c : Thread nD τ) (s7 t) fullShare ((dats m 0 c).before 7 t d)))

def left : Held F :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

/-- A window that is stored at every point is left at what the proof data say. -/
theorem leaves_live (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 1600000 in
theorem sound_first (h : t.val = 0) :
    found m c t ⊢ wp frame (wpE (defs₀ (F := F)) Variants.none c none) Set.univ (bodyAt0 t) (fun _ => left m c t) := by
  unfold found left bodyAt0
  simp only [before_tok, before_mod, before_gain, before_wgt]
  rw [show (dats m 0 c).Φ t.succ = (dats m 0 c).Φ t.castSucc from rfl,
    show (dats m 0 c).owesAt () t.succ = (dats m 0 c).owesAt () t.castSucc from rfl,
    leaves_live m c t 0 rfl, leaves_live m c t 1 rfl, leaves_live m c t 2 rfl, leaves_live m c t 3 rfl, leaves_live m c t 4 rfl,
    leaves_live m c t 5 rfl, leaves_live m c t 6 rfl, leaves_live m c t 7 (stored_first t h),
    after_tok, after_mod, after_gain, after_wgt, after_hid, after_ret, after_att, after_col]
  have e : t = start := Fin.ext h
  rw [show hidAt m c t = _ from dif_pos h, show retAt m c t = _ from dif_pos h, show attAt m c t = _ from dif_pos h,
    show cols m c = colV.read (Elt F) (colV.writes (Elt F) colV.junk (firstRun m c t h).2.2.2.1) from by subst e; rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((firstRun m c t h).2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, ⟨%e4, H4⟩, ⟨%e5, H5⟩, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (first_hid m c t h)
  isplitl [H5]
  · unfold owns; iexists _; isplitr
    swap; · iexact H5
    ipureintro; exact View.read_writes_of_cover _ _ _ _ _ (first_ret m c t h)
  isplitl [H6]
  · unfold owns; iexists _; isplitr
    swap; · iexact H6
    ipureintro; exact View.read_writes_of_cover _ _ _ _ _ (first_att m c t h)
  unfold owns; iexists _; isplitr
  swap; · iexact H7
  ipureintro; exact View.read_writes_of_cover _ _ _ _ _ (first_col m c t h)

set_option maxHeartbeats 1600000 in
theorem sound_later (h : ¬t.val = 0) :
    found m c t ⊢ wp frame (wpE (defs₀ (F := F)) Variants.none c none) Set.univ (bodyAt0 t) (fun _ => left m c t) := by
  unfold found left bodyAt0
  simp only [before_tok, before_mod, before_gain, before_wgt, before_col m c t h]
  rw [show (dats m 0 c).Φ t.succ = (dats m 0 c).Φ t.castSucc from rfl,
    show (dats m 0 c).owesAt () t.succ = (dats m 0 c).owesAt () t.castSucc from rfl,
    leaves_live m c t 0 rfl, leaves_live m c t 1 rfl, leaves_live m c t 2 rfl, leaves_live m c t 3 rfl, leaves_live m c t 4 rfl,
    leaves_live m c t 5 rfl, leaves_live m c t 6 rfl,
    after_tok, after_mod, after_gain, after_wgt, after_hid, after_ret, after_att,
    show hidAt m c t = _ from dif_neg h, show retAt m c t = _ from dif_neg h, show attAt m c t = _ from dif_neg h]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((laterRun m c (cols m c) t h).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexact H7
  iintro ⟨H0, H1, H2, H3, ⟨%e4, H4⟩, ⟨%e5, H5⟩, ⟨%e6, H6⟩, H7⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (later_hid m c _ t h)
  isplitl [H5]
  · unfold owns; iexists _; isplitr
    swap; · iexact H5
    ipureintro; exact View.read_writes_of_cover _ _ _ _ _ (later_ret m c _ t h)
  isplitl [H6]
  · unfold owns; iexists _; isplitr
    swap; · iexact H6
    ipureintro; exact View.read_writes_of_cover _ _ _ _ _ (later_att m c _ t h)
  iapply (leaves_col m c t h)
  iexact H7

theorem row : defs₀ (F := F) .tc cfg0.body (cfg0.bodyArgs t (cfg0.slots t)) = bodyAt0 t := by
  unfold defs₀; rw [Defs.onTc_tc]

theorem obligation : BodyObligation (dats (F := F) m 0 c) (defs₀ (F := F)) Variants.none () Set.univ := fun t => by
  rw [bigSep_W0, bigSep_W0, row]
  by_cases h : t.val = 0
  · exact triple_restated (sound_first m c t h) rfl .rfl fun _ => .rfl
  · exact triple_restated (sound_later m c t h) rfl .rfl fun _ => .rfl

set_option backward.isDefEq.respectTransparency.types false in
/-- The run: every array of the pipeline ends at what the points left, and every counter is back at zero. -/
theorem run : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := entry m) (hΦ := fun _ _ => rfl)

theorem run_arrays : θ_run defs (onTc (τ := τ) (main (F := F))) (s₀ m ρ) (Pipeline.FramePost cfgs (dats m) 0 (V m)) :=
  (θ_run defs _ _).mono (fun _ h => h.1) (run m ρ)

/-- The arguments end as they were, and the counters at zero. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (entry m) (run_arrays m ρ)) ((θ_run defs _ _).mono (fun _ h => h.2) (run m ρ))

end Cert.ProjFrame

end
-- ==== Proof.ProjSame.lean ====
/- The projection's program and its ideal form are the same text over any floats, so what is shown of the one's run holds of the
   other's. -/
module

public import proofs.«01_k».proof.Proof.Gen.Kernel6
public import proofs.«01_k».proof.Proof.ProjFrame
public import Idealize.ShloMosaic.Lib.Tactic

@[expose] public section

noncomputable section

namespace Cert.ProjSame

open Idealize.ShloMosaic Idealize.SL.Sem Idealize.ShloMosaic.Tactic Idealize.ShloMosaic.TcCoe

variable {F : FTy → Type} [FloatOps F]

theorem defs_same : @Cert.Kernel6.defs F _ _ = @Cert.Kernel6Ideal.defs F _ _ := by sl_kernel_rfl
theorem main_same : @Cert.Kernel6.main F _ _ = @Cert.Kernel6Ideal.main F _ _ := by sl_kernel_rfl

/-- The arguments end as they were, and the counters at zero. -/
theorem kept (m : (ℓ : Loc Cert.Kernel6.nD Cert.Kernel6.τ Cert.Kernel6.sig) → Buf (Elt F) ℓ) (ρ : Dev Cert.Kernel6.nD → PrngReg) :
    θ_run (Cert.Kernel6.defs (F := F)) (onTc (τ := Cert.Kernel6.τ) (Cert.Kernel6.main (F := F))) ⟨m, fun _ => 0, ρ⟩
      (fun r => (∀ c : Dev Cert.Kernel6.nD,
        r.2.mem ((c.tc : Thread Cert.Kernel6.nD Cert.Kernel6.τ).loc Cert.Kernel6.main_arg0) = m ((c.tc : Thread Cert.Kernel6.nD Cert.Kernel6.τ).loc Cert.Kernel6.main_arg0)
        ∧ r.2.mem ((c.tc : Thread Cert.Kernel6.nD Cert.Kernel6.τ).loc Cert.Kernel6.main_arg1) = m ((c.tc : Thread Cert.Kernel6.nD Cert.Kernel6.τ).loc Cert.Kernel6.main_arg1)
        ∧ r.2.mem ((c.tc : Thread Cert.Kernel6.nD Cert.Kernel6.τ).loc Cert.Kernel6.main_arg2) = m ((c.tc : Thread Cert.Kernel6.nD Cert.Kernel6.τ).loc Cert.Kernel6.main_arg2)
        ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0) := by
  rw [defs_same, main_same]
  exact Cert.ProjFrame.kept m ρ

end Cert.ProjSame

end
-- ==== Proof.Spec.lean ====
/- The mathematics of one token: the tail of the layer forward and backward, written on rows of extended reals. -/
module

public import Idealize.ShloMosaic.PureOps.Ideal
public import Idealize.ShloMosaic.Lib.Pointwise

@[expose] public section

noncomputable section

namespace Cert.Tail

open Idealize.ShloMosaic
open scoped BigOperators

/-- The literal 1024, the length of a row. -/
def cN : EReal := Ideal.ofBits .f32 1149239296#32
/-- The literal 1e-6 of the norms. -/
def cEps : EReal := Ideal.ofBits .f32 897988541#32
/-- The literal -1/2 of the derivative of the reciprocal square root. -/
def cNegHalf : EReal := Ideal.ofBits .f32 3204448256#32
/-- The literal 1/2 of the loss. -/
def cHalf : EReal := Ideal.ofBits .f32 1056964608#32
/-- The literal 2 of the derivative of a square. -/
def cTwo : EReal := Ideal.ofBits .f32 1073741824#32

/-- The model's width. -/
abbrev Row := Fin 1024 → EReal

/-- The mean of a row's squares, plus the norm's small constant. -/
def ms (x : Row) : EReal := Ideal.div (∑ k, x k * x k) cN + cEps
/-- The reciprocal of a row's root mean square. -/
def inv (x : Row) : EReal := Ideal.rsqrt (ms x)
/-- The derivative of `inv` by the mean of the squares. -/
def dinv (x : Row) : EReal := cNegHalf * Ideal.div (inv x) (ms x)
/-- The normed row. -/
def nrm (x : Row) (d : Fin 1024) : EReal := x d * inv x
/-- The cotangent of each square under the mean. -/
def corr (x g : Row) : EReal := Ideal.div ((∑ k, x k * g k) * dinv x) cN
/-- The cotangent of a row of which the normed row's cotangent is `g`. -/
def nrmBwd (x g : Row) (d : Fin 1024) : EReal := g d * inv x + x d * corr x g + corr x g * x d

/-- What one token's share of the step reads: its three rows, its sample's four rows of the modulation, the three norms'
    gains and the three matrices. -/
structure Inp where
  x : Row
  mi : Row
  tg : Row
  gt1 : Row
  sh2 : Row
  sc2 : Row
  gt2 : Row
  gpm : Row
  gpl : Row
  gpo : Row
  wo : Fin 1024 → Fin 1024 → EReal
  w1 : Fin 1024 → Fin 4096 → EReal
  w2 : Fin 4096 → Fin 1024 → EReal

namespace Inp
variable (I : Inp)

/-- The output projection. -/
def mix (d : Fin 1024) : EReal := ∑ k, I.mi k * I.wo k d
/-- … normed, with its gain. -/
def mixG (d : Fin 1024) : EReal := nrm I.mix d * I.gpm d
/-- The first residual. -/
def x1 (d : Fin 1024) : EReal := I.x d + I.gt1 d * I.mixG d
/-- … normed, with its gain. -/
def x1G (d : Fin 1024) : EReal := nrm I.x1 d * I.gpl d
/-- One plus the scale. -/
def sc (d : Fin 1024) : EReal := 1 + I.sc2 d
/-- The MLP's input. -/
def h2 (d : Fin 1024) : EReal := I.x1G d * I.sc d + I.sh2 d
/-- The MLP's hidden row before the relu. -/
def u (f : Fin 4096) : EReal := ∑ k, I.h2 k * I.w1 k f
/-- The relu. -/
def relu (f : Fin 4096) : EReal := max (I.u f) 0
/-- The squared relu. -/
def act (f : Fin 4096) : EReal := I.relu f * I.relu f
/-- The MLP's output. -/
def m (d : Fin 1024) : EReal := ∑ f, I.act f * I.w2 f d
/-- … normed, with its gain. -/
def mG (d : Fin 1024) : EReal := nrm I.m d * I.gpo d
/-- The error: the second residual less the target. -/
def err (d : Fin 1024) : EReal := I.x1 d + I.gt2 d * I.mG d - I.tg d
/-- The token's mean squared error. -/
def mse : EReal := Ideal.div (∑ d, I.err d * I.err d) cN
/-- The cotangent of each squared error. -/
def cErr : EReal := Ideal.div cHalf cN
/-- The output's cotangent. -/
def dy (d : Fin 1024) : EReal := I.err d * cErr + cErr * I.err d
/-- The cotangent of `mG`. -/
def dmG (d : Fin 1024) : EReal := I.gt2 d * I.dy d
/-- The cotangent of the MLP's output. -/
def dm (d : Fin 1024) : EReal := nrmBwd I.m (fun d => I.dmG d * I.gpo d) d
/-- The cotangent of the hidden row. -/
def du (f : Fin 4096) : EReal := (∑ d, I.dm d * I.w2 f d) * (cTwo * I.relu f)
/-- The cotangent of the MLP's input. -/
def dh2 (k : Fin 1024) : EReal := ∑ f, I.du f * I.w1 k f
/-- The cotangent of `x1G`. -/
def dx1G (d : Fin 1024) : EReal := I.dh2 d * I.sc d
/-- The cotangent of the first residual, which is the gradient by `x`. -/
def dx (d : Fin 1024) : EReal := I.dy d + nrmBwd I.x1 (fun d => I.dx1G d * I.gpl d) d
/-- The cotangent of `mixG`. -/
def dmixG (d : Fin 1024) : EReal := I.gt1 d * I.dx d
/-- The cotangent of the output projection. -/
def dmix (d : Fin 1024) : EReal := nrmBwd I.mix (fun d => I.dmixG d * I.gpm d) d
/-- The gradient by the projection's input. -/
def dmi (k : Fin 1024) : EReal := ∑ d, I.dmix d * I.wo k d
/-- The token's share of the gradient by the first gate. -/
def gGt1 (d : Fin 1024) : EReal := I.dx d * I.mixG d
/-- … by the scale. -/
def gSc2 (d : Fin 1024) : EReal := I.x1G d * I.dh2 d
/-- … by the second gate. -/
def gGt2 (d : Fin 1024) : EReal := I.dy d * I.mG d
/-- … by the gain of the projection's norm. -/
def gGpm (d : Fin 1024) : EReal := nrm I.mix d * I.dmixG d
/-- … by the gain of the MLP's input norm. -/
def gGpl (d : Fin 1024) : EReal := nrm I.x1 d * I.dx1G d
/-- … by the gain of the MLP's output norm. -/
def gGpo (d : Fin 1024) : EReal := nrm I.m d * I.dmG d

end Inp

/-- A sum over one index is its term. -/
theorem sum_one (g : Fin 1 → EReal) : ∑ x, g x = g 0 := Fin.sum_univ_one g

/-- Column `e` of the `j`-th of the four blocks of 1024 columns. -/
def col (j : Fin 4) (e : Fin 1024) : Fin 4096 := ⟨1024 * j.val + e.val, by omega⟩

/-- A sum over the 4096 hidden entries is the four blocks' sums, one after the other. -/
theorem sum_cols (g : Fin 4096 → EReal) :
    ∑ f, g f = ∑ e, g (col 0 e) + ∑ e, g (col 1 e) + ∑ e, g (col 2 e) + ∑ e, g (col 3 e) := by
  have h : ∑ f, g f = ∑ p : Fin 4 × Fin 1024, g (col p.1 p.2) := by
    refine (Fintype.sum_equiv (finProdFinEquiv (m := 4) (n := 1024)) _ _ fun p => ?_).symm
    exact congrArg g (Fin.ext (Nat.add_comm _ _))
  rw [h, Fintype.sum_prod_type, Fin.sum_univ_four]

end Cert.Tail

end
-- ==== Proof.ProjRows.lean ====
/- One token of the projection: its normed row under the gain and the modulation, and that row's products with the weight's columns,
   in the kernel's payloads and in the reference's stages. -/
module

public import proofs.«01_k».proof.Proof.Spec
public import proofs.«01_k».proof.Proof.Gen.Kernel6Ideal.Skeleton
public import proofs.«01_k».proof.Proof.Gen.Reference6Ideal.Read
public import Idealize.ShloMosaic.Lib.Pipeline.ValueKit

@[expose] public section

set_option maxRecDepth 16384

noncomputable section

namespace Cert.Proj

open Idealize.ShloMosaic Cert.Kernel6Ideal Cert.Kernel6Ideal.Gen Cert.Tail
open scoped BigOperators

/-- The mixer's input of a token: the normed row, the gain, the scale and the shift. -/
def hid (x : Row) (g sc sh : Row) (d : Fin 1024) : EReal := nrm x d * g d * (1 + sc d) + sh d

section
variable (x : Vec Ideal S1x512x1024 .f32) (g : Vec Ideal S1x1024 .f32) (sc sh : Vec Ideal S1x1x1024 .f32)

theorem hid_row (r : Fin 512) (d : Fin 1024) : k0_pay42 (F := Ideal) x g sc sh (ix2 r d)
    = hid (fun k => x (ix3 0 r k)) (fun k => g (ix2 0 k)) (fun k => sc (ix3 0 0 k)) (fun k => sh (ix3 0 0 k)) d := by
  pointwise [k0_pay42]
  simp only [hid, nrm, Cert.Tail.inv, ms, Ideal.ofBits_one_f32]
  rfl

theorem stored_row (r : Fin 512) (d : Fin 1024) :
    k0_pay43 (F := Ideal) x g sc sh (ix3 0 r d) = k0_pay42 (F := Ideal) x g sc sh (ix2 r d) := by
  pointwise [k0_pay43]

end

theorem ret_row (h : Vec Ideal S512x1024 .bf16) (w : Vec Ideal S1024x2048 .bf16) (r : Fin 512) (j : Fin 2048) :
    k0_pay1 (F := Ideal) h w (ix3 0 r j) = ∑ k : Fin 1024, h (ix2 r k) * w (ix2 k j) := by
  pointwise [k0_pay1]

theorem att_row (h : Vec Ideal S512x1024 .bf16) (w : Vec Ideal S1024x1536 .bf16) (r : Fin 512) (j : Fin 1536) :
    k0_pay2 (F := Ideal) h w (ix3 0 r j) = ∑ k : Fin 1024, h (ix2 r k) * w (ix2 k j) := by
  pointwise [k0_pay2]

section
open Cert.Reference6Ideal.Read
variable (x : FVec Ideal S2x2048x1024 .f32) (md : FVec Ideal S3x6x1024 .f32) (g : FVec Ideal S1x1024 .f32) (w : FVec Ideal S1024x3584 .f32)
  (b : Fin 2) (n : Fin 2048)

/-- A token's row in the reference. -/
def refHid (d : Fin 1024) : EReal := hid (fun k => x (ix3 b n k)) (fun k => g (ix2 0 k)) (fun k => md (ix3 ⟨b.val, by omega⟩ 1 k))
  (fun k => md (ix3 ⟨b.val, by omega⟩ 0 k)) d

theorem ref_hid (d : Fin 1024) : val_main_v21 (F := Ideal) x md g (ix3 b n d) = refHid x md g b n d := by
  pointwise [val_main_v21, val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v2, val_main_v1,
    val_main_v0, val_main_cst, val_main_cst_0, val_main_cst_1, val_main_cst_2]
  simp only [refHid, hid, nrm, Cert.Tail.inv, ms, Ideal.ofBits_one_f32]
  rfl

theorem ref_product (j : Fin 3584) : val_main_v22 (F := Ideal) x md g w (ix3 b n j) = ∑ k : Fin 1024, refHid x md g b n k * w (ix2 k j) := by
  have h := fun k => ref_hid x md g b n k
  pointwise [val_main_v22]
  simp only [h]

theorem ref_first (d : Fin 1024) : val_main_v23 (F := Ideal) x md g (ix3 b n d) = refHid x md g b n d := by
  have h := fun k => ref_hid x md g b n k
  pointwise [val_main_v23]
  exact h d

theorem ref_ret (j : Fin 2048) : val_main_v24 (F := Ideal) x md g w (ix3 b n j)
    = ∑ k : Fin 1024, refHid x md g b n k * w (ix2 k ⟨j.val, by omega⟩) := by
  refine Eq.trans ?_ (ref_product x md g w b n ⟨j.val, by omega⟩)
  rw [val_main_v24_apply]
  exact congrArg (val_main_v22 (F := Ideal) x md g w) (funext fun a => match a with | ⟨0, _⟩ => rfl | ⟨1, _⟩ => rfl | ⟨2, _⟩ => rfl)

theorem ref_att (j : Fin 1536) : val_main_v26 (F := Ideal) x md g w (ix3 b n j)
    = ∑ k : Fin 1024, refHid x md g b n k * w (ix2 k ⟨2048 + j.val, by omega⟩) := by
  refine Eq.trans ?_ (ref_product x md g w b n ⟨2048 + j.val, by omega⟩)
  rw [val_main_v26_apply, val_main_v25_apply]
  exact congrArg (val_main_v22 (F := Ideal) x md g w) (funext fun a => match a with | ⟨0, _⟩ => rfl | ⟨1, _⟩ => rfl | ⟨2, _⟩ => rfl)

theorem ref_wgt (k : Fin 1024) (j : Fin 3584) : val_main_v27 (F := Ideal) w (ix2 k j) = w (ix2 k j) := by
  pointwise [val_main_v27]

end

end Cert.Proj

end
-- ==== Proof.ProjContext.lean ====
/- The same projection of the contexts: one point a sample, the weight's columns given in order, the modulation's third row for both
   samples. -/
module

public import proofs.«01_k».proof.Proof.Tiles
public import proofs.«01_k».proof.Proof.ProjRows
public import proofs.«01_k».proof.Proof.Coordinates
public import proofs.«01_k».proof.Proof.Gen.Kernel7Ideal.Frame
public import proofs.«01_k».proof.Proof.Gen.Reference7Ideal.Read

@[expose] public section

set_option maxRecDepth 16384

noncomputable section

namespace Cert.ProjContext

open Idealize.ShloMosaic Cert.Kernel7Ideal Cert.Kernel7Ideal.Gen Idealize.ShloMosaic.TcCoe Idealize.SL.Sem Cert.Coordinates
open Cert.Tail
open Cert.Proj (hid)
open scoped BigOperators

section
open Cert.Reference7Ideal.Read
variable (x : FVec Ideal S2x256x1024 .f32) (md : FVec Ideal S3x6x1024 .f32) (g : FVec Ideal S1x1024 .f32) (w : FVec Ideal S1024x3584 .f32)
  (b : Fin 2) (n : Fin 256)

/-- A context token's row. -/
def ctxHid (d : Fin 1024) : EReal :=
  hid (fun k => x (ix3 b n k)) (fun k => g (ix2 0 k)) (fun k => md (ix3 2 1 k)) (fun k => md (ix3 2 0 k)) d

theorem ref_hid (d : Fin 1024) : val_main_v21 (F := Ideal) x md g (ix3 b n d) = ctxHid x md g b n d := by
  pointwise [val_main_v21, val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v2, val_main_v1,
    val_main_v0, val_main_cst, val_main_cst_0, val_main_cst_1, val_main_cst_2]
  simp only [ctxHid, hid, nrm, Cert.Tail.inv, ms, Ideal.ofBits_one_f32]
  rfl

theorem ref_product (j : Fin 3584) : val_main_v22 (F := Ideal) x md g w (ix3 b n j) = ∑ k : Fin 1024, ctxHid x md g b n k * w (ix2 k j) := by
  have h := fun k => ref_hid x md g b n k
  pointwise [val_main_v22]
  simp only [h]

theorem ref_first (d : Fin 1024) : val_main_v23 (F := Ideal) x md g (ix3 b n d) = ctxHid x md g b n d := by
  have h := fun k => ref_hid x md g b n k
  pointwise [val_main_v23]
  exact h d

theorem ref_ret (j : Fin 2048) : val_main_v24 (F := Ideal) x md g w (ix3 b n j)
    = ∑ k : Fin 1024, ctxHid x md g b n k * w (ix2 k ⟨j.val, by omega⟩) := by
  refine Eq.trans ?_ (ref_product x md g w b n ⟨j.val, by omega⟩)
  rw [val_main_v24_apply]
  exact congrArg (val_main_v22 (F := Ideal) x md g w) (funext fun a => match a with | ⟨0, _⟩ => rfl | ⟨1, _⟩ => rfl | ⟨2, _⟩ => rfl)

theorem ref_att (j : Fin 1536) : val_main_v26 (F := Ideal) x md g w (ix3 b n j)
    = ∑ k : Fin 1024, ctxHid x md g b n k * w (ix2 k ⟨2048 + j.val, by omega⟩) := by
  refine Eq.trans ?_ (ref_product x md g w b n ⟨2048 + j.val, by omega⟩)
  rw [val_main_v26_apply, val_main_v25_apply]
  exact congrArg (val_main_v22 (F := Ideal) x md g w) (funext fun a => match a with | ⟨0, _⟩ => rfl | ⟨1, _⟩ => rfl | ⟨2, _⟩ => rfl)

end

variable (m : (ℓ : Loc nD τ sig) → Buf (Elt Ideal) ℓ) (c : Dev nD) (t : Fin cfg0.N)

/-- The arguments on one device. -/
def toks : FVec Ideal S2x256x1024 .f32 := m ((c : Thread nD τ).loc main_arg0)
def mods : FVec Ideal S3x6x1024 .f32 := m ((c : Thread nD τ).loc main_arg1)
def gain : FVec Ideal S1x1024 .f32 := m ((c : Thread nD τ).loc main_arg2)
def wgt : FVec Ideal S1024x3584 .f32 := m ((c : Thread nD τ).loc main_arg3)

/-- Where each window stands at each grid point. -/
theorem idx : ∀ t : Fin cfg0.N, win0_0.index t = ![t.val, 0, 0] ∧ win0_1.index t = ![2, 0, 0] ∧ win0_2.index t = ![0, 0]
    ∧ win0_3.index t = ![0, 0] ∧ win0_4.index t = ![t.val, 0, 0] ∧ win0_5.index t = ![t.val, 0, 0] ∧ win0_6.index t = ![t.val, 0, 0] :=
  (by decide +kernel : ∀ t : Fin grid0.N, _)

/-- The sample of point `t`. -/
def smp : Fin 2 := ⟨t.val, lt_of_lt_of_eq t.isLt (by decide +kernel)⟩

theorem toks_at (r : Fin 256) (k : Fin 1024) : iblk m c 0 t (ix3 0 r k) = toks m c (ix3 (smp t) r k) := by
  show iblk m c 0 t (ix3 0 r k) = m ((c : Thread nD τ).loc main_arg0) (ix3 (smp t) r k)
  blk_simp [iblk, idx t, smp]
  entry_read
  blk_ext [idx t]

theorem mods_at (a : Fin 6) (k : Fin 1024) : iblk m c 1 t (ix3 0 a k) = mods m c (ix3 2 a k) := by
  show iblk m c 1 t (ix3 0 a k) = m ((c : Thread nD τ).loc main_arg1) (ix3 2 a k)
  blk_simp [iblk, idx t]
  entry_read
  blk_ext [idx t]

theorem gain_at (k : Fin 1024) : iblk m c 2 t (ix2 0 k) = gain m c (ix2 0 k) := by
  show iblk m c 2 t (ix2 0 k) = m ((c : Thread nD τ).loc main_arg2) (ix2 0 k)
  blk_simp [iblk, idx t]
  entry_read
  blk_ext [idx t]

theorem wgt_at (k : Fin 1024) (j : Fin 3584) : iblk m c 3 t (ix2 k j) = wgt m c (ix2 k j) := by
  show iblk m c 3 t (ix2 k j) = m ((c : Thread nD τ).loc main_arg3) (ix2 k j)
  blk_simp [iblk, idx t]
  entry_read
  pointwise
  blk_ext [idx t]

/-- The rows of the modulation that a point reads, the rows it makes, and the two parts of the columns. -/
abbrev scale : Vec Ideal S1x1x1024 .f32 := View.ld (iblk m c 1 t) r0_2
abbrev shift : Vec Ideal S1x1x1024 .f32 := View.ld (iblk m c 1 t) r0_3
abbrev rows : Vec Ideal S256x1024 .bf16 := k0_pay3 (F := Ideal) (iblk m c 0 t) (iblk m c 2 t) (scale m c t) (shift m c t)
abbrev retCols : Vec Ideal S1024x2048 .bf16 := View.ld (iblk m c 3 t) r0_4
abbrev attCols : Vec Ideal S1024x1536 .bf16 := View.ld (iblk m c 3 t) r0_6

theorem scale_at (k : Fin 1024) : scale m c t (ix3 0 0 k) = mods m c (ix3 2 1 k) :=
  (ld_at (Val := Elt Ideal) (S := S1x6x1024) (e := .f32) (iblk m c 1 t) inb_S1x6x1024_S1x1x1024_0_1_0 (ix3 0 0 k) (ix3 0 1 k)
    (coord3 rfl rfl (Nat.zero_add _).symm)).trans (mods_at m c t 1 k)

theorem shift_at (k : Fin 1024) : shift m c t (ix3 0 0 k) = mods m c (ix3 2 0 k) :=
  (ld_at (Val := Elt Ideal) (S := S1x6x1024) (e := .f32) (iblk m c 1 t) inb_S1x6x1024_S1x1x1024_0_0_0 (ix3 0 0 k) (ix3 0 0 k)
    (coord3 rfl rfl (Nat.zero_add _).symm)).trans (mods_at m c t 0 k)

theorem retCols_at (k : Fin 1024) (j : Fin 2048) : retCols m c t (ix2 k j) = wgt m c (ix2 k ⟨j.val, by omega⟩) :=
  (ld_at (Val := Elt Ideal) (S := S1024x3584) (e := .bf16) (iblk m c 3 t) inb_S1024x3584_S1024x2048_0_0 (ix2 k j) (ix2 k ⟨j.val, by omega⟩)
    (coord2 (Nat.zero_add _).symm (Nat.zero_add _).symm)).trans (wgt_at m c t k _)

theorem attCols_at (k : Fin 1024) (j : Fin 1536) : attCols m c t (ix2 k j) = wgt m c (ix2 k ⟨2048 + j.val, by omega⟩) :=
  (ld_at (Val := Elt Ideal) (S := S1024x3584) (e := .bf16) (iblk m c 3 t) inb_S1024x3584_S1024x1536_0_2048 (ix2 k j) (ix2 k ⟨2048 + j.val, by omega⟩)
    (coord2 (Nat.zero_add _).symm rfl)).trans (wgt_at m c t k _)

/-- A point's rows are the reference's. -/
theorem rows_at (r : Fin 256) (d : Fin 1024) : rows m c t (ix2 r d) = ctxHid (toks m c) (mods m c) (gain m c) (smp t) r d := by
  have h : ∀ (x : Vec Ideal S1x256x1024 .f32) (g : Vec Ideal S1x1024 .f32) (sc sh : Vec Ideal S1x1x1024 .f32), k0_pay3 (F := Ideal) x g sc sh (ix2 r d)
      = hid (fun k => x (ix3 0 r k)) (fun k => g (ix2 0 k)) (fun k => sc (ix3 0 0 k)) (fun k => sh (ix3 0 0 k)) d := by
    intro x g sc sh
    pointwise [k0_pay3]
    simp only [hid, nrm, Cert.Tail.inv, ms, Ideal.ofBits_one_f32]
    rfl
  refine (h _ _ _ _).trans ?_
  unfold ctxHid
  rw [show (fun k => iblk m c 0 t (ix3 0 r k)) = _ from funext (toks_at m c t r), show (fun k => iblk m c 2 t (ix2 0 k)) = _ from funext (gain_at m c t),
    show (fun k => scale m c t (ix3 0 0 k)) = _ from funext (scale_at m c t), show (fun k => shift m c t (ix3 0 0 k)) = _ from funext (shift_at m c t)]

theorem hid_stored : (dats m 0 c).after 4 t = k0_pay4 (F := Ideal) (iblk m c 0 t) (iblk m c 2 t) (scale m c t) (shift m c t) := by
  rw [after0_4]; unfold out0_4; frame_out; rfl
theorem ret_stored : (dats m 0 c).after 5 t
    = k0_pay1 (F := Ideal) (k0_pay5 (F := Ideal) (iblk m c 0 t) (iblk m c 2 t) (scale m c t) (shift m c t) (retCols m c t)) := by
  rw [after0_5]; unfold out0_5; frame_out; rfl
theorem att_stored : (dats m 0 c).after 6 t = k0_pay2 (F := Ideal) (rows m c t) (attCols m c t) := by
  rw [after0_6]; unfold out0_6; frame_out; rfl

theorem hid_row (x : Vec Ideal S1x256x1024 .f32) (g : Vec Ideal S1x1024 .f32) (sc sh : Vec Ideal S1x1x1024 .f32) (r : Fin 256) (d : Fin 1024) :
    k0_pay4 (F := Ideal) x g sc sh (ix3 0 r d) = k0_pay3 (F := Ideal) x g sc sh (ix2 r d) := by
  pointwise [k0_pay4]
theorem ret_row (x : Vec Ideal S1x256x1024 .f32) (g : Vec Ideal S1x1024 .f32) (sc sh : Vec Ideal S1x1x1024 .f32) (w : Vec Ideal S1024x2048 .bf16)
    (r : Fin 256) (j : Fin 2048) : k0_pay1 (F := Ideal) (k0_pay5 (F := Ideal) x g sc sh w) (ix3 0 r j)
      = ∑ k : Fin 1024, k0_pay3 (F := Ideal) x g sc sh (ix2 r k) * w (ix2 k j) := by
  pointwise [k0_pay1, k0_pay5]
theorem att_row (h : Vec Ideal S256x1024 .bf16) (w : Vec Ideal S1024x1536 .bf16) (r : Fin 256) (j : Fin 1536) :
    k0_pay2 (F := Ideal) h w (ix3 0 r j) = ∑ k : Fin 1024, h (ix2 r k) * w (ix2 k j) := by
  pointwise [k0_pay2]

open Cert.Reference7Ideal.Read

theorem array_hid : (dats m 0 c).arrAt 4 cfg0.N = val_main_v23 (F := Ideal) (toks m c) (mods m c) (gain m c) := by
  refine (dats m 0 c).arrAt_eq_of_covers 4 _ (by decide +kernel) fun t hf y => ?_
  obtain ⟨r, d, rfl⟩ := split3 (n := 256) (k := 1024) y
  have he : ((cfg0.win 4).blk t).view.emb (ix3 0 r d) = ix3 (smp t) r d := by blk_ext [idx t, smp]
  refine Eq.trans ?_ (congrArg (val_main_v23 (F := Ideal) (toks m c) (mods m c) (gain m c)) he).symm
  rw [hid_stored]
  exact ((hid_row _ _ _ _ r d).trans (rows_at m c t r d)).trans (ref_first _ _ _ _ _ d).symm

theorem array_ret : (dats m 0 c).arrAt 5 cfg0.N = val_main_v24 (F := Ideal) (toks m c) (mods m c) (gain m c) (wgt m c) := by
  refine (dats m 0 c).arrAt_eq_of_covers 5 _ (by decide +kernel) fun t hf y => ?_
  obtain ⟨r, j, rfl⟩ := split3 (n := 256) (k := 2048) y
  have he : ((cfg0.win 5).blk t).view.emb (ix3 0 r j) = ix3 (smp t) r j := by blk_ext [idx t, smp]
  refine Eq.trans ?_ (congrArg (val_main_v24 (F := Ideal) (toks m c) (mods m c) (gain m c) (wgt m c)) he).symm
  rw [ret_stored]
  refine (ret_row _ _ _ _ _ r j).trans (Eq.trans ?_ (ref_ret _ _ _ _ _ _ j).symm)
  exact Finset.sum_congr rfl fun k _ => congrArg₂ (· * ·) (rows_at m c t r k) (retCols_at m c t k j)

theorem array_att : (dats m 0 c).arrAt 6 cfg0.N = val_main_v26 (F := Ideal) (toks m c) (mods m c) (gain m c) (wgt m c) := by
  refine (dats m 0 c).arrAt_eq_of_covers 6 _ (by decide +kernel) fun t hf y => ?_
  obtain ⟨r, j, rfl⟩ := split3 (n := 256) (k := 1536) y
  have he : ((cfg0.win 6).blk t).view.emb (ix3 0 r j) = ix3 (smp t) r j := by blk_ext [idx t, smp]
  refine Eq.trans ?_ (congrArg (val_main_v26 (F := Ideal) (toks m c) (mods m c) (gain m c) (wgt m c)) he).symm
  rw [att_stored]
  refine (att_row _ _ r j).trans (Eq.trans ?_ (ref_att _ _ _ _ _ _ j).symm)
  exact Finset.sum_congr rfl fun k _ => congrArg₂ (· * ·) (rows_at m c t r k) (attCols_at m c t k j)

/-- The kernel's run: its results are the final arrays, its arguments are kept. -/
theorem kernel_run (ρ : Dev nD → PrngReg) :
    θ_run defs (onTc (τ := τ) (main (F := Ideal))) ⟨m, fun _ => 0, ρ⟩ fun r => ∀ c : Dev nD,
      r.2.mem ((c : Thread nD τ).loc main_v1_0) = (dats m 0 c).arrAt 4 cfg0.N
      ∧ r.2.mem ((c : Thread nD τ).loc main_v1_1) = (dats m 0 c).arrAt 5 cfg0.N
      ∧ r.2.mem ((c : Thread nD τ).loc main_v1_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h.1 c).1 4, (h.1 c).1 5, (h.1 c).1 6, h.2.1 c⟩)
    (θ_run_and (run_main m ρ) (frame m ρ))

/-- The reference's run from the same arguments: its results are the same arrays. -/
theorem reference_run
    (m' : (ℓ : Loc Cert.Reference7Ideal.nD Cert.Reference7Ideal.τ Cert.Reference7Ideal.sig) → Buf (Elt Ideal) ℓ) (g' : Dev Cert.Reference7Ideal.nD → PrngReg)
    (ha : ∀ c : Dev nD,
      m' ((c.tc : Thread Cert.Reference7Ideal.nD Cert.Reference7Ideal.τ).loc Cert.Reference7Ideal.main_arg0) = toks m c
      ∧ m' ((c.tc : Thread Cert.Reference7Ideal.nD Cert.Reference7Ideal.τ).loc Cert.Reference7Ideal.main_arg1) = mods m c
      ∧ m' ((c.tc : Thread Cert.Reference7Ideal.nD Cert.Reference7Ideal.τ).loc Cert.Reference7Ideal.main_arg2) = gain m c
      ∧ m' ((c.tc : Thread Cert.Reference7Ideal.nD Cert.Reference7Ideal.τ).loc Cert.Reference7Ideal.main_arg3) = wgt m c) :
    θ_run (Cert.Reference7Ideal.defs (F := Ideal)) (onTc (τ := Cert.Reference7Ideal.τ) (Cert.Reference7Ideal.main (F := Ideal))) ⟨m', fun _ => 0, g'⟩
      (fun r => ∀ c : Dev Cert.Reference7Ideal.nD,
        r.2.mem ((c.tc : Thread Cert.Reference7Ideal.nD Cert.Reference7Ideal.τ).loc Cert.Reference7Ideal.main_v23) = (dats m 0 c).arrAt 4 cfg0.N
        ∧ r.2.mem ((c.tc : Thread Cert.Reference7Ideal.nD Cert.Reference7Ideal.τ).loc Cert.Reference7Ideal.main_v24) = (dats m 0 c).arrAt 5 cfg0.N
        ∧ r.2.mem ((c.tc : Thread Cert.Reference7Ideal.nD Cert.Reference7Ideal.τ).loc Cert.Reference7Ideal.main_v26) = (dats m 0 c).arrAt 6 cfg0.N
        ∧ r.2.mem ((c.tc : Thread Cert.Reference7Ideal.nD Cert.Reference7Ideal.τ).loc Cert.Reference7Ideal.main_arg0)
          = m' ((c.tc : Thread Cert.Reference7Ideal.nD Cert.Reference7Ideal.τ).loc Cert.Reference7Ideal.main_arg0)
        ∧ r.2.mem ((c.tc : Thread Cert.Reference7Ideal.nD Cert.Reference7Ideal.τ).loc Cert.Reference7Ideal.main_arg1)
          = m' ((c.tc : Thread Cert.Reference7Ideal.nD Cert.Reference7Ideal.τ).loc Cert.Reference7Ideal.main_arg1)
        ∧ r.2.mem ((c.tc : Thread Cert.Reference7Ideal.nD Cert.Reference7Ideal.τ).loc Cert.Reference7Ideal.main_arg2)
          = m' ((c.tc : Thread Cert.Reference7Ideal.nD Cert.Reference7Ideal.τ).loc Cert.Reference7Ideal.main_arg2)
        ∧ r.2.mem ((c.tc : Thread Cert.Reference7Ideal.nD Cert.Reference7Ideal.τ).loc Cert.Reference7Ideal.main_arg3)
          = m' ((c.tc : Thread Cert.Reference7Ideal.nD Cert.Reference7Ideal.τ).loc Cert.Reference7Ideal.main_arg3)) := by
  refine (θ_run _ _ _).mono (fun r h c => ?_) (Cert.Reference7Ideal.Value.run (F := Ideal) m' g')
  obtain ⟨h0, h1, h2, hk⟩ := h c
  have e0 := h0.trans (val_main_v23_eq (F := Ideal) _ _ _)
  have e1 := h1.trans (val_main_v24_eq (F := Ideal) _ _ _ _)
  have e2 := h2.trans (val_main_v26_eq (F := Ideal) _ _ _ _)
  obtain ⟨a0, a1, a2, a3⟩ := ha c
  rw [a0, a1, a2] at e0
  rw [a0, a1, a2, a3] at e1 e2
  exact ⟨e0.trans (array_hid m c).symm, e1.trans (array_ret m c).symm, e2.trans (array_att m c).symm, hk⟩

end Cert.ProjContext

end
-- ==== Proof.ProjHost.lean ====
/- The input projection's weight, from the order of its columns in which the calls of the step keep it to the order of the model:
   the host's layout read column by column. -/
module

public import proofs.«01_k».proof.Proof.Columns

@[expose] public section

set_option maxRecDepth 16384

namespace Cert.Columns

open Idealize.ShloMosaic

variable {α : Type} {N M : ℕ}

/-- Column `c` of the model's order is the column `src c` of the step's. -/
theorem restored_at (x : (⟨2, ![N, 3584]⟩ : Shape).Idx → α)
    (s1 : (⟨2, ![N, 3584]⟩ : Shape).Slices ![0, 0] ⟨2, ![N, 2048]⟩)
    (s2 : (⟨2, ![N, 3584]⟩ : Shape).Slices ![0, 2048] ⟨2, ![N, 1536]⟩)
    (s3 : (⟨2, ![N, 2048]⟩ : Shape).Slices ![0, 0] ⟨2, ![N, 1024]⟩)
    (s4 : (⟨2, ![N, 2048]⟩ : Shape).Slices ![0, 1024] ⟨2, ![N, 1024]⟩)
    (a1 : (⟨2, ![N, 1024]⟩ : Shape).ShapeCasts ⟨4, ![M, 2, 2, 32]⟩)
    (a2 : (⟨4, ![M, 2, 2, 32]⟩ : Shape).Transposes [0, 2, 1, 3] ⟨4, ![M, 2, 2, 32]⟩)
    (a3 : (⟨4, ![M, 2, 2, 32]⟩ : Shape).ShapeCasts ⟨2, ![N, 1024]⟩)
    (c1 : Shape.Concatenates [⟨2, ![N, 1024]⟩, ⟨2, ![N, 1024]⟩] ⟨2, ![N, 2048]⟩ 1)
    (b1 : (⟨2, ![N, 2048]⟩ : Shape).ShapeCasts ⟨4, ![N, 4, 4, 128]⟩)
    (b2 : (⟨4, ![N, 4, 4, 128]⟩ : Shape).Transposes [0, 2, 1, 3] ⟨4, ![N, 4, 4, 128]⟩)
    (b3 : (⟨4, ![N, 4, 4, 128]⟩ : Shape).ShapeCasts ⟨2, ![N, 2048]⟩)
    (d1 : (⟨2, ![N, 1536]⟩ : Shape).ShapeCasts ⟨4, ![N, 4, 3, 128]⟩)
    (d2 : (⟨4, ![N, 4, 3, 128]⟩ : Shape).Transposes [0, 2, 1, 3] ⟨4, ![N, 3, 4, 128]⟩)
    (d3 : (⟨4, ![N, 3, 4, 128]⟩ : Shape).ShapeCasts ⟨2, ![N, 1536]⟩)
    (c2 : Shape.Concatenates [⟨2, ![N, 2048]⟩, ⟨2, ![N, 1536]⟩] ⟨2, ![N, 3584]⟩ 1)
    (hM : M = 8 * N) (n : Fin N) (c : Fin 3584) :
    concatenate ⟨2, ![N, 3584]⟩ 1
      [⟨⟨2, ![N, 2048]⟩, concatenate ⟨2, ![N, 2048]⟩ 1
          [⟨⟨2, ![N, 1024]⟩, shapeCast ⟨2, ![N, 1024]⟩ (transpose ⟨4, ![M, 2, 2, 32]⟩ [0, 2, 1, 3] (shapeCast ⟨4, ![M, 2, 2, 32]⟩
              (extractStridedSlice ⟨2, ![N, 1024]⟩ ![0, 0] (shapeCast ⟨2, ![N, 2048]⟩ (transpose ⟨4, ![N, 4, 4, 128]⟩ [0, 2, 1, 3]
                (shapeCast ⟨4, ![N, 4, 4, 128]⟩ (extractStridedSlice ⟨2, ![N, 2048]⟩ ![0, 0] x s1) b1) b2) b3) s3) a1) a2) a3⟩,
            ⟨⟨2, ![N, 1024]⟩, extractStridedSlice ⟨2, ![N, 1024]⟩ ![0, 1024] (shapeCast ⟨2, ![N, 2048]⟩ (transpose ⟨4, ![N, 4, 4, 128]⟩
                [0, 2, 1, 3] (shapeCast ⟨4, ![N, 4, 4, 128]⟩ (extractStridedSlice ⟨2, ![N, 2048]⟩ ![0, 0] x s1) b1) b2) b3) s4⟩] c1⟩,
        ⟨⟨2, ![N, 1536]⟩, shapeCast ⟨2, ![N, 1536]⟩ (transpose ⟨4, ![N, 3, 4, 128]⟩ [0, 2, 1, 3] (shapeCast ⟨4, ![N, 4, 3, 128]⟩
          (extractStridedSlice ⟨2, ![N, 1536]⟩ ![0, 2048] x s2) d1) d2) d3⟩] c2 (ix2 n c)
      = x (ix2 n (src c)) := by
  have hc := c.isLt
  have hn := n.isLt
  unfold src
  split
  · rename_i h
    refine (concatenate_pair_apply_left 1 _ _ c2 _ rfl (ix2 n ⟨c.val, by omega⟩)
      (fun k => by match k with | ⟨0, _⟩ => rfl | ⟨1, _⟩ => rfl)).trans ?_
    refine (concatenate_pair_apply_left 1 _ _ c1 _ rfl (ix2 n ⟨c.val, h⟩)
      (fun k => by match k with | ⟨0, _⟩ => rfl | ⟨1, _⟩ => rfl)).trans ?_
    refine (exchange_at _ a1 a2 a3 n ⟨c.val / 128 * 128 + c.val / 32 % 2 * 64 + c.val / 64 % 2 * 32 + c.val % 32, by omega⟩ _
      ⟨n.val * 8 + c.val / 128, by omega⟩ ⟨c.val / 32 % 2, by omega⟩ ⟨c.val / 64 % 2, by omega⟩ ⟨c.val % 32, by omega⟩
      (by dsimp only; omega) (by dsimp only; omega)).trans ?_
    refine (extractStridedSlice_apply _ _ s3 _
      (ix2 n ⟨c.val / 128 * 128 + c.val / 32 % 2 * 64 + c.val / 64 % 2 * 32 + c.val % 32, by omega⟩)
      (fun k => by match k with | ⟨0, _⟩ => exact (Nat.zero_add _).symm | ⟨1, _⟩ => exact (Nat.zero_add _).symm)).trans ?_
    refine (exchange_at _ b1 b2 b3 n
      ⟨(c.val / 128 % 4 * 4 + c.val / 512) * 128 + c.val / 32 % 2 * 64 + c.val / 64 % 2 * 32 + c.val % 32, by omega⟩ _ n
      ⟨c.val / 128 % 4, by omega⟩ ⟨c.val / 512, by omega⟩ ⟨c.val / 32 % 2 * 64 + c.val / 64 % 2 * 32 + c.val % 32, by omega⟩
      (by dsimp only; omega) (by dsimp only; omega)).trans ?_
    exact extractStridedSlice_apply _ x s1 _ _
      (fun k => by match k with | ⟨0, _⟩ => exact (Nat.zero_add _).symm | ⟨1, _⟩ => exact (Nat.zero_add _).symm)
  split
  · rename_i h h'
    refine (concatenate_pair_apply_left 1 _ _ c2 _ rfl (ix2 n ⟨c.val, h'⟩)
      (fun k => by match k with | ⟨0, _⟩ => rfl | ⟨1, _⟩ => rfl)).trans ?_
    refine (concatenate_pair_apply_right 1 _ _ c1 (ix2 n ⟨c.val, h'⟩) rfl rfl (ix2 n ⟨c.val - 1024, by omega⟩)
      (fun k hk => by match k with | ⟨0, _⟩ => rfl | ⟨1, _⟩ => exact absurd rfl hk)
      (show c.val - 1024 + 1024 = c.val by omega)).trans ?_
    refine (extractStridedSlice_apply _ _ s4 _ (ix2 n ⟨c.val, h'⟩) (fun k => by
      match k with
      | ⟨0, _⟩ => exact (Nat.zero_add _).symm
      | ⟨1, _⟩ => exact (show c.val = 1024 + (c.val - 1024) by omega))).trans ?_
    refine (exchange_at _ b1 b2 b3 n ⟨(c.val / 128 % 4 * 4 + c.val / 512) * 128 + c.val % 128, by omega⟩ _ n
      ⟨c.val / 128 % 4, by omega⟩ ⟨c.val / 512, by omega⟩ ⟨c.val % 128, by omega⟩ (by dsimp only; omega) (by dsimp only; omega)).trans ?_
    exact extractStridedSlice_apply _ x s1 _ _
      (fun k => by match k with | ⟨0, _⟩ => exact (Nat.zero_add _).symm | ⟨1, _⟩ => exact (Nat.zero_add _).symm)
  · rename_i h h'
    refine (concatenate_pair_apply_right 1 _ _ c2 (ix2 n c) rfl rfl (ix2 n ⟨c.val - 2048, by omega⟩)
      (fun k hk => by match k with | ⟨0, _⟩ => rfl | ⟨1, _⟩ => exact absurd rfl hk)
      (show c.val - 2048 + 2048 = c.val by omega)).trans ?_
    refine (exchange_at _ d1 d2 d3 n ⟨(c.val / 128 % 4 * 3 + (c.val / 512 - 4)) * 128 + c.val % 128, by omega⟩ _ n
      ⟨c.val / 128 % 4, by omega⟩ ⟨c.val / 512 - 4, by omega⟩ ⟨c.val % 128, by omega⟩ (by dsimp only; omega) (by dsimp only; omega)).trans ?_
    exact extractStridedSlice_apply _ x s2 _ _ (fun k => by
      match k with
      | ⟨0, _⟩ => exact (Nat.zero_add _).symm
      | ⟨1, _⟩ => exact (show 2048 + (c.val / 128 % 4 * 3 + (c.val / 512 - 4)) * 128 + c.val % 128
          = 2048 + ((c.val / 128 % 4 * 3 + (c.val / 512 - 4)) * 128 + c.val % 128) by omega))

/-- Which of the model's columns stands at place `j` of the step's order. -/
def dst (j : Fin 3584) : Fin 3584 :=
  if j.val < 2048 then
    if j.val / 128 % 4 < 2 then
      ⟨j.val / 128 % 4 * 512 + j.val / 512 * 128 + j.val / 32 % 2 * 64 + j.val / 64 % 2 * 32 + j.val % 32, by have := j.isLt; omega⟩
    else ⟨j.val / 128 % 4 * 512 + j.val / 512 * 128 + j.val % 128, by have := j.isLt; omega⟩
  else ⟨2048 + (j.val - 2048) / 128 % 3 * 512 + (j.val - 2048) / 384 * 128 + j.val % 128, by have := j.isLt; omega⟩

theorem src_dst (j : Fin 3584) : src (dst j) = j := by
  revert j; decide +kernel

end Cert.Columns
-- ==== Proof.ProjBlocks.lean ====
/- The columns of the weight as the projection's first point puts them in order: 28 pieces of 128 columns of the four blocks, eight
   of them with their middle quarters exchanged. Together they are the weight as it was given to the call. -/
module

public import proofs.«01_k».proof.Proof.ProjFrame
public import proofs.«01_k».proof.Proof.ProjHost
public import proofs.«01_k».proof.Proof.Coordinates
public import proofs.«01_k».proof.Proof.Tiles

@[expose] public section

set_option maxRecDepth 16384

noncomputable section

namespace Cert.Proj

open Idealize.ShloMosaic Cert.Kernel6Ideal Cert.Kernel6Ideal.Gen Idealize.ShloMosaic.TcCoe Idealize.SL.Sem Cert.Coordinates Cert.Columns
open Cert.ProjFrame Cert.Tail

variable (m : (ℓ : Loc nD τ sig) → Buf (Elt Ideal) ℓ) (c : Dev nD) (t : Fin cfg0.N)

/-- The four arguments on one device: the tokens, the modulation, the gain, and the weight with its columns in the step's order. -/
def toks : FVec Ideal S2x2048x1024 .f32 := m ((c : Thread nD τ).loc main_arg0)
def mods : FVec Ideal S3x6x1024 .f32 := m ((c : Thread nD τ).loc main_arg1)
def gain : FVec Ideal S1x1024 .f32 := m ((c : Thread nD τ).loc main_arg2)
def wgt : FVec Ideal S1024x3584 .f32 := m ((c : Thread nD τ).loc main_arg3)

/-- Where each window stands at each grid point. -/
theorem idx : ∀ t : Fin cfg0.N, win0_0.index t = ![t.val / 4, t.val % 4, 0] ∧ win0_1.index t = ![t.val / 4, 0, 0]
    ∧ win0_2.index t = ![0, 0] ∧ win0_3.index t = ![0, 0, 0] ∧ win0_4.index t = ![t.val / 4, t.val % 4, 0]
    ∧ win0_5.index t = ![t.val / 4, t.val % 4, 0] ∧ win0_6.index t = ![t.val / 4, t.val % 4, 0] ∧ win0_7.index t = ![0, 0] :=
  (by decide +kernel : ∀ t : Fin grid0.N, _)

/-- A block's column is a column of the weight in the model's order. -/
theorem block_at (q : Fin 4) (i : Fin 1024) (d : Fin 896) :
    iblk m c 3 t (ix3 q i d) = wgt m c (ix2 i (src ⟨896 * q.val + d.val, by omega⟩)) := by
  show iblk m c 3 t (ix3 q i d) = m ((c : Thread nD τ).loc main_arg3) (ix2 i (src ⟨896 * q.val + d.val, by omega⟩))
  blk_simp [iblk, idx t]
  entry_read
  have e : ((View.whole main_v17).slice (win0_3.rect t)).emb (ix3 q i d) = ix3 q i d := by blk_ext [idx t]
  rw [e]
  refine (transpose_apply [1, 0, 2] _ _ (ix3 q i d) (ix3 i q d) fun k => by
    match k with | ⟨0, _⟩ => rfl | ⟨1, _⟩ => rfl | ⟨2, _⟩ => rfl).trans ?_
  refine (shapeCast_apply _ _ (ix3 i q d) (ix2 i ⟨896 * q.val + d.val, by omega⟩) ?_).trans ?_
  · rw [Shape.rowMajor_val_two, Shape.rowMajor_val_three]
    show i.val * 3584 + (896 * q.val + d.val) = (i.val * 4 + q.val) * 896 + d.val
    omega
  exact restored_at (N := 1024) (M := 8192) _ _ _ _ _ _ _ _ _ _ _ _ _ _ _ concatenates_S1024x2048_S1024x1536_S1024x3584_d1 rfl i _

theorem plain_at (v : Vec Ideal S1x1024x128 .bf16) (i : Fin 1024) (l : Fin 128) :
    k0_pay22 (F := Ideal) v (ix2 i l) = v (ix3 0 i l) := by
  pointwise [k0_pay22]

/-- The middle quarters of a row of 128 exchanged. -/
def swapped (l : Fin 128) : Fin 128 := ⟨l.val / 32 % 2 * 64 + l.val / 64 * 32 + l.val % 32, by omega⟩

/-- Of the three shifted rows, each place takes the one that holds its column. -/
theorem turned_at (v : Vec Ideal S1x1024x128 .bf16) (i : Fin 1024) (l : Fin 128) :
    k0_pay3 (F := Ideal) v (ix2 i l) = v (ix3 0 i (swapped l)) := by
  have second : ∀ l : Fin 128, IntOp.andi (IntOp.cmpi .sge (BitVec.ofNat 32 l.val) 32#32) (IntOp.cmpi .slt (BitVec.ofNat 32 l.val) 64#32)
      = if l.val / 32 = 1 then 1#1 else 0#1 := by decide +kernel
  have third : ∀ l : Fin 128, IntOp.andi (IntOp.cmpi .sge (BitVec.ofNat 32 l.val) 64#32) (IntOp.cmpi .slt (BitVec.ofNat 32 l.val) 96#32)
      = if l.val / 32 = 2 then 1#1 else 0#1 := by decide +kernel
  pointwise [k0_pay3]
  rw [second, third]
  have take : ∀ k : ℕ, ∀ h : k < 128, k = l.val / 32 % 2 * 64 + l.val / 64 * 32 + l.val % 32 → v (ix3 0 i ⟨k, h⟩) = v (ix3 0 i (swapped l)) :=
    fun k h e => congrArg (fun k => v (ix3 0 i k)) (Fin.ext e)
  by_cases h1 : l.val / 32 = 1
  · rw [if_pos h1]; exact take ((l.val + 128 - 96) % 128) _ (by omega)
  rw [if_neg h1]
  by_cases h2 : l.val / 32 = 2
  · rw [if_pos h2]; exact take ((l.val + 128 - 32) % 128) _ (by omega)
  rw [if_neg h2]
  exact take l.val _ (by omega)

section
variable (P : Vec Ideal S4x1024x896 .bf16) {q e off : ℕ}
  (inb : ∀ a, (![q, 0, e] : Fin 3 → ℕ) a + (![1, 1024, 128] : Fin 3 → ℕ) a ≤ S4x1024x896.size a)
  (inb' : ∀ a, (![0, off] : Fin 2 → ℕ) a + (![1024, 128] : Fin 2 → ℕ) a ≤ S1024x3584.size a)

/-- The four blocks' columns in the step's order. -/
def joined : Vec Ideal S1024x3584 .bf16 := fun y =>
  P (ix3 ⟨(dst (y 1)).val / 896, by have := (dst (y 1)).isLt; omega⟩ (y 0) ⟨(dst (y 1)).val % 896, by omega⟩)

/-- Where a piece's columns come from, checked column by column. -/
def From (f : Fin 128 → Fin 128) (q e off : ℕ) : Prop := ∀ l : Fin 128, ∀ h : off + l.val < 3584,
  (dst ⟨off + l.val, h⟩).val / 896 = q ∧ (dst ⟨off + l.val, h⟩).val % 896 = e + (f l).val

theorem joined_at (f : Fin 128 → Fin 128) (h : From f q e off) (i : Fin 1024) (l : Fin 128) :
    View.ld P (Rect.unit (s := S4x1024x896) ![q, 0, e] ![1, 1024, 128] inb) (ix3 0 i (f l))
      = joined P ((Rect.unit (s := S1024x3584) ![0, off] ![1024, 128] inb').emb (ix2 i l)) := by
  have hb : off + 128 ≤ 3584 := inb' 1
  obtain ⟨h0, h1⟩ := h l (by omega)
  have ey : (Rect.unit (s := S1024x3584) ![0, off] ![1024, 128] inb').emb (ix2 i l) = ix2 i ⟨off + l.val, by omega⟩ := funext fun a =>
    match a with
    | ⟨0, _⟩ => Fin.ext (show 0 + 1 * i.val = i.val by omega)
    | ⟨1, _⟩ => Fin.ext (show off + 1 * l.val = off + l.val by omega)
  rw [ey]
  exact ld_at (Val := Elt Ideal) (S := S4x1024x896) (e := .bf16) P inb (ix3 0 i (f l)) _ (coord3 (h0.trans (Nat.add_zero q).symm) (Nat.zero_add _).symm h1)

theorem plain_piece (h : From id q e off) (x : (Rect.unit (s := S1024x3584) ![0, off] ![1024, 128] inb').shape.Idx) :
    k0_pay22 (F := Ideal) (View.ld P (Rect.unit (s := S4x1024x896) ![q, 0, e] ![1, 1024, 128] inb)) x
      = joined P ((Rect.unit (s := S1024x3584) ![0, off] ![1024, 128] inb').emb x) := by
  obtain ⟨i, l, rfl⟩ := split2 (n := 1024) (k := 128) x
  exact (plain_at _ i l).trans (joined_at P inb inb' id h i l)

theorem turned_piece (h : From swapped q e off) (x : (Rect.unit (s := S1024x3584) ![0, off] ![1024, 128] inb').shape.Idx) :
    k0_pay3 (F := Ideal) (View.ld P (Rect.unit (s := S4x1024x896) ![q, 0, e] ![1, 1024, 128] inb)) x
      = joined P ((Rect.unit (s := S1024x3584) ![0, off] ![1024, 128] inb').emb x) := by
  obtain ⟨i, l, rfl⟩ := split2 (n := 1024) (k := 128) x
  exact (turned_at _ i l).trans (joined_at P inb inb' swapped h i l)

end

/-- The columns that the first point leaves. -/
theorem cols_joined : cols m c = joined (iblk m c 3 start) := by
  unfold cols firstRun; frame_out
  funext y
  refine View.canon_apply_of_pieces _ _ ?_ y (View.cover_of_tiledL (s := S1024x3584) _ ![1024, 128] (by sl_kernel_rfl) y)
  iterate 20
    refine List.forall_mem_cons.mpr ⟨fun x => ?_, ?_⟩
    · dsimp only
      refine plain_piece _ _ _ ?_ x
      unfold From; decide +kernel
  iterate 8
    refine List.forall_mem_cons.mpr ⟨fun x => ?_, ?_⟩
    · dsimp only
      refine turned_piece _ _ _ ?_ x
      unfold From; decide +kernel
  exact List.forall_mem_nil _

/-- They are the weight. -/
theorem cols_at (i : Fin 1024) (j : Fin 3584) : cols m c (ix2 i j) = wgt m c (ix2 i j) := by
  rw [cols_joined]
  refine (block_at m c start _ i _).trans (congrArg (fun k => wgt m c (ix2 i k)) ?_)
  refine Eq.trans (congrArg src (Fin.ext ?_)) (src_dst j)
  exact Nat.div_add_mod (dst j).val 896

end Cert.Proj

end
-- ==== Proof.ProjValues.lean ====
/- The projection's call as mathematics: what each point stores is the tokens' rows and their products with the weight, and so are
   the final arrays, which are the reference's results. -/
module

public import proofs.«01_k».proof.Proof.ProjBlocks
public import proofs.«01_k».proof.Proof.ProjRows

@[expose] public section

set_option maxRecDepth 16384

noncomputable section

namespace Cert.Proj

open Idealize.ShloMosaic Cert.Kernel6Ideal Cert.Kernel6Ideal.Gen Idealize.ShloMosaic.TcCoe Idealize.SL.Sem Cert.Coordinates
open Cert.ProjFrame Cert.Tail
open scoped BigOperators

variable (m : (ℓ : Loc nD τ sig) → Buf (Elt Ideal) ℓ) (c : Dev nD) (t : Fin cfg0.N)

/-- The rows of the modulation that a point reads: the scale and the shift. -/
abbrev scale : Vec Ideal S1x1x1024 .f32 :=
  View.ld (iblk m c 1 t) (Rect.unit (s := S1x6x1024) ![0, 1, 0] ![1, 1, 1024] inb_S1x6x1024_S1x1x1024_0_1_0)
abbrev shift : Vec Ideal S1x1x1024 .f32 :=
  View.ld (iblk m c 1 t) (Rect.unit (s := S1x6x1024) ![0, 0, 0] ![1, 1, 1024] inb_S1x6x1024_S1x1x1024_0_0_0)

/-- The rows that a point makes, and the two parts of the columns it multiplies them with. -/
abbrev rows : Vec Ideal S512x1024 .bf16 := k0_pay42 (F := Ideal) (iblk m c 0 t) (iblk m c 2 t) (scale m c t) (shift m c t)
abbrev retCols : Vec Ideal S1024x2048 .bf16 :=
  View.ld (cols m c) (Rect.unit (s := S1024x3584) ![0, 0] ![1024, 2048] inb_S1024x3584_S1024x2048_0_0)
abbrev attCols : Vec Ideal S1024x1536 .bf16 :=
  View.ld (cols m c) (Rect.unit (s := S1024x3584) ![0, 2048] ![1024, 1536] inb_S1024x3584_S1024x1536_0_2048)

theorem hid_stored : hidAt m c t = k0_pay43 (F := Ideal) (iblk m c 0 t) (iblk m c 2 t) (scale m c t) (shift m c t) := by
  by_cases h : t.val = 0
  · unfold hidAt; rw [dif_pos h]; unfold firstRun; frame_out; rfl
  · unfold hidAt; rw [dif_neg h]; unfold laterRun; frame_out; rfl

/-- A load from the columns just stored reads them as they are left. -/
theorem cols_loaded {L : List (View.Piece (Elt Ideal) S1024x3584 .bf16)} (hL : View.canon L = cols m c) (v : View sig .tc .vmem S1024x3584 .bf16)
    {o z : Fin 2 → ℕ} (inb : ∀ a, o a + z a ≤ S1024x3584.size a) :
    v.readCov L (Rect.unit (s := S1024x3584) o z inb).toLoadRect = View.ld (cols m c) (Rect.unit (s := S1024x3584) o z inb) := by
  rw [View.readCov_eq_canon', hL]

theorem ret_stored : retAt m c t = k0_pay1 (F := Ideal) (rows m c t) (retCols m c) := by
  by_cases h : t.val = 0
  · obtain rfl : t = start := Fin.ext h
    unfold retAt; rw [dif_pos h]; unfold firstRun; frame_out
    refine congrArg (k0_pay1 (F := Ideal) (rows m c start)) (cols_loaded m c ?_ _ _)
    unfold cols firstRun; frame_out
  · unfold retAt; rw [dif_neg h]; unfold retCols; generalize cols m c = u; unfold laterRun; frame_out; rfl

theorem att_stored : attAt m c t = k0_pay2 (F := Ideal) (rows m c t) (attCols m c) := by
  by_cases h : t.val = 0
  · obtain rfl : t = start := Fin.ext h
    unfold attAt; rw [dif_pos h]; unfold firstRun; frame_out
    refine congrArg (k0_pay2 (F := Ideal) (rows m c start)) (cols_loaded m c ?_ _ _)
    unfold cols firstRun; frame_out
  · unfold attAt; rw [dif_neg h]; unfold attCols; generalize cols m c = u; unfold laterRun; frame_out; rfl

theorem tlt : t.val < 8 := lt_of_lt_of_eq t.isLt (by decide +kernel)

/-- The sample of point `t`, and the token of its row `r`. -/
def smp : Fin 2 := ⟨t.val / 4, by have := tlt t; omega⟩
def tok (r : Fin 512) : Fin 2048 := ⟨t.val % 4 * 512 + r.val, by omega⟩

theorem toks_at (r : Fin 512) (k : Fin 1024) : iblk m c 0 t (ix3 0 r k) = toks m c (ix3 (smp t) (tok t r) k) := by
  show iblk m c 0 t (ix3 0 r k) = m ((c : Thread nD τ).loc main_arg0) (ix3 (smp t) (tok t r) k)
  blk_simp [iblk, idx t, smp, tok]
  entry_read
  blk_ext [idx t]

theorem mods_at (a : Fin 6) (k : Fin 1024) : iblk m c 1 t (ix3 0 a k) = mods m c (ix3 ⟨(smp t).val, by omega⟩ a k) := by
  show iblk m c 1 t (ix3 0 a k) = m ((c : Thread nD τ).loc main_arg1) (ix3 ⟨(smp t).val, by omega⟩ a k)
  blk_simp [iblk, idx t, smp]
  entry_read
  blk_ext [idx t]

theorem gain_at (k : Fin 1024) : iblk m c 2 t (ix2 0 k) = gain m c (ix2 0 k) := by
  show iblk m c 2 t (ix2 0 k) = m ((c : Thread nD τ).loc main_arg2) (ix2 0 k)
  blk_simp [iblk, idx t]
  entry_read
  blk_ext [idx t]

theorem scale_at (k : Fin 1024) : scale m c t (ix3 0 0 k) = mods m c (ix3 ⟨(smp t).val, by omega⟩ 1 k) :=
  (ld_at (Val := Elt Ideal) (S := S1x6x1024) (e := .f32) (iblk m c 1 t) inb_S1x6x1024_S1x1x1024_0_1_0 (ix3 0 0 k) (ix3 0 1 k)
    (coord3 rfl rfl (Nat.zero_add _).symm)).trans (mods_at m c t 1 k)

theorem shift_at (k : Fin 1024) : shift m c t (ix3 0 0 k) = mods m c (ix3 ⟨(smp t).val, by omega⟩ 0 k) :=
  (ld_at (Val := Elt Ideal) (S := S1x6x1024) (e := .f32) (iblk m c 1 t) inb_S1x6x1024_S1x1x1024_0_0_0 (ix3 0 0 k) (ix3 0 0 k)
    (coord3 rfl rfl (Nat.zero_add _).symm)).trans (mods_at m c t 0 k)

theorem retCols_at (k : Fin 1024) (j : Fin 2048) : retCols m c (ix2 k j) = wgt m c (ix2 k ⟨j.val, by omega⟩) :=
  (ld_at (Val := Elt Ideal) (S := S1024x3584) (e := .bf16) (cols m c) inb_S1024x3584_S1024x2048_0_0 (ix2 k j) (ix2 k ⟨j.val, by omega⟩)
    (coord2 (Nat.zero_add _).symm (Nat.zero_add _).symm)).trans (cols_at m c k _)

theorem attCols_at (k : Fin 1024) (j : Fin 1536) : attCols m c (ix2 k j) = wgt m c (ix2 k ⟨2048 + j.val, by omega⟩) :=
  (ld_at (Val := Elt Ideal) (S := S1024x3584) (e := .bf16) (cols m c) inb_S1024x3584_S1024x1536_0_2048 (ix2 k j) (ix2 k ⟨2048 + j.val, by omega⟩)
    (coord2 (Nat.zero_add _).symm rfl)).trans (cols_at m c k _)

/-- A point's rows are the reference's. -/
theorem rows_at (r : Fin 512) (d : Fin 1024) : rows m c t (ix2 r d) = refHid (toks m c) (mods m c) (gain m c) (smp t) (tok t r) d := by
  refine (hid_row _ _ _ _ r d).trans ?_
  unfold refHid
  rw [show (fun k => iblk m c 0 t (ix3 0 r k)) = _ from funext (toks_at m c t r), show (fun k => iblk m c 2 t (ix2 0 k)) = _ from funext (gain_at m c t),
    show (fun k => scale m c t (ix3 0 0 k)) = _ from funext (scale_at m c t), show (fun k => shift m c t (ix3 0 0 k)) = _ from funext (shift_at m c t)]

open Cert.Reference6Ideal.Read

theorem array_hid : (dats m 0 c).arrAt 4 cfg0.N = val_main_v23 (F := Ideal) (toks m c) (mods m c) (gain m c) := by
  refine (dats m 0 c).arrAt_eq_of_covers 4 _ (by decide +kernel) fun t hf y => ?_
  obtain ⟨r, d, rfl⟩ := split3 (n := 512) (k := 1024) y
  have he : ((cfg0.win 4).blk t).view.emb (ix3 0 r d) = ix3 (smp t) (tok t r) d := by blk_ext [idx t, smp, tok]
  rw [after_hid]
  refine Eq.trans ?_ (congrArg (val_main_v23 (F := Ideal) (toks m c) (mods m c) (gain m c)) he).symm
  rw [hid_stored]
  exact ((stored_row _ _ _ _ r d).trans (rows_at m c t r d)).trans (ref_first _ _ _ _ _ d).symm

theorem array_ret : (dats m 0 c).arrAt 5 cfg0.N = val_main_v24 (F := Ideal) (toks m c) (mods m c) (gain m c) (wgt m c) := by
  refine (dats m 0 c).arrAt_eq_of_covers 5 _ (by decide +kernel) fun t hf y => ?_
  obtain ⟨r, j, rfl⟩ := split3 (n := 512) (k := 2048) y
  have he : ((cfg0.win 5).blk t).view.emb (ix3 0 r j) = ix3 (smp t) (tok t r) j := by blk_ext [idx t, smp, tok]
  rw [after_ret]
  refine Eq.trans ?_ (congrArg (val_main_v24 (F := Ideal) (toks m c) (mods m c) (gain m c) (wgt m c)) he).symm
  rw [ret_stored]
  refine (ret_row _ _ r j).trans (Eq.trans ?_ (ref_ret _ _ _ _ _ _ j).symm)
  exact Finset.sum_congr rfl fun k _ => congrArg₂ (· * ·) (rows_at m c t r k) (retCols_at m c k j)

theorem array_att : (dats m 0 c).arrAt 6 cfg0.N = val_main_v26 (F := Ideal) (toks m c) (mods m c) (gain m c) (wgt m c) := by
  refine (dats m 0 c).arrAt_eq_of_covers 6 _ (by decide +kernel) fun t hf y => ?_
  obtain ⟨r, j, rfl⟩ := split3 (n := 512) (k := 1536) y
  have he : ((cfg0.win 6).blk t).view.emb (ix3 0 r j) = ix3 (smp t) (tok t r) j := by blk_ext [idx t, smp, tok]
  rw [after_att]
  refine Eq.trans ?_ (congrArg (val_main_v26 (F := Ideal) (toks m c) (mods m c) (gain m c) (wgt m c)) he).symm
  rw [att_stored]
  refine (att_row _ _ r j).trans (Eq.trans ?_ (ref_att _ _ _ _ _ _ j).symm)
  exact Finset.sum_congr rfl fun k _ => congrArg₂ (· * ·) (rows_at m c t r k) (attCols_at m c k j)

theorem array_col : (dats m 0 c).arrAt 7 cfg0.N = val_main_v27 (F := Ideal) (wgt m c) := by
  refine (dats m 0 c).arrAt_eq_of_covers 7 _ (by decide +kernel) fun t hf y => ?_
  have hc := cols_at m c
  rw [after_col]
  revert hc
  generalize cols m c = u
  intro hc
  obtain ⟨i, j, rfl⟩ := split2 (n := 1024) (k := 3584) y
  have he : ((cfg0.win 7).blk t).view.emb (ix2 i j) = ix2 i j := by blk_ext [idx t]
  refine Eq.trans ?_ (congrArg (val_main_v27 (F := Ideal) (wgt m c)) he).symm
  exact (hc i j).trans (ref_wgt _ i j).symm

/-- The kernel's run: its results are the final arrays, its arguments are kept. -/
theorem kernel_run (ρ : Dev nD → PrngReg) :
    θ_run defs (onTc (τ := τ) (main (F := Ideal))) ⟨m, fun _ => 0, ρ⟩ fun r => ∀ c : Dev nD,
      r.2.mem ((c : Thread nD τ).loc main_v18_0) = (dats m 0 c).arrAt 4 cfg0.N
      ∧ r.2.mem ((c : Thread nD τ).loc main_v18_1) = (dats m 0 c).arrAt 5 cfg0.N
      ∧ r.2.mem ((c : Thread nD τ).loc main_v18_2) = (dats m 0 c).arrAt 6 cfg0.N
      ∧ r.2.mem ((c : Thread nD τ).loc main_v18_3) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h.1 c).1 4, (h.1 c).1 5, (h.1 c).1 6, (h.1 c).1 7, h.2.1 c⟩)
    (θ_run_and (run_arrays m ρ) (kept m ρ))

/-- The reference's run from the same arguments: its results are the same arrays. -/
theorem reference_run
    (m' : (ℓ : Loc Cert.Reference6Ideal.nD Cert.Reference6Ideal.τ Cert.Reference6Ideal.sig) → Buf (Elt Ideal) ℓ) (g' : Dev Cert.Reference6Ideal.nD → PrngReg)
    (ha : ∀ c : Dev nD,
      m' ((c.tc : Thread Cert.Reference6Ideal.nD Cert.Reference6Ideal.τ).loc Cert.Reference6Ideal.main_arg0) = toks m c
      ∧ m' ((c.tc : Thread Cert.Reference6Ideal.nD Cert.Reference6Ideal.τ).loc Cert.Reference6Ideal.main_arg1) = mods m c
      ∧ m' ((c.tc : Thread Cert.Reference6Ideal.nD Cert.Reference6Ideal.τ).loc Cert.Reference6Ideal.main_arg2) = gain m c
      ∧ m' ((c.tc : Thread Cert.Reference6Ideal.nD Cert.Reference6Ideal.τ).loc Cert.Reference6Ideal.main_arg3) = wgt m c) :
    θ_run (Cert.Reference6Ideal.defs (F := Ideal)) (onTc (τ := Cert.Reference6Ideal.τ) (Cert.Reference6Ideal.main (F := Ideal))) ⟨m', fun _ => 0, g'⟩
      (fun r => ∀ c : Dev Cert.Reference6Ideal.nD,
        r.2.mem ((c.tc : Thread Cert.Reference6Ideal.nD Cert.Reference6Ideal.τ).loc Cert.Reference6Ideal.main_v23) = (dats m 0 c).arrAt 4 cfg0.N
        ∧ r.2.mem ((c.tc : Thread Cert.Reference6Ideal.nD Cert.Reference6Ideal.τ).loc Cert.Reference6Ideal.main_v24) = (dats m 0 c).arrAt 5 cfg0.N
        ∧ r.2.mem ((c.tc : Thread Cert.Reference6Ideal.nD Cert.Reference6Ideal.τ).loc Cert.Reference6Ideal.main_v26) = (dats m 0 c).arrAt 6 cfg0.N
        ∧ r.2.mem ((c.tc : Thread Cert.Reference6Ideal.nD Cert.Reference6Ideal.τ).loc Cert.Reference6Ideal.main_v27) = (dats m 0 c).arrAt 7 cfg0.N
        ∧ r.2.mem ((c.tc : Thread Cert.Reference6Ideal.nD Cert.Reference6Ideal.τ).loc Cert.Reference6Ideal.main_arg0)
          = m' ((c.tc : Thread Cert.Reference6Ideal.nD Cert.Reference6Ideal.τ).loc Cert.Reference6Ideal.main_arg0)
        ∧ r.2.mem ((c.tc : Thread Cert.Reference6Ideal.nD Cert.Reference6Ideal.τ).loc Cert.Reference6Ideal.main_arg1)
          = m' ((c.tc : Thread Cert.Reference6Ideal.nD Cert.Reference6Ideal.τ).loc Cert.Reference6Ideal.main_arg1)
        ∧ r.2.mem ((c.tc : Thread Cert.Reference6Ideal.nD Cert.Reference6Ideal.τ).loc Cert.Reference6Ideal.main_arg2)
          = m' ((c.tc : Thread Cert.Reference6Ideal.nD Cert.Reference6Ideal.τ).loc Cert.Reference6Ideal.main_arg2)
        ∧ r.2.mem ((c.tc : Thread Cert.Reference6Ideal.nD Cert.Reference6Ideal.τ).loc Cert.Reference6Ideal.main_arg3)
          = m' ((c.tc : Thread Cert.Reference6Ideal.nD Cert.Reference6Ideal.τ).loc Cert.Reference6Ideal.main_arg3)) := by
  refine (θ_run _ _ _).mono (fun r h c => ?_) (Cert.Reference6Ideal.Value.run (F := Ideal) m' g')
  obtain ⟨h0, h1, h2, h3, hk⟩ := h c
  have e0 := h0.trans (val_main_v23_eq (F := Ideal) _ _ _)
  have e1 := h1.trans (val_main_v24_eq (F := Ideal) _ _ _ _)
  have e2 := h2.trans (val_main_v26_eq (F := Ideal) _ _ _ _)
  have e3 := h3.trans (val_main_v27_eq (F := Ideal) _)
  obtain ⟨a0, a1, a2, a3⟩ := ha c
  rw [a0, a1, a2] at e0
  rw [a0, a1, a2, a3] at e1 e2
  rw [a3] at e3
  exact ⟨e0.trans (array_hid m c).symm, e1.trans (array_ret m c).symm, e2.trans (array_att m c).symm, e3.trans (array_col m c).symm, hk⟩

end Cert.Proj

end
-- ==== Proof.Block.lean ====
/- One grid point's values: the kernel's intermediate blocks by name, and each of their rows as the mathematics of one
   token. -/
module

public import proofs.«01_k».proof.Proof.Gen.KernelIdeal.Skeleton
public import proofs.«01_k».proof.Proof.Spec

@[expose] public section

set_option maxRecDepth 16384

noncomputable section

namespace Cert.Tail

open Idealize.ShloMosaic Cert.KernelIdeal Cert.KernelIdeal.Gen
open scoped BigOperators

/-- The blocks one grid point reads. -/
structure Blk where
  x : FVec Ideal S1x256x1024 .f32
  mi : FVec Ideal S1x256x1024 .bf16
  tg : FVec Ideal S1x256x1024 .f32
  gt1 : FVec Ideal S1x1x1024 .f32
  sh2 : FVec Ideal S1x1x1024 .f32
  sc2 : FVec Ideal S1x1x1024 .f32
  gt2 : FVec Ideal S1x1x1024 .f32
  gpm : FVec Ideal S1x1024 .f32
  gpl : FVec Ideal S1x1024 .f32
  gpo : FVec Ideal S1x1024 .f32
  wo : FVec Ideal S1024x1024 .bf16
  w1a : FVec Ideal S1x1024x1024 .bf16
  w1b : FVec Ideal S1x1024x1024 .bf16
  w1c : FVec Ideal S1x1024x1024 .bf16
  w1d : FVec Ideal S1x1024x1024 .bf16
  w2a : FVec Ideal S1024x1024 .bf16
  w2b : FVec Ideal S1024x1024 .bf16
  w2c : FVec Ideal S1024x1024 .bf16
  w2d : FVec Ideal S1024x1024 .bf16

namespace Blk
variable (B : Blk)

/-! The intermediate blocks, in the program's order. -/

def v1 : FVec Ideal S1x1024 .f32 := k0_pay2 B.gt1
def v3 : FVec Ideal S1x1024 .f32 := k0_pay3 B.sh2
def v5 : FVec Ideal S1x1024 .f32 := k0_pay4 B.sc2
def v7 : FVec Ideal S1x1024 .f32 := k0_pay5 B.gt2
def v12 : FVec Ideal S256x1024 .f32 := k0_pay6 B.mi B.wo
def v14 : FVec Ideal S256x1024 .f32 := k0_pay7 B.x
def v24 : FVec Ideal S256x1 .f32 := k0_pay9 B.mi B.wo
def v27 : FVec Ideal S256x1 .f32 := k0_pay10 B.mi B.wo
def v28 : FVec Ideal S256x1024 .f32 := k0_pay11 B.mi B.wo
def v29 : FVec Ideal S256x1024 .f32 := k0_pay12 B.v12 B.v28
def v31 : FVec Ideal S256x1024 .f32 := k0_pay13 B.v12 B.gpm B.v28
def v34 : FVec Ideal S256x1024 .f32 := k0_pay14 B.v1 B.v12 B.v14 B.gpm B.v28
def v42 : FVec Ideal S256x1 .f32 := k0_pay16 B.v1 B.v12 B.v14 B.gpm B.v28
def v45 : FVec Ideal S256x1 .f32 := k0_pay17 B.v1 B.v12 B.v14 B.gpm B.v28
def v47 : FVec Ideal S256x1024 .f32 := k0_pay18 B.v1 B.v12 B.v14 B.gpm B.v28
def v49 : FVec Ideal S256x1024 .f32 := k0_pay19 B.v1 B.v12 B.v14 B.gpm B.gpl B.v28
def v51 : FVec Ideal S1x1024 .f32 := k0_pay20 B.v5
def v56 : FVec Ideal S256x1024 .bf16 := k0_pay21 B.v1 B.v3 B.v5 B.v12 B.v14 B.gpm B.gpl B.v28
def v65 : FVec Ideal S256x1024 .f32 := k0_pay24 B.v1 B.v3 B.v5 B.v12 B.v14 B.gpm B.gpl B.v28 B.w1a
def v67 : FVec Ideal S256x1024 .bf16 := k0_pay25 B.v1 B.v3 B.v5 B.v12 B.v14 B.gpm B.gpl B.v28 B.w1a
def v79 : FVec Ideal S256x1024 .f32 := k0_pay27 B.v56 B.w1b
def v81 : FVec Ideal S256x1024 .bf16 := k0_pay28 B.v56 B.w1b
def v93 : FVec Ideal S256x1024 .f32 := k0_pay30 B.v56 B.w1c
def v95 : FVec Ideal S256x1024 .bf16 := k0_pay31 B.v56 B.w1c
def v102 : FVec Ideal S256x1024 .f32 := k0_pay33 B.v56 k0_pay23 B.v67 B.w2a B.w1b B.w2b B.w1c B.w2c
def v107 : FVec Ideal S256x1024 .f32 := k0_pay34 B.v56 B.w1d
def v109 : FVec Ideal S256x1024 .bf16 := k0_pay35 B.v56 B.w1d
def v116 : FVec Ideal S256x1024 .f32 := k0_pay37 B.v56 B.v102 B.w1d B.w2d
def v127 : FVec Ideal S256x1 .f32 := k0_pay39 B.v56 B.v102 B.w1d B.w2d
def v130 : FVec Ideal S256x1 .f32 := k0_pay40 B.v56 B.v102 B.w1d B.w2d
def v132 : FVec Ideal S256x1024 .f32 := k0_pay41 B.v56 B.v102 B.w1d B.w2d
def v134 : FVec Ideal S256x1024 .f32 := k0_pay42 B.v56 B.v102 B.w1d B.w2d B.gpo
def v138 : FVec Ideal S256x1024 .f32 := k0_pay43 B.v7 B.v34 B.v56 B.v102 B.w1d B.w2d B.gpo B.tg
def v140 : FVec Ideal S256 .f32 := k0_pay44 B.v7 B.v34 B.v56 B.v102 B.w1d B.w2d B.gpo B.tg
def v147 : FVec Ideal S1x1 .f32 := k0_pay45 B.v140
def v165 : FVec Ideal S256x1024 .f32 := k0_pay46 B.v138
def v170 : FVec Ideal S1x1024 .f32 := k0_pay48 B.v134 B.v138
def v173 : FVec Ideal S1x1024 .f32 := k0_pay49 B.v7 B.v132 B.v138
def v180 : FVec Ideal S256x1024 .f32 := k0_pay51 B.v7 B.gpo B.v127 B.v138
def v186 : FVec Ideal S256x1024 .f32 := k0_pay52 B.v7 B.v116 B.gpo B.v130 B.v138
def v187 : FVec Ideal S256x1024 .f32 := k0_pay53 B.v7 B.v116 B.gpo B.v130 B.v138
def v191 : FVec Ideal S256x1024 .bf16 := k0_pay54 B.v116 B.v180 B.v186 B.v187
def v202 : FVec Ideal S256x1024 .bf16 := k0_pay56 B.v65 B.v116 B.v180 B.v186 B.v187 B.w2a
def v209 : FVec Ideal S256x1024 .f32 := k0_pay58 B.v65 B.v116 B.v180 B.v186 B.v187 B.w2a B.w1a
def v216 : FVec Ideal S256x1024 .bf16 := k0_pay59 B.v79 B.v116 B.v180 B.v186 B.v187 B.w2b
def v230 : FVec Ideal S256x1024 .bf16 := k0_pay61 B.v93 B.v191 B.w2c
def v244 : FVec Ideal S256x1024 .bf16 := k0_pay63 B.v107 B.v191 B.w2d
def v251 : FVec Ideal S256x1024 .f32 :=
  k0_pay65 B.v93 B.v107 B.v191 B.v209 B.v216 B.w1b B.w2c B.w1c B.w2d B.w1d
def v253 : FVec Ideal S1x1024 .f32 :=
  k0_pay66 B.v93 B.v107 B.v191 B.v209 B.v216 B.w1b B.w2c B.w1c B.w2d B.w1d
def v256 : FVec Ideal S1x1024 .f32 := k0_pay67 B.v49 B.v251
def v261 : FVec Ideal S1x1024 .f32 := k0_pay69 B.v47 B.v51 B.v251
def v279 : FVec Ideal S256x1024 .f32 := k0_pay70 B.gpl B.v34 B.v42 B.v45 B.v51 B.v165 B.v251
def v284 : FVec Ideal S1x1024 .f32 := k0_pay72 B.gpl B.v31 B.v34 B.v42 B.v45 B.v51 B.v165 B.v251
def v287 : FVec Ideal S1x1024 .f32 := k0_pay73 B.v1 B.gpl B.v29 B.v34 B.v42 B.v45 B.v51 B.v165 B.v251
def v302 : FVec Ideal S256x1024 .f32 :=
  k0_pay76 B.v1 B.v12 B.gpm B.gpl B.v24 B.v27 B.v34 B.v42 B.v45 B.v51 B.v165 B.v251
def v303 : FVec Ideal S256x1024 .f32 :=
  k0_pay77 B.v1 B.v12 B.gpm B.gpl B.v27 B.v34 B.v42 B.v45 B.v51 B.v165 B.v251
def v308 : FVec Ideal S256x1024 .bf16 := k0_pay79 B.v302 B.v303

/-- Row `r` of the blocks holds the token `I`. -/
structure IsRow (r : Fin 256) (I : Inp) : Prop where
  x : ∀ d, B.x (ix3 0 r d) = I.x d
  mi : ∀ d, B.mi (ix3 0 r d) = I.mi d
  tg : ∀ d, B.tg (ix3 0 r d) = I.tg d
  gt1 : ∀ d, B.gt1 (ix3 0 0 d) = I.gt1 d
  sh2 : ∀ d, B.sh2 (ix3 0 0 d) = I.sh2 d
  sc2 : ∀ d, B.sc2 (ix3 0 0 d) = I.sc2 d
  gt2 : ∀ d, B.gt2 (ix3 0 0 d) = I.gt2 d
  gpm : ∀ d, B.gpm (ix2 0 d) = I.gpm d
  gpl : ∀ d, B.gpl (ix2 0 d) = I.gpl d
  gpo : ∀ d, B.gpo (ix2 0 d) = I.gpo d
  wo : ∀ k d, B.wo (ix2 k d) = I.wo k d
  w1a : ∀ k e, B.w1a (ix3 0 k e) = I.w1 k (col 0 e)
  w1b : ∀ k e, B.w1b (ix3 0 k e) = I.w1 k (col 1 e)
  w1c : ∀ k e, B.w1c (ix3 0 k e) = I.w1 k (col 2 e)
  w1d : ∀ k e, B.w1d (ix3 0 k e) = I.w1 k (col 3 e)
  w2a : ∀ e d, B.w2a (ix2 e d) = I.w2 (col 0 e) d
  w2b : ∀ e d, B.w2b (ix2 e d) = I.w2 (col 1 e) d
  w2c : ∀ e d, B.w2c (ix2 e d) = I.w2 (col 2 e) d
  w2d : ∀ e d, B.w2d (ix2 e d) = I.w2 (col 3 e) d

variable {B} {r : Fin 256} {I : Inp} (h : B.IsRow r I)
include h

/-! ## The rows of the forward blocks -/

theorem v1_row (d : Fin 1024) : B.v1 (ix2 0 d) = I.gt1 d := by pointwise [v1, k0_pay2]; exact h.gt1 d
theorem v3_row (d : Fin 1024) : B.v3 (ix2 0 d) = I.sh2 d := by pointwise [v3, k0_pay3]; exact h.sh2 d
theorem v5_row (d : Fin 1024) : B.v5 (ix2 0 d) = I.sc2 d := by pointwise [v5, k0_pay4]; exact h.sc2 d
theorem v7_row (d : Fin 1024) : B.v7 (ix2 0 d) = I.gt2 d := by pointwise [v7, k0_pay5]; exact h.gt2 d

theorem pay6_row (d : Fin 1024) : k0_pay6 (F := Ideal) B.mi B.wo (ix2 r d) = I.mix d := by
  pointwise [k0_pay6]; simp only [h.mi, h.wo, Inp.mix]
theorem v12_row (d : Fin 1024) : B.v12 (ix2 r d) = I.mix d := pay6_row h d
theorem v14_row (d : Fin 1024) : B.v14 (ix2 r d) = I.x d := by pointwise [v14, k0_pay7]; exact h.x d
theorem pay8_row : k0_pay8 (F := Ideal) B.mi B.wo (ix2 r 0) = ms I.mix := by
  pointwise [k0_pay8]; simp only [pay6_row h, ms]; rfl
theorem v24_row : B.v24 (ix2 r 0) = inv I.mix := by
  pointwise [v24, k0_pay9]; simp only [pay8_row h, inv]
theorem v27_row : B.v27 (ix2 r 0) = dinv I.mix := by
  have := v24_row h; unfold v24 at this
  pointwise [v27, k0_pay10]; simp only [pay8_row h, this, dinv]; rfl
theorem v28_row (d : Fin 1024) : B.v28 (ix2 r d) = inv I.mix := by
  have := v24_row h; unfold v24 at this
  pointwise [v28, k0_pay11]; exact this
theorem v29_row (d : Fin 1024) : B.v29 (ix2 r d) = nrm I.mix d := by
  pointwise [v29, k0_pay12]; simp only [v12_row h, v28_row h, nrm]
theorem v31_row (d : Fin 1024) : B.v31 (ix2 r d) = I.mixG d := by
  pointwise [v31, k0_pay13, k0_pay12]; simp only [v12_row h, v28_row h, h.gpm, nrm, Inp.mixG]
theorem v34_row (d : Fin 1024) : B.v34 (ix2 r d) = I.x1 d := by
  pointwise [v34, k0_pay14, k0_pay13, k0_pay12]
  simp only [v12_row h, v28_row h, v14_row h, v1_row h, h.gpm, nrm, Inp.mixG, Inp.x1]

end Blk

end Cert.Tail

end
-- ==== Proof.Forward.lean ====
/- The rows of the forward blocks of one grid point, up to the error. -/
module

public import proofs.«01_k».proof.Proof.Block

@[expose] public section

set_option maxRecDepth 16384

noncomputable section

namespace Cert.Tail.Blk

open Idealize.ShloMosaic Cert.KernelIdeal Cert.KernelIdeal.Gen
open scoped BigOperators

variable {B : Blk} {r : Fin 256} {I : Inp} (h : B.IsRow r I)
include h

theorem pay15_row : k0_pay15 (F := Ideal) B.v1 B.v12 B.v14 B.gpm B.v28 (ix2 r 0) = ms I.x1 := by
  have h34 := v34_row h; unfold v34 at h34
  pointwise [k0_pay15]; simp only [h34, ms]; rfl
theorem v42_row : B.v42 (ix2 r 0) = inv I.x1 := by
  pointwise [v42, k0_pay16]; simp only [pay15_row h, inv]
theorem v45_row : B.v45 (ix2 r 0) = dinv I.x1 := by
  have := v42_row h; unfold v42 at this
  pointwise [v45, k0_pay17]; simp only [pay15_row h, this, dinv]; rfl
theorem v47_row (d : Fin 1024) : B.v47 (ix2 r d) = nrm I.x1 d := by
  have h34 := v34_row h; unfold v34 at h34
  have h42 := v42_row h; unfold v42 at h42
  pointwise [v47, k0_pay18]; simp only [h34, h42, nrm]
theorem v49_row (d : Fin 1024) : B.v49 (ix2 r d) = I.x1G d := by
  have h47 := v47_row h; unfold v47 at h47
  pointwise [v49, k0_pay19]; simp only [h47, h.gpl, Inp.x1G]
theorem v51_row (d : Fin 1024) : B.v51 (ix2 0 d) = I.sc d := by
  pointwise [v51, k0_pay20]; simp only [v5_row h, Inp.sc, Ideal.ofBits_one_f32]
theorem v56_row (d : Fin 1024) : B.v56 (ix2 r d) = I.h2 d := by
  have h49 := v49_row h; unfold v49 at h49
  have h51 := v51_row h; unfold v51 at h51
  pointwise [v56, k0_pay21]; simp only [h49, h51, v3_row h, Inp.h2]

theorem v65_row (e : Fin 1024) : B.v65 (ix2 r e) = I.relu (col 0 e) := by
  have h56 := v56_row h; unfold v56 at h56
  pointwise [v65, k0_pay24]; simp only [h56, h.w1a, Inp.relu, Inp.u, Ideal.ofBits_zero_f32]
theorem v67_row (e : Fin 1024) : B.v67 (ix2 r e) = I.act (col 0 e) := by
  have h65 := v65_row h; unfold v65 at h65
  pointwise [v67, k0_pay25]; simp only [h65, Inp.act]
theorem v79_row (e : Fin 1024) : B.v79 (ix2 r e) = I.relu (col 1 e) := by
  pointwise [v79, k0_pay27]; simp only [v56_row h, h.w1b, Inp.relu, Inp.u, Ideal.ofBits_zero_f32]
theorem v81_row (e : Fin 1024) : B.v81 (ix2 r e) = I.act (col 1 e) := by
  have h79 := v79_row h; unfold v79 at h79
  pointwise [v81, k0_pay28]; simp only [h79, Inp.act]
theorem v93_row (e : Fin 1024) : B.v93 (ix2 r e) = I.relu (col 2 e) := by
  pointwise [v93, k0_pay30]; simp only [v56_row h, h.w1c, Inp.relu, Inp.u, Ideal.ofBits_zero_f32]
theorem v95_row (e : Fin 1024) : B.v95 (ix2 r e) = I.act (col 2 e) := by
  have h93 := v93_row h; unfold v93 at h93
  pointwise [v95, k0_pay31]; simp only [h93, Inp.act]
theorem v107_row (e : Fin 1024) : B.v107 (ix2 r e) = I.relu (col 3 e) := by
  pointwise [v107, k0_pay34]; simp only [v56_row h, h.w1d, Inp.relu, Inp.u, Ideal.ofBits_zero_f32]
theorem v109_row (e : Fin 1024) : B.v109 (ix2 r e) = I.act (col 3 e) := by
  have h107 := v107_row h; unfold v107 at h107
  pointwise [v109, k0_pay35]; simp only [h107, Inp.act]

theorem v102_row (d : Fin 1024) : B.v102 (ix2 r d) =
    ∑ e, I.act (col 0 e) * I.w2 (col 0 e) d + ∑ e, I.act (col 1 e) * I.w2 (col 1 e) d
      + ∑ e, I.act (col 2 e) * I.w2 (col 2 e) d := by
  have h81 := v81_row h; unfold v81 at h81
  have h95 := v95_row h; unfold v95 at h95
  pointwise [v102, k0_pay33, k0_pay23]
  simp only [v67_row h, h81, h95, h.w2a, h.w2b, h.w2c, Ideal.ofBits_zero_f32, zero_add]
theorem v116_row (d : Fin 1024) : B.v116 (ix2 r d) = I.m d := by
  have h109 := v109_row h; unfold v109 at h109
  pointwise [v116, k0_pay37]
  simp only [v102_row h, h109, h.w2d, Inp.m, sum_cols]

theorem pay38_row : k0_pay38 (F := Ideal) B.v56 B.v102 B.w1d B.w2d (ix2 r 0) = ms I.m := by
  have h116 := v116_row h; unfold v116 at h116
  pointwise [k0_pay38]; simp only [h116, ms]; rfl
theorem v127_row : B.v127 (ix2 r 0) = inv I.m := by
  pointwise [v127, k0_pay39]; simp only [pay38_row h, inv]
theorem v130_row : B.v130 (ix2 r 0) = dinv I.m := by
  have := v127_row h; unfold v127 at this
  pointwise [v130, k0_pay40]; simp only [pay38_row h, this, dinv]; rfl
theorem v132_row (d : Fin 1024) : B.v132 (ix2 r d) = nrm I.m d := by
  have h116 := v116_row h; unfold v116 at h116
  have h127 := v127_row h; unfold v127 at h127
  pointwise [v132, k0_pay41]; simp only [h116, h127, nrm]
theorem v134_row (d : Fin 1024) : B.v134 (ix2 r d) = I.mG d := by
  have h132 := v132_row h; unfold v132 at h132
  pointwise [v134, k0_pay42]; simp only [h132, h.gpo, Inp.mG]
theorem v138_row (d : Fin 1024) : B.v138 (ix2 r d) = I.err d := by
  have h134 := v134_row h; unfold v134 at h134
  pointwise [v138, k0_pay43]; simp only [h134, v34_row h, v7_row h, h.tg, Inp.err]
theorem v140_row : B.v140 (ix1 r) = ∑ d, I.err d * I.err d := by
  have h138 := v138_row h; unfold v138 at h138
  pointwise [v140, k0_pay44]; simp only [h138]

end Cert.Tail.Blk

end
-- ==== Proof.Backward.lean ====
/- The rows of the backward blocks of one grid point. -/
module

public import proofs.«01_k».proof.Proof.Forward

@[expose] public section

set_option maxRecDepth 16384

noncomputable section

namespace Cert.Tail.Blk

open Idealize.ShloMosaic Cert.KernelIdeal Cert.KernelIdeal.Gen
open scoped BigOperators

variable {B : Blk} {r : Fin 256} {I : Inp} (h : B.IsRow r I)
include h

theorem v165_row (d : Fin 1024) : B.v165 (ix2 r d) = I.dy d := by
  pointwise [v165, k0_pay46]
  simp only [v138_row h, sum_one, Inp.dy, Inp.cErr, cHalf, cN]
theorem pay47_row (d : Fin 1024) : k0_pay47 (F := Ideal) B.v7 B.v138 (ix2 r d) = I.dmG d := by
  have h165 := v165_row h; unfold v165 at h165
  pointwise [k0_pay47]; simp only [h165, v7_row h, Inp.dmG]
theorem pay50_row (d : Fin 1024) : k0_pay50 (F := Ideal) B.v7 B.gpo B.v138 (ix2 r d) = I.dmG d * I.gpo d := by
  pointwise [k0_pay50]; simp only [pay47_row h, h.gpo]
theorem v180_row (d : Fin 1024) : B.v180 (ix2 r d) = I.dmG d * I.gpo d * inv I.m := by
  pointwise [v180, k0_pay51]; simp only [pay50_row h, v127_row h]
theorem v186_row (d : Fin 1024) : B.v186 (ix2 r d) = corr I.m (fun d => I.dmG d * I.gpo d) := by
  pointwise [v186, k0_pay52]
  simp only [pay50_row h, v116_row h, v130_row h, sum_one, corr]; rfl
theorem v187_row (d : Fin 1024) : B.v187 (ix2 r d) = I.m d * corr I.m (fun d => I.dmG d * I.gpo d) := by
  have h186 := v186_row h; unfold v186 at h186
  pointwise [v187, k0_pay53]; simp only [h186, v116_row h]
theorem v191_row (d : Fin 1024) : B.v191 (ix2 r d) = I.dm d := by
  pointwise [v191, k0_pay54]; simp only [v180_row h, v186_row h, v187_row h, v116_row h, Inp.dm, nrmBwd]

theorem v202_row (e : Fin 1024) : B.v202 (ix2 r e) = I.du (col 0 e) := by
  have h191 := v191_row h; unfold v191 at h191
  pointwise [v202, k0_pay56]; simp only [h191, h.w2a, v65_row h, Inp.du]; rfl
theorem v209_row (k : Fin 1024) : B.v209 (ix2 r k) = ∑ e, I.du (col 0 e) * I.w1 k (col 0 e) := by
  have h202 := v202_row h; unfold v202 at h202
  pointwise [v209, k0_pay58]; simp only [h202, h.w1a, Ideal.ofBits_zero_f32, zero_add]
theorem v216_row (e : Fin 1024) : B.v216 (ix2 r e) = I.du (col 1 e) := by
  have h191 := v191_row h; unfold v191 at h191
  pointwise [v216, k0_pay59]; simp only [h191, h.w2b, v79_row h, Inp.du]; rfl
theorem v230_row (e : Fin 1024) : B.v230 (ix2 r e) = I.du (col 2 e) := by
  pointwise [v230, k0_pay61]; simp only [v191_row h, h.w2c, v93_row h, Inp.du]; rfl
theorem v244_row (e : Fin 1024) : B.v244 (ix2 r e) = I.du (col 3 e) := by
  pointwise [v244, k0_pay63]; simp only [v191_row h, h.w2d, v107_row h, Inp.du]; rfl
theorem v251_row (k : Fin 1024) : B.v251 (ix2 r k) = I.dh2 k := by
  have h230 := v230_row h; unfold v230 at h230
  have h244 := v244_row h; unfold v244 at h244
  pointwise [v251, k0_pay65]
  simp only [v209_row h, v216_row h, h230, h244, h.w1b, h.w1c, h.w1d, Inp.dh2, sum_cols]

theorem pay68_row (d : Fin 1024) : k0_pay68 (F := Ideal) B.v51 B.v251 (ix2 r d) = I.dx1G d := by
  pointwise [k0_pay68]; simp only [v251_row h, v51_row h, Inp.dx1G]
theorem v279_row (d : Fin 1024) : B.v279 (ix2 r d) = I.dx d := by
  pointwise [v279, k0_pay70]
  simp only [pay68_row h, v165_row h, v34_row h, v42_row h, v45_row h, h.gpl, sum_one, Inp.dx, nrmBwd, corr, cN, add_assoc]
theorem pay71_row (d : Fin 1024) :
    k0_pay71 (F := Ideal) B.v1 B.gpl B.v34 B.v42 B.v45 B.v51 B.v165 B.v251 (ix2 r d) = I.dmixG d := by
  have h279 := v279_row h; unfold v279 at h279
  pointwise [k0_pay71]; simp only [h279, v1_row h, Inp.dmixG]
theorem pay74_row (d : Fin 1024) :
    k0_pay74 (F := Ideal) B.v1 B.gpm B.gpl B.v34 B.v42 B.v45 B.v51 B.v165 B.v251 (ix2 r d) = I.dmixG d * I.gpm d := by
  pointwise [k0_pay74]; simp only [pay71_row h, h.gpm]
theorem pay75_row (d : Fin 1024) :
    k0_pay75 (F := Ideal) B.v1 B.v12 B.gpm B.gpl B.v27 B.v34 B.v42 B.v45 B.v51 B.v165 B.v251 (ix2 r d)
      = corr I.mix (fun d => I.dmixG d * I.gpm d) := by
  pointwise [k0_pay75]
  simp only [pay74_row h, v12_row h, v27_row h, sum_one, corr]; rfl
theorem v302_row (d : Fin 1024) : B.v302 (ix2 r d) =
    I.dmixG d * I.gpm d * inv I.mix + I.mix d * corr I.mix (fun d => I.dmixG d * I.gpm d) := by
  pointwise [v302, k0_pay76]; simp only [pay74_row h, pay75_row h, v12_row h, v24_row h]
theorem v303_row (d : Fin 1024) : B.v303 (ix2 r d) = corr I.mix (fun d => I.dmixG d * I.gpm d) * I.mix d := by
  pointwise [v303, k0_pay77]; simp only [pay75_row h, v12_row h]
theorem v308_row (d : Fin 1024) : B.v308 (ix2 r d) = I.dmix d := by
  pointwise [v308, k0_pay79]; simp only [v302_row h, v303_row h, Inp.dmix, nrmBwd]

end Cert.Tail.Blk

end
-- ==== Proof.Stored.lean ====
/- What one grid point stores: each stored block's rows, and its shares of the accumulated gradients and of the loss. -/
module

public import proofs.«01_k».proof.Proof.Backward

@[expose] public section

set_option maxRecDepth 16384

noncomputable section

namespace Cert.Tail.Blk

open Idealize.ShloMosaic Cert.KernelIdeal Cert.KernelIdeal.Gen
open scoped BigOperators

variable {B : Blk}

section
variable {r : Fin 256} {I : Inp} (h : B.IsRow r I)
include h

/-- The stored gradient by `x`. -/
theorem dx_row (d : Fin 1024) : k0_pay78 (F := Ideal) B.v279 (ix3 0 r d) = I.dx d := by
  pointwise [k0_pay78]; exact v279_row h d
/-- The stored cotangent of the projection. -/
theorem dmix_row (d : Fin 1024) : k0_pay80 (F := Ideal) B.v302 B.v303 (ix3 0 r d) = I.dmix d := by
  pointwise [k0_pay80]; exact v308_row h d
/-- The stored gradient by the projection's input. -/
theorem dmi_row (k : Fin 1024) : k0_pay81 (F := Ideal) B.v302 B.v303 B.wo (ix3 0 r k) = I.dmi k := by
  have h308 := v308_row h; unfold v308 at h308
  pointwise [k0_pay81]; simp only [h308, h.wo, Inp.dmi]
/-- The stored input of the MLP. -/
theorem h2_row (d : Fin 1024) :
    k0_pay22 (F := Ideal) B.v1 B.v3 B.v5 B.v12 B.v14 B.gpm B.gpl B.v28 (ix3 0 r d) = I.h2 d := by
  pointwise [k0_pay22]; exact v56_row h d
/-- The stored cotangent of the MLP's output. -/
theorem dm_row (d : Fin 1024) : k0_pay55 (F := Ideal) B.v116 B.v180 B.v186 B.v187 (ix3 0 r d) = I.dm d := by
  pointwise [k0_pay55]; exact v191_row h d
/-- The four stored pieces of the squared relu. -/
theorem act0_row (e : Fin 1024) :
    k0_pay26 (F := Ideal) B.v1 B.v3 B.v5 B.v12 B.v14 B.gpm B.gpl B.v28 B.w1a (ix3 0 r e) = I.act (col 0 e) := by
  pointwise [k0_pay26]; exact v67_row h e
theorem act1_row (e : Fin 1024) : k0_pay29 (F := Ideal) B.v56 B.w1b (ix3 0 r e) = I.act (col 1 e) := by
  pointwise [k0_pay29]; exact v81_row h e
theorem act2_row (e : Fin 1024) : k0_pay32 (F := Ideal) B.v56 B.w1c (ix3 0 r e) = I.act (col 2 e) := by
  pointwise [k0_pay32]; exact v95_row h e
theorem act3_row (e : Fin 1024) : k0_pay36 (F := Ideal) B.v56 B.w1d (ix3 0 r e) = I.act (col 3 e) := by
  pointwise [k0_pay36]; exact v109_row h e
/-- The four stored pieces of the hidden cotangent. -/
theorem du0_row (e : Fin 1024) :
    k0_pay57 (F := Ideal) B.v65 B.v116 B.v180 B.v186 B.v187 B.w2a (ix3 0 r e) = I.du (col 0 e) := by
  pointwise [k0_pay57]; exact v202_row h e
theorem du1_row (e : Fin 1024) :
    k0_pay60 (F := Ideal) B.v79 B.v116 B.v180 B.v186 B.v187 B.w2b (ix3 0 r e) = I.du (col 1 e) := by
  pointwise [k0_pay60]; exact v216_row h e
theorem du2_row (e : Fin 1024) : k0_pay62 (F := Ideal) B.v93 B.v191 B.w2c (ix3 0 r e) = I.du (col 2 e) := by
  pointwise [k0_pay62]; exact v230_row h e
theorem du3_row (e : Fin 1024) : k0_pay64 (F := Ideal) B.v107 B.v191 B.w2d (ix3 0 r e) = I.du (col 3 e) := by
  pointwise [k0_pay64]; exact v244_row h e

end

section
variable {I : Fin 256 → Inp} (h : ∀ r, B.IsRow r (I r))
include h

/-- The point's share of each accumulated gradient is the sum of its rows' shares. -/
theorem v284_sum (d : Fin 1024) : B.v284 (ix2 0 d) = ∑ r, (I r).gGt1 d := by
  have h279 := fun r => v279_row (h r); unfold v279 at h279
  pointwise [v284, k0_pay72]; simp only [h279, fun r => v31_row (h r), Inp.gGt1]
theorem v253_sum (d : Fin 1024) : B.v253 (ix2 0 d) = ∑ r, (I r).dh2 d := by
  have h251 := fun r => v251_row (h r); unfold v251 at h251
  pointwise [v253, k0_pay66]; simp only [h251]
theorem v256_sum (d : Fin 1024) : B.v256 (ix2 0 d) = ∑ r, (I r).gSc2 d := by
  pointwise [v256, k0_pay67]; simp only [fun r => v49_row (h r), fun r => v251_row (h r), Inp.gSc2]
theorem v170_sum (d : Fin 1024) : B.v170 (ix2 0 d) = ∑ r, (I r).gGt2 d := by
  have h165 := fun r => v165_row (h r); unfold v165 at h165
  pointwise [v170, k0_pay48]; simp only [h165, fun r => v134_row (h r), Inp.gGt2]
theorem v287_sum (d : Fin 1024) : B.v287 (ix2 0 d) = ∑ r, (I r).gGpm d := by
  pointwise [v287, k0_pay73]; simp only [fun r => pay71_row (h r), fun r => v29_row (h r), Inp.gGpm]
theorem v261_sum (d : Fin 1024) : B.v261 (ix2 0 d) = ∑ r, (I r).gGpl d := by
  pointwise [v261, k0_pay69]; simp only [fun r => pay68_row (h r), fun r => v47_row (h r), Inp.gGpl]
theorem v173_sum (d : Fin 1024) : B.v173 (ix2 0 d) = ∑ r, (I r).gGpo d := by
  pointwise [v173, k0_pay49]; simp only [fun r => pay47_row (h r), fun r => v132_row (h r), Inp.gGpo]
/-- The point's share of the loss. -/
theorem v147_sum : B.v147 (ix2 0 0) = cHalf * ∑ r, (I r).mse := by
  pointwise [v147, k0_pay45]; simp only [fun r => v140_row (h r), Inp.mse]; rfl

end

end Cert.Tail.Blk

end
-- ==== Proof.RefForward.lean ====
/- The reference's intermediate arrays, forward: each entry as the mathematics of one token. -/
module

public import proofs.«01_k».proof.Proof.Gen.ReferenceIdeal.Read
public import proofs.«01_k».proof.Proof.Spec

@[expose] public section

set_option maxRecDepth 16384

noncomputable section

namespace Cert.Tail

open Idealize.ShloMosaic Cert.ReferenceIdeal Cert.ReferenceIdeal.Gen Cert.ReferenceIdeal.Read
open scoped BigOperators

/-- The arrays the step reads. -/
structure Args where
  x0 : FVec Ideal S2x2048x1024 .f32
  x1 : FVec Ideal S2x2048x1024 .f32
  x2 : FVec Ideal S2x2048x1024 .f32
  x3 : FVec Ideal S3x6x1024 .f32
  x4 : FVec Ideal S1x1024 .f32
  x5 : FVec Ideal S1x1024 .f32
  x6 : FVec Ideal S1x1024 .f32
  x7 : FVec Ideal S1024x1024 .f32
  x8 : FVec Ideal S1024x4096 .f32
  x9 : FVec Ideal S4096x1024 .f32

/-- One token of them: position `n` of sample `b`. -/
def Args.tok (A : Args) (b : Fin 2) (n : Fin 2048) : Inp where
  x d := A.x0 (ix3 b n d)
  mi d := A.x1 (ix3 b n d)
  tg d := A.x2 (ix3 b n d)
  gt1 d := A.x3 (ix3 ⟨b.val, by omega⟩ 2 d)
  sh2 d := A.x3 (ix3 ⟨b.val, by omega⟩ 3 d)
  sc2 d := A.x3 (ix3 ⟨b.val, by omega⟩ 4 d)
  gt2 d := A.x3 (ix3 ⟨b.val, by omega⟩ 5 d)
  gpm d := A.x4 (ix2 0 d)
  gpl d := A.x5 (ix2 0 d)
  gpo d := A.x6 (ix2 0 d)
  wo k d := A.x7 (ix2 k d)
  w1 k f := A.x8 (ix2 k f)
  w2 f d := A.x9 (ix2 f d)

namespace Ref

variable (A : Args) (b : Fin 2) (n : Fin 2048)

/-! The four rows of the modulation and the three gains, spread over the tokens. -/

theorem v32_at (d : Fin 1024) : val_main_v32 (F := Ideal) A.x3 (ix3 b n d) = (A.tok b n).gt1 d := by
  pointwise [val_main_v32, val_main_v2, val_main_v1, val_main_v0]; rfl

theorem v55_at (d : Fin 1024) : val_main_v55 (F := Ideal) A.x3 (ix3 b n d) = (A.tok b n).sh2 d := by
  pointwise [val_main_v55, val_main_v5, val_main_v4, val_main_v3]; rfl

theorem v82_at (d : Fin 1024) : val_main_v82 (F := Ideal) A.x3 (ix3 b n d) = (A.tok b n).gt2 d := by
  pointwise [val_main_v82, val_main_v11, val_main_v10, val_main_v9]; rfl

theorem v100_at (d : Fin 1024) : val_main_v100 (F := Ideal) A.x3 (ix3 b n d) = (A.tok b n).gt2 d := by
  pointwise [val_main_v100, val_main_v11, val_main_v10, val_main_v9]; rfl

theorem v158_at (d : Fin 1024) : val_main_v158 (F := Ideal) A.x3 (ix3 b n d) = (A.tok b n).gt1 d := by
  pointwise [val_main_v158, val_main_v2, val_main_v1, val_main_v0]; rfl

theorem v53_at (d : Fin 1024) : val_main_v53 (F := Ideal) A.x3 (ix3 b n d) = (A.tok b n).sc d := by
  pointwise [val_main_v53, val_main_v52, val_main_v51, val_main_cst_7, val_main_v8, val_main_v7, val_main_v6]; rfl

theorem v135_at (d : Fin 1024) : val_main_v135 (F := Ideal) A.x3 (ix3 b n d) = (A.tok b n).sc d := by
  pointwise [val_main_v135, val_main_v52, val_main_v51, val_main_cst_7, val_main_v8, val_main_v7, val_main_v6]; rfl

theorem v30_at (d : Fin 1024) : val_main_v30 (F := Ideal) A.x4 (ix3 b n d) = (A.tok b n).gpm d := by
  pointwise [val_main_v30, val_main_v29, val_main_v12]; rfl

theorem v49_at (d : Fin 1024) : val_main_v49 (F := Ideal) A.x5 (ix3 b n d) = (A.tok b n).gpl d := by
  pointwise [val_main_v49, val_main_v48, val_main_v13]; rfl

theorem v80_at (d : Fin 1024) : val_main_v80 (F := Ideal) A.x6 (ix3 b n d) = (A.tok b n).gpo d := by
  pointwise [val_main_v80, val_main_v79, val_main_v14]; rfl

theorem v108_at (d : Fin 1024) : val_main_v108 (F := Ideal) A.x6 (ix3 b n d) = (A.tok b n).gpo d := by
  pointwise [val_main_v108, val_main_v79, val_main_v14]; rfl

theorem v140_at (d : Fin 1024) : val_main_v140 (F := Ideal) A.x5 (ix3 b n d) = (A.tok b n).gpl d := by
  pointwise [val_main_v140, val_main_v48, val_main_v13]; rfl

theorem v166_at (d : Fin 1024) : val_main_v166 (F := Ideal) A.x4 (ix3 b n d) = (A.tok b n).gpm d := by
  pointwise [val_main_v166, val_main_v29, val_main_v12]; rfl

theorem v15_at (d : Fin 1024) : val_main_v15 (F := Ideal) A.x1 A.x7 (ix3 b n d) = (A.tok b n).mix d := by
  pointwise [val_main_v15]; rfl

/-! The norm of `mix`. -/

theorem v22_at : val_main_v22 (F := Ideal) A.x1 A.x7 (ix3 b n 0) = ms (A.tok b n).mix := by
  pointwise [val_main_v22, val_main_v21, val_main_cst_1, val_main_v20, val_main_v19, val_main_cst_0, val_main_v18, val_main_v17, val_main_cst, val_main_v16]
  simp only [v15_at, ms]; rfl

theorem v23_at : val_main_v23 (F := Ideal) A.x1 A.x7 (ix3 b n 0) = inv (A.tok b n).mix := by
  pointwise [val_main_v23]; simp only [v22_at, inv]

theorem v26_at : val_main_v26 (F := Ideal) A.x1 A.x7 (ix3 b n 0) = dinv (A.tok b n).mix := by
  pointwise [val_main_v26, val_main_v25, val_main_cst_2, val_main_v24]; simp only [v23_at, v22_at, dinv]; rfl

theorem v28_at (d : Fin 1024) : val_main_v28 (F := Ideal) A.x1 A.x7 (ix3 b n d) = nrm (A.tok b n).mix d := by
  pointwise [val_main_v28, val_main_v27]; simp only [v23_at, v15_at, nrm]

theorem v31_at (d : Fin 1024) : val_main_v31 (F := Ideal) A.x1 A.x4 A.x7 (ix3 b n d) = (A.tok b n).mixG d := by
  pointwise [val_main_v31]; simp only [v28_at, v30_at, Inp.mixG]

theorem v34_at (d : Fin 1024) : val_main_v34 (F := Ideal) A.x0 A.x1 A.x3 A.x4 A.x7 (ix3 b n d) = (A.tok b n).x1 d := by
  pointwise [val_main_v34, val_main_v33]; simp only [v31_at, v32_at, Inp.x1]; rfl

/-! The norm of `x1`. -/

theorem v41_at : val_main_v41 (F := Ideal) A.x0 A.x1 A.x3 A.x4 A.x7 (ix3 b n 0) = ms (A.tok b n).x1 := by
  pointwise [val_main_v41, val_main_v40, val_main_cst_5, val_main_v39, val_main_v38, val_main_cst_4, val_main_v37, val_main_v36, val_main_cst_3, val_main_v35]
  simp only [v34_at, ms]; rfl

theorem v42_at : val_main_v42 (F := Ideal) A.x0 A.x1 A.x3 A.x4 A.x7 (ix3 b n 0) = inv (A.tok b n).x1 := by
  pointwise [val_main_v42]; simp only [v41_at, inv]

theorem v45_at : val_main_v45 (F := Ideal) A.x0 A.x1 A.x3 A.x4 A.x7 (ix3 b n 0) = dinv (A.tok b n).x1 := by
  pointwise [val_main_v45, val_main_v44, val_main_cst_6, val_main_v43]; simp only [v42_at, v41_at, dinv]; rfl

theorem v47_at (d : Fin 1024) : val_main_v47 (F := Ideal) A.x0 A.x1 A.x3 A.x4 A.x7 (ix3 b n d) = nrm (A.tok b n).x1 d := by
  pointwise [val_main_v47, val_main_v46]; simp only [v42_at, v34_at, nrm]

theorem v50_at (d : Fin 1024) : val_main_v50 (F := Ideal) A.x0 A.x1 A.x3 A.x4 A.x5 A.x7 (ix3 b n d) = (A.tok b n).x1G d := by
  pointwise [val_main_v50]; simp only [v47_at, v49_at, Inp.x1G]

theorem v56_at (d : Fin 1024) : val_main_v56 (F := Ideal) A.x0 A.x1 A.x3 A.x4 A.x5 A.x7 (ix3 b n d) = (A.tok b n).h2 d := by
  pointwise [val_main_v56, val_main_v54]; simp only [v50_at, v53_at, v55_at, Inp.h2]

/-! The MLP. -/

theorem v57_at (f : Fin 4096) : val_main_v57 (F := Ideal) A.x0 A.x1 A.x3 A.x4 A.x5 A.x7 A.x8 (ix3 b n f) = (A.tok b n).u f := by
  pointwise [val_main_v57]; simp only [v56_at, Inp.u]; rfl

theorem v58_at (f : Fin 4096) : val_main_v58 (F := Ideal) A.x0 A.x1 A.x3 A.x4 A.x5 A.x7 A.x8 (ix3 b n f) = (A.tok b n).relu f := by
  pointwise [val_main_v58, val_main_call0_v0, val_main_call0_cst]; simp only [v57_at, Inp.relu]

theorem v62_at (f : Fin 4096) : val_main_v62 (F := Ideal) A.x0 A.x1 A.x3 A.x4 A.x5 A.x7 A.x8 (ix3 b n f) = (A.tok b n).act f := by
  pointwise [val_main_v62]; simp only [v58_at, Inp.act]

theorem v65_at (d : Fin 1024) : val_main_v65 (F := Ideal) A.x0 A.x1 A.x3 A.x4 A.x5 A.x7 A.x8 A.x9 (ix3 b n d) = (A.tok b n).m d := by
  pointwise [val_main_v65]; simp only [v62_at, Inp.m]; rfl

/-! The norm of `m`. -/

theorem v72_at : val_main_v72 (F := Ideal) A.x0 A.x1 A.x3 A.x4 A.x5 A.x7 A.x8 A.x9 (ix3 b n 0) = ms (A.tok b n).m := by
  pointwise [val_main_v72, val_main_v71, val_main_cst_13, val_main_v70, val_main_v69, val_main_cst_12, val_main_v68, val_main_v67, val_main_cst_11, val_main_v66]
  simp only [v65_at, ms]; rfl

theorem v73_at : val_main_v73 (F := Ideal) A.x0 A.x1 A.x3 A.x4 A.x5 A.x7 A.x8 A.x9 (ix3 b n 0) = inv (A.tok b n).m := by
  pointwise [val_main_v73]; simp only [v72_at, inv]

theorem v76_at : val_main_v76 (F := Ideal) A.x0 A.x1 A.x3 A.x4 A.x5 A.x7 A.x8 A.x9 (ix3 b n 0) = dinv (A.tok b n).m := by
  pointwise [val_main_v76, val_main_v75, val_main_cst_14, val_main_v74]; simp only [v73_at, v72_at, dinv]; rfl

theorem v78_at (d : Fin 1024) : val_main_v78 (F := Ideal) A.x0 A.x1 A.x3 A.x4 A.x5 A.x7 A.x8 A.x9 (ix3 b n d) = nrm (A.tok b n).m d := by
  pointwise [val_main_v78, val_main_v77]; simp only [v73_at, v65_at, nrm]

theorem v81_at (d : Fin 1024) : val_main_v81 (F := Ideal) A.x0 A.x1 A.x3 A.x4 A.x5 A.x6 A.x7 A.x8 A.x9 (ix3 b n d) = (A.tok b n).mG d := by
  pointwise [val_main_v81]; simp only [v78_at, v80_at, Inp.mG]

theorem v85_at (d : Fin 1024) : val_main_v85 (F := Ideal) A.x0 A.x1 A.x2 A.x3 A.x4 A.x5 A.x6 A.x7 A.x8 A.x9 (ix3 b n d) = (A.tok b n).err d := by
  pointwise [val_main_v85, val_main_v84, val_main_v83]; simp only [v81_at, v82_at, v34_at, Inp.err]; rfl

theorem v91_at : val_main_v91 (F := Ideal) A.x0 A.x1 A.x2 A.x3 A.x4 A.x5 A.x6 A.x7 A.x8 A.x9 (ix2 b n) = (A.tok b n).mse := by
  pointwise [val_main_v91, val_main_v90, val_main_cst_17, val_main_v89, val_main_cst_16, val_main_v86]; simp only [v85_at, Inp.mse]; rfl

end Ref

end Cert.Tail

end
-- ==== Proof.Grid.lean ====
/- The kernel's sixteen grid points: point `8 b + i` reads the rows `256 i … 256 i + 255` of sample `b`, so each of its
   rows is one token of the call's arguments. -/
module

public import proofs.«01_k».proof.Proof.Gen.KernelIdeal.Frame
public import proofs.«01_k».proof.Proof.Stored
public import proofs.«01_k».proof.Proof.RefForward
public import Idealize.ShloMosaic.Lib.Pipeline.ValueKit

@[expose] public section

set_option maxRecDepth 16384

noncomputable section

namespace Cert.Tail

open Idealize.ShloMosaic Cert.KernelIdeal Cert.KernelIdeal.Gen Idealize.ShloMosaic.TcCoe
open scoped BigOperators

variable (m : (ℓ : Loc nD τ sig) → Buf (Elt Ideal) ℓ) (c : Dev nD)

/-- The call's arguments on one device. -/
def args : Args where
  x0 := m ((c : Thread nD τ).loc main_arg0)
  x1 := m ((c : Thread nD τ).loc main_arg1)
  x2 := m ((c : Thread nD τ).loc main_arg2)
  x3 := m ((c : Thread nD τ).loc main_arg3)
  x4 := m ((c : Thread nD τ).loc main_arg4)
  x5 := m ((c : Thread nD τ).loc main_arg5)
  x6 := m ((c : Thread nD τ).loc main_arg6)
  x7 := m ((c : Thread nD τ).loc main_arg7)
  x8 := m ((c : Thread nD τ).loc main_arg8)
  x9 := m ((c : Thread nD τ).loc main_arg9)

/-- The blocks the body reads at grid point `t`. -/
def blkAt (t : Fin cfg0.N) : Blk where
  x := iblk m c 0 t
  mi := iblk m c 1 t
  tg := iblk m c 2 t
  gt1 := View.ld (iblk m c 3 t) (Rect.unit ![0, 2, 0] ![1, 1, 1024] inb_S1x6x1024_S1x1x1024_0_2_0)
  sh2 := View.ld (iblk m c 3 t) (Rect.unit ![0, 3, 0] ![1, 1, 1024] inb_S1x6x1024_S1x1x1024_0_3_0)
  sc2 := View.ld (iblk m c 3 t) (Rect.unit ![0, 4, 0] ![1, 1, 1024] inb_S1x6x1024_S1x1x1024_0_4_0)
  gt2 := View.ld (iblk m c 3 t) (Rect.unit ![0, 5, 0] ![1, 1, 1024] inb_S1x6x1024_S1x1x1024_0_5_0)
  gpm := iblk m c 4 t
  gpl := iblk m c 5 t
  gpo := iblk m c 6 t
  wo := iblk m c 7 t
  w1a := View.ld (iblk m c 8 t) (Rect.unit ![0, 0, 0] ![1, 1024, 1024] inb_S4x1024x1024_S1x1024x1024_0_0_0)
  w1b := View.ld (iblk m c 8 t) (Rect.unit ![1, 0, 0] ![1, 1024, 1024] inb_S4x1024x1024_S1x1024x1024_1_0_0)
  w1c := View.ld (iblk m c 8 t) (Rect.unit ![2, 0, 0] ![1, 1024, 1024] inb_S4x1024x1024_S1x1024x1024_2_0_0)
  w1d := View.ld (iblk m c 8 t) (Rect.unit ![3, 0, 0] ![1, 1024, 1024] inb_S4x1024x1024_S1x1024x1024_3_0_0)
  w2a := View.ld (iblk m c 9 t) (Rect.unit ![0, 0] ![1024, 1024] inb_S4096x1024_S1024x1024_0_0)
  w2b := View.ld (iblk m c 9 t) (Rect.unit ![1024, 0] ![1024, 1024] inb_S4096x1024_S1024x1024_1024_0)
  w2c := View.ld (iblk m c 9 t) (Rect.unit ![2048, 0] ![1024, 1024] inb_S4096x1024_S1024x1024_2048_0)
  w2d := View.ld (iblk m c 9 t) (Rect.unit ![3072, 0] ![1024, 1024] inb_S4096x1024_S1024x1024_3072_0)

/-- Where each window stands at each grid point. -/
theorem idx : ∀ t : Fin cfg0.N,
    win0_0.index t = ![t.val / 8, t.val % 8, 0] ∧ win0_1.index t = ![t.val / 8, t.val % 8, 0]
    ∧ win0_2.index t = ![t.val / 8, t.val % 8, 0] ∧ win0_3.index t = ![t.val / 8, 0, 0]
    ∧ win0_4.index t = ![0, 0] ∧ win0_5.index t = ![0, 0] ∧ win0_6.index t = ![0, 0]
    ∧ win0_7.index t = ![0, 0] ∧ win0_8.index t = ![0, 0, 0] ∧ win0_9.index t = ![0, 0]
    ∧ win0_10.index t = ![t.val / 8, t.val % 8, 0] ∧ win0_11.index t = ![t.val / 8, t.val % 8, 0]
    ∧ win0_12.index t = ![t.val / 8, t.val % 8, 0] ∧ win0_13.index t = ![t.val / 8, t.val % 8, 0]
    ∧ win0_14.index t = ![t.val / 8, t.val % 8, 0] ∧ win0_15.index t = ![t.val / 8, t.val % 8, 0]
    ∧ win0_16.index t = ![t.val / 8, t.val % 8, 0] ∧ win0_17.index t = ![t.val / 8, 0, 0]
    ∧ win0_18.index t = ![0, 0] ∧ win0_19.index t = ![0, 0] :=
  (by decide +kernel : ∀ t : Fin grid0.N, _)

theorem tlt (t : Fin cfg0.N) : t.val < 16 := lt_of_lt_of_eq t.isLt (by decide +kernel)

/-- The sample of grid point `t`. -/
def smp (t : Fin cfg0.N) : Fin 2 := ⟨t.val / 8, by have := tlt t; omega⟩
/-- The position of row `r` of grid point `t`. -/
def pos (t : Fin cfg0.N) (r : Fin 256) : Fin 2048 := ⟨256 * (t.val % 8) + r.val, by omega⟩

variable (t : Fin cfg0.N) (r : Fin 256)

theorem at_x (d : Fin 1024) : (blkAt m c t).x (ix3 0 r d) = (args m c).x0 (ix3 (smp t) (pos t r) d) := by
  show iblk m c 0 t (ix3 0 r d) = m ((c : Thread nD τ).loc main_arg0) (ix3 (smp t) (pos t r) d)
  blk_point [iblk, V, idx t, smp, pos]
theorem at_mi (d : Fin 1024) : (blkAt m c t).mi (ix3 0 r d) = (args m c).x1 (ix3 (smp t) (pos t r) d) := by
  show iblk m c 1 t (ix3 0 r d) = m ((c : Thread nD τ).loc main_arg1) (ix3 (smp t) (pos t r) d)
  blk_simp [iblk, idx t, smp, pos]
  entry_read
  pointwise
  blk_ext [idx t]
theorem at_tg (d : Fin 1024) : (blkAt m c t).tg (ix3 0 r d) = (args m c).x2 (ix3 (smp t) (pos t r) d) := by
  show iblk m c 2 t (ix3 0 r d) = m ((c : Thread nD τ).loc main_arg2) (ix3 (smp t) (pos t r) d)
  blk_point [iblk, V, idx t, smp, pos]
theorem at_gt1 (d : Fin 1024) :
    (blkAt m c t).gt1 (ix3 0 0 d) = (args m c).x3 (ix3 ⟨(smp t).val, by omega⟩ 2 d) := by
  show View.ld (iblk m c 3 t) (Rect.unit ![0, 2, 0] ![1, 1, 1024] inb_S1x6x1024_S1x1x1024_0_2_0) (ix3 0 0 d)
    = m ((c : Thread nD τ).loc main_arg3) (ix3 ⟨(smp t).val, by omega⟩ 2 d)
  blk_point [iblk, V, idx t, smp]
theorem at_sh2 (d : Fin 1024) :
    (blkAt m c t).sh2 (ix3 0 0 d) = (args m c).x3 (ix3 ⟨(smp t).val, by omega⟩ 3 d) := by
  show View.ld (iblk m c 3 t) (Rect.unit ![0, 3, 0] ![1, 1, 1024] inb_S1x6x1024_S1x1x1024_0_3_0) (ix3 0 0 d)
    = m ((c : Thread nD τ).loc main_arg3) (ix3 ⟨(smp t).val, by omega⟩ 3 d)
  blk_point [iblk, V, idx t, smp]
theorem at_sc2 (d : Fin 1024) :
    (blkAt m c t).sc2 (ix3 0 0 d) = (args m c).x3 (ix3 ⟨(smp t).val, by omega⟩ 4 d) := by
  show View.ld (iblk m c 3 t) (Rect.unit ![0, 4, 0] ![1, 1, 1024] inb_S1x6x1024_S1x1x1024_0_4_0) (ix3 0 0 d)
    = m ((c : Thread nD τ).loc main_arg3) (ix3 ⟨(smp t).val, by omega⟩ 4 d)
  blk_point [iblk, V, idx t, smp]
theorem at_gt2 (d : Fin 1024) :
    (blkAt m c t).gt2 (ix3 0 0 d) = (args m c).x3 (ix3 ⟨(smp t).val, by omega⟩ 5 d) := by
  show View.ld (iblk m c 3 t) (Rect.unit ![0, 5, 0] ![1, 1, 1024] inb_S1x6x1024_S1x1x1024_0_5_0) (ix3 0 0 d)
    = m ((c : Thread nD τ).loc main_arg3) (ix3 ⟨(smp t).val, by omega⟩ 5 d)
  blk_point [iblk, V, idx t, smp]
theorem at_gpm (d : Fin 1024) : (blkAt m c t).gpm (ix2 0 d) = (args m c).x4 (ix2 0 d) := by
  show iblk m c 4 t (ix2 0 d) = m ((c : Thread nD τ).loc main_arg4) (ix2 0 d)
  blk_point [iblk, V, idx t]
theorem at_gpl (d : Fin 1024) : (blkAt m c t).gpl (ix2 0 d) = (args m c).x5 (ix2 0 d) := by
  show iblk m c 5 t (ix2 0 d) = m ((c : Thread nD τ).loc main_arg5) (ix2 0 d)
  blk_point [iblk, V, idx t]
theorem at_gpo (d : Fin 1024) : (blkAt m c t).gpo (ix2 0 d) = (args m c).x6 (ix2 0 d) := by
  show iblk m c 6 t (ix2 0 d) = m ((c : Thread nD τ).loc main_arg6) (ix2 0 d)
  blk_point [iblk, V, idx t]
theorem at_wo (k d : Fin 1024) : (blkAt m c t).wo (ix2 k d) = (args m c).x7 (ix2 k d) := by
  show iblk m c 7 t (ix2 k d) = m ((c : Thread nD τ).loc main_arg7) (ix2 k d)
  blk_simp [iblk, idx t]
  entry_read
  pointwise
  blk_ext [idx t]
/-- The first layer's weight, as the host lays it out: block `j` of its columns. -/
theorem at_w1 (j : Fin 4) (k e : Fin 1024) :
    (iblk m c 8 t : FVec Ideal S4x1024x1024 .bf16) (ix3 j k e)
      = m ((c : Thread nD τ).loc main_arg8) (ix2 k (col j e)) := by
  have he : (win0_8.blk t).view.emb (ix3 j k e) = ix3 j k e := by blk_ext [idx t]
  blk_simp [iblk]
  entry_read
  rw [he]
  pointwise
  blk_ext [col]
theorem ld_w1a (X : FVec Ideal S4x1024x1024 .bf16) (k e : Fin 1024) :
    View.ld (Val := Elt Ideal) (S := S4x1024x1024) (e' := .bf16) X
      (Rect.unit ![0, 0, 0] ![1, 1024, 1024] inb_S4x1024x1024_S1x1024x1024_0_0_0) (ix3 0 k e) = X (ix3 0 k e) := by
  refine congrArg X (funext fun a => Fin.ext ?_)
  match a with
  | ⟨0, _⟩ => rfl
  | ⟨1, _⟩ => exact (by omega : 0 + 1 * k.val = k.val)
  | ⟨2, _⟩ => exact (by omega : 0 + 1 * e.val = e.val)
theorem ld_w1b (X : FVec Ideal S4x1024x1024 .bf16) (k e : Fin 1024) :
    View.ld (Val := Elt Ideal) (S := S4x1024x1024) (e' := .bf16) X
      (Rect.unit ![1, 0, 0] ![1, 1024, 1024] inb_S4x1024x1024_S1x1024x1024_1_0_0) (ix3 0 k e) = X (ix3 1 k e) := by
  refine congrArg X (funext fun a => Fin.ext ?_)
  match a with
  | ⟨0, _⟩ => rfl
  | ⟨1, _⟩ => exact (by omega : 0 + 1 * k.val = k.val)
  | ⟨2, _⟩ => exact (by omega : 0 + 1 * e.val = e.val)
theorem ld_w1c (X : FVec Ideal S4x1024x1024 .bf16) (k e : Fin 1024) :
    View.ld (Val := Elt Ideal) (S := S4x1024x1024) (e' := .bf16) X
      (Rect.unit ![2, 0, 0] ![1, 1024, 1024] inb_S4x1024x1024_S1x1024x1024_2_0_0) (ix3 0 k e) = X (ix3 2 k e) := by
  refine congrArg X (funext fun a => Fin.ext ?_)
  match a with
  | ⟨0, _⟩ => rfl
  | ⟨1, _⟩ => exact (by omega : 0 + 1 * k.val = k.val)
  | ⟨2, _⟩ => exact (by omega : 0 + 1 * e.val = e.val)
theorem ld_w1d (X : FVec Ideal S4x1024x1024 .bf16) (k e : Fin 1024) :
    View.ld (Val := Elt Ideal) (S := S4x1024x1024) (e' := .bf16) X
      (Rect.unit ![3, 0, 0] ![1, 1024, 1024] inb_S4x1024x1024_S1x1024x1024_3_0_0) (ix3 0 k e) = X (ix3 3 k e) := by
  refine congrArg X (funext fun a => Fin.ext ?_)
  match a with
  | ⟨0, _⟩ => rfl
  | ⟨1, _⟩ => exact (by omega : 0 + 1 * k.val = k.val)
  | ⟨2, _⟩ => exact (by omega : 0 + 1 * e.val = e.val)
theorem at_w1a (k e : Fin 1024) : (blkAt m c t).w1a (ix3 0 k e) = (args m c).x8 (ix2 k (col 0 e)) := by
  show View.ld (iblk m c 8 t) (Rect.unit ![0, 0, 0] ![1, 1024, 1024] inb_S4x1024x1024_S1x1024x1024_0_0_0) (ix3 0 k e)
    = m ((c : Thread nD τ).loc main_arg8) (ix2 k (col 0 e))
  exact (ld_w1a _ k e).trans (at_w1 m c t 0 k e)
theorem at_w1b (k e : Fin 1024) : (blkAt m c t).w1b (ix3 0 k e) = (args m c).x8 (ix2 k (col 1 e)) := by
  show View.ld (iblk m c 8 t) (Rect.unit ![1, 0, 0] ![1, 1024, 1024] inb_S4x1024x1024_S1x1024x1024_1_0_0) (ix3 0 k e)
    = m ((c : Thread nD τ).loc main_arg8) (ix2 k (col 1 e))
  exact (ld_w1b _ k e).trans (at_w1 m c t 1 k e)
theorem at_w1c (k e : Fin 1024) : (blkAt m c t).w1c (ix3 0 k e) = (args m c).x8 (ix2 k (col 2 e)) := by
  show View.ld (iblk m c 8 t) (Rect.unit ![2, 0, 0] ![1, 1024, 1024] inb_S4x1024x1024_S1x1024x1024_2_0_0) (ix3 0 k e)
    = m ((c : Thread nD τ).loc main_arg8) (ix2 k (col 2 e))
  exact (ld_w1c _ k e).trans (at_w1 m c t 2 k e)
theorem at_w1d (k e : Fin 1024) : (blkAt m c t).w1d (ix3 0 k e) = (args m c).x8 (ix2 k (col 3 e)) := by
  show View.ld (iblk m c 8 t) (Rect.unit ![3, 0, 0] ![1, 1024, 1024] inb_S4x1024x1024_S1x1024x1024_3_0_0) (ix3 0 k e)
    = m ((c : Thread nD τ).loc main_arg8) (ix2 k (col 3 e))
  exact (ld_w1d _ k e).trans (at_w1 m c t 3 k e)
theorem at_w2a (e d : Fin 1024) : (blkAt m c t).w2a (ix2 e d) = (args m c).x9 (ix2 (col 0 e) d) := by
  show View.ld (iblk m c 9 t) (Rect.unit ![0, 0] ![1024, 1024] inb_S4096x1024_S1024x1024_0_0) (ix2 e d)
    = m ((c : Thread nD τ).loc main_arg9) (ix2 (col 0 e) d)
  blk_simp [iblk, idx t]
  entry_read
  pointwise
  blk_ext [idx t, col]
theorem at_w2b (e d : Fin 1024) : (blkAt m c t).w2b (ix2 e d) = (args m c).x9 (ix2 (col 1 e) d) := by
  show View.ld (iblk m c 9 t) (Rect.unit ![1024, 0] ![1024, 1024] inb_S4096x1024_S1024x1024_1024_0) (ix2 e d)
    = m ((c : Thread nD τ).loc main_arg9) (ix2 (col 1 e) d)
  blk_simp [iblk, idx t]
  entry_read
  pointwise
  blk_ext [idx t, col]
theorem at_w2c (e d : Fin 1024) : (blkAt m c t).w2c (ix2 e d) = (args m c).x9 (ix2 (col 2 e) d) := by
  show View.ld (iblk m c 9 t) (Rect.unit ![2048, 0] ![1024, 1024] inb_S4096x1024_S1024x1024_2048_0) (ix2 e d)
    = m ((c : Thread nD τ).loc main_arg9) (ix2 (col 2 e) d)
  blk_simp [iblk, idx t]
  entry_read
  pointwise
  blk_ext [idx t, col]
theorem at_w2d (e d : Fin 1024) : (blkAt m c t).w2d (ix2 e d) = (args m c).x9 (ix2 (col 3 e) d) := by
  show View.ld (iblk m c 9 t) (Rect.unit ![3072, 0] ![1024, 1024] inb_S4096x1024_S1024x1024_3072_0) (ix2 e d)
    = m ((c : Thread nD τ).loc main_arg9) (ix2 (col 3 e) d)
  blk_simp [iblk, idx t]
  entry_read
  pointwise
  blk_ext [idx t, col]

/-- Row `r` of grid point `t` is one token of the arguments. -/
theorem isRow : (blkAt m c t).IsRow r ((args m c).tok (smp t) (pos t r)) where
  x := at_x m c t r
  mi := at_mi m c t r
  tg := at_tg m c t r
  gt1 := at_gt1 m c t
  sh2 := at_sh2 m c t
  sc2 := at_sc2 m c t
  gt2 := at_gt2 m c t
  gpm := at_gpm m c t
  gpl := at_gpl m c t
  gpo := at_gpo m c t
  wo := at_wo m c t
  w1a := at_w1a m c t
  w1b := at_w1b m c t
  w1c := at_w1c m c t
  w1d := at_w1d m c t
  w2a := at_w2a m c t
  w2b := at_w2b m c t
  w2c := at_w2c m c t
  w2d := at_w2d m c t

end Cert.Tail
-- ==== Proof.Names.lean ====
/- The names of one grid point's blocks: each payload over named blocks is itself a named block. -/
module

public import proofs.«01_k».proof.Proof.Grid
public import proofs.«01_k».proof.Proof.Tiles

@[expose] public section

set_option maxRecDepth 16384

noncomputable section

namespace Cert.Tail

open Idealize.ShloMosaic Cert.KernelIdeal Cert.KernelIdeal.Gen Idealize.ShloMosaic.TcCoe
open scoped BigOperators

variable (m : (ℓ : Loc nD τ sig) → Buf (Elt Ideal) ℓ) (c : Dev nD) (t : Fin cfg0.N)

theorem name_x : iblk m c 0 t = (blkAt m c t).x := rfl
theorem name_mi : iblk m c 1 t = (blkAt m c t).mi := rfl
theorem name_tg : iblk m c 2 t = (blkAt m c t).tg := rfl
theorem name_gt1 : View.ld (iblk m c 3 t) (Rect.unit ![0, 2, 0] ![1, 1, 1024] inb_S1x6x1024_S1x1x1024_0_2_0) = (blkAt m c t).gt1 := rfl
theorem name_sh2 : View.ld (iblk m c 3 t) (Rect.unit ![0, 3, 0] ![1, 1, 1024] inb_S1x6x1024_S1x1x1024_0_3_0) = (blkAt m c t).sh2 := rfl
theorem name_sc2 : View.ld (iblk m c 3 t) (Rect.unit ![0, 4, 0] ![1, 1, 1024] inb_S1x6x1024_S1x1x1024_0_4_0) = (blkAt m c t).sc2 := rfl
theorem name_gt2 : View.ld (iblk m c 3 t) (Rect.unit ![0, 5, 0] ![1, 1, 1024] inb_S1x6x1024_S1x1x1024_0_5_0) = (blkAt m c t).gt2 := rfl
theorem name_gpm : iblk m c 4 t = (blkAt m c t).gpm := rfl
theorem name_gpl : iblk m c 5 t = (blkAt m c t).gpl := rfl
theorem name_gpo : iblk m c 6 t = (blkAt m c t).gpo := rfl
theorem name_wo : iblk m c 7 t = (blkAt m c t).wo := rfl
theorem name_w1a : View.ld (iblk m c 8 t) (Rect.unit ![0, 0, 0] ![1, 1024, 1024] inb_S4x1024x1024_S1x1024x1024_0_0_0) = (blkAt m c t).w1a := rfl
theorem name_w1b : View.ld (iblk m c 8 t) (Rect.unit ![1, 0, 0] ![1, 1024, 1024] inb_S4x1024x1024_S1x1024x1024_1_0_0) = (blkAt m c t).w1b := rfl
theorem name_w1c : View.ld (iblk m c 8 t) (Rect.unit ![2, 0, 0] ![1, 1024, 1024] inb_S4x1024x1024_S1x1024x1024_2_0_0) = (blkAt m c t).w1c := rfl
theorem name_w1d : View.ld (iblk m c 8 t) (Rect.unit ![3, 0, 0] ![1, 1024, 1024] inb_S4x1024x1024_S1x1024x1024_3_0_0) = (blkAt m c t).w1d := rfl
theorem name_w2a : View.ld (iblk m c 9 t) (Rect.unit ![0, 0] ![1024, 1024] inb_S4096x1024_S1024x1024_0_0) = (blkAt m c t).w2a := rfl
theorem name_w2b : View.ld (iblk m c 9 t) (Rect.unit ![1024, 0] ![1024, 1024] inb_S4096x1024_S1024x1024_1024_0) = (blkAt m c t).w2b := rfl
theorem name_w2c : View.ld (iblk m c 9 t) (Rect.unit ![2048, 0] ![1024, 1024] inb_S4096x1024_S1024x1024_2048_0) = (blkAt m c t).w2c := rfl
theorem name_w2d : View.ld (iblk m c 9 t) (Rect.unit ![3072, 0] ![1024, 1024] inb_S4096x1024_S1024x1024_3072_0) = (blkAt m c t).w2d := rfl
theorem name_v1 (B : Blk) : k0_pay2 (F := Ideal) B.gt1 = B.v1 := rfl
theorem name_v3 (B : Blk) : k0_pay3 (F := Ideal) B.sh2 = B.v3 := rfl
theorem name_v5 (B : Blk) : k0_pay4 (F := Ideal) B.sc2 = B.v5 := rfl
theorem name_v7 (B : Blk) : k0_pay5 (F := Ideal) B.gt2 = B.v7 := rfl
theorem name_v12 (B : Blk) : k0_pay6 (F := Ideal) B.mi B.wo = B.v12 := rfl
theorem name_v14 (B : Blk) : k0_pay7 (F := Ideal) B.x = B.v14 := rfl
theorem name_v24 (B : Blk) : k0_pay9 (F := Ideal) B.mi B.wo = B.v24 := rfl
theorem name_v27 (B : Blk) : k0_pay10 (F := Ideal) B.mi B.wo = B.v27 := rfl
theorem name_v28 (B : Blk) : k0_pay11 (F := Ideal) B.mi B.wo = B.v28 := rfl
theorem name_v29 (B : Blk) : k0_pay12 (F := Ideal) B.v12 B.v28 = B.v29 := rfl
theorem name_v31 (B : Blk) : k0_pay13 (F := Ideal) B.v12 B.gpm B.v28 = B.v31 := rfl
theorem name_v34 (B : Blk) : k0_pay14 (F := Ideal) B.v1 B.v12 B.v14 B.gpm B.v28 = B.v34 := rfl
theorem name_v42 (B : Blk) : k0_pay16 (F := Ideal) B.v1 B.v12 B.v14 B.gpm B.v28 = B.v42 := rfl
theorem name_v45 (B : Blk) : k0_pay17 (F := Ideal) B.v1 B.v12 B.v14 B.gpm B.v28 = B.v45 := rfl
theorem name_v47 (B : Blk) : k0_pay18 (F := Ideal) B.v1 B.v12 B.v14 B.gpm B.v28 = B.v47 := rfl
theorem name_v49 (B : Blk) : k0_pay19 (F := Ideal) B.v1 B.v12 B.v14 B.gpm B.gpl B.v28 = B.v49 := rfl
theorem name_v51 (B : Blk) : k0_pay20 (F := Ideal) B.v5 = B.v51 := rfl
theorem name_v56 (B : Blk) : k0_pay21 (F := Ideal) B.v1 B.v3 B.v5 B.v12 B.v14 B.gpm B.gpl B.v28 = B.v56 := rfl
theorem name_v65 (B : Blk) : k0_pay24 (F := Ideal) B.v1 B.v3 B.v5 B.v12 B.v14 B.gpm B.gpl B.v28 B.w1a = B.v65 := rfl
theorem name_v67 (B : Blk) : k0_pay25 (F := Ideal) B.v1 B.v3 B.v5 B.v12 B.v14 B.gpm B.gpl B.v28 B.w1a = B.v67 := rfl
theorem name_v79 (B : Blk) : k0_pay27 (F := Ideal) B.v56 B.w1b = B.v79 := rfl
theorem name_v81 (B : Blk) : k0_pay28 (F := Ideal) B.v56 B.w1b = B.v81 := rfl
theorem name_v93 (B : Blk) : k0_pay30 (F := Ideal) B.v56 B.w1c = B.v93 := rfl
theorem name_v95 (B : Blk) : k0_pay31 (F := Ideal) B.v56 B.w1c = B.v95 := rfl
theorem name_v102 (B : Blk) : k0_pay33 (F := Ideal) B.v56 k0_pay23 B.v67 B.w2a B.w1b B.w2b B.w1c B.w2c = B.v102 := rfl
theorem name_v107 (B : Blk) : k0_pay34 (F := Ideal) B.v56 B.w1d = B.v107 := rfl
theorem name_v109 (B : Blk) : k0_pay35 (F := Ideal) B.v56 B.w1d = B.v109 := rfl
theorem name_v116 (B : Blk) : k0_pay37 (F := Ideal) B.v56 B.v102 B.w1d B.w2d = B.v116 := rfl
theorem name_v127 (B : Blk) : k0_pay39 (F := Ideal) B.v56 B.v102 B.w1d B.w2d = B.v127 := rfl
theorem name_v130 (B : Blk) : k0_pay40 (F := Ideal) B.v56 B.v102 B.w1d B.w2d = B.v130 := rfl
theorem name_v132 (B : Blk) : k0_pay41 (F := Ideal) B.v56 B.v102 B.w1d B.w2d = B.v132 := rfl
theorem name_v134 (B : Blk) : k0_pay42 (F := Ideal) B.v56 B.v102 B.w1d B.w2d B.gpo = B.v134 := rfl
theorem name_v138 (B : Blk) : k0_pay43 (F := Ideal) B.v7 B.v34 B.v56 B.v102 B.w1d B.w2d B.gpo B.tg = B.v138 := rfl
theorem name_v140 (B : Blk) : k0_pay44 (F := Ideal) B.v7 B.v34 B.v56 B.v102 B.w1d B.w2d B.gpo B.tg = B.v140 := rfl
theorem name_v147 (B : Blk) : k0_pay45 (F := Ideal) B.v140 = B.v147 := rfl
theorem name_v165 (B : Blk) : k0_pay46 (F := Ideal) B.v138 = B.v165 := rfl
theorem name_v170 (B : Blk) : k0_pay48 (F := Ideal) B.v134 B.v138 = B.v170 := rfl
theorem name_v173 (B : Blk) : k0_pay49 (F := Ideal) B.v7 B.v132 B.v138 = B.v173 := rfl
theorem name_v180 (B : Blk) : k0_pay51 (F := Ideal) B.v7 B.gpo B.v127 B.v138 = B.v180 := rfl
theorem name_v186 (B : Blk) : k0_pay52 (F := Ideal) B.v7 B.v116 B.gpo B.v130 B.v138 = B.v186 := rfl
theorem name_v187 (B : Blk) : k0_pay53 (F := Ideal) B.v7 B.v116 B.gpo B.v130 B.v138 = B.v187 := rfl
theorem name_v191 (B : Blk) : k0_pay54 (F := Ideal) B.v116 B.v180 B.v186 B.v187 = B.v191 := rfl
theorem name_v202 (B : Blk) : k0_pay56 (F := Ideal) B.v65 B.v116 B.v180 B.v186 B.v187 B.w2a = B.v202 := rfl
theorem name_v209 (B : Blk) : k0_pay58 (F := Ideal) B.v65 B.v116 B.v180 B.v186 B.v187 B.w2a B.w1a = B.v209 := rfl
theorem name_v216 (B : Blk) : k0_pay59 (F := Ideal) B.v79 B.v116 B.v180 B.v186 B.v187 B.w2b = B.v216 := rfl
theorem name_v230 (B : Blk) : k0_pay61 (F := Ideal) B.v93 B.v191 B.w2c = B.v230 := rfl
theorem name_v244 (B : Blk) : k0_pay63 (F := Ideal) B.v107 B.v191 B.w2d = B.v244 := rfl
theorem name_v251 (B : Blk) : k0_pay65 (F := Ideal) B.v93 B.v107 B.v191 B.v209 B.v216 B.w1b B.w2c B.w1c B.w2d B.w1d = B.v251 := rfl
theorem name_v253 (B : Blk) : k0_pay66 (F := Ideal) B.v93 B.v107 B.v191 B.v209 B.v216 B.w1b B.w2c B.w1c B.w2d B.w1d = B.v253 := rfl
theorem name_v256 (B : Blk) : k0_pay67 (F := Ideal) B.v49 B.v251 = B.v256 := rfl
theorem name_v261 (B : Blk) : k0_pay69 (F := Ideal) B.v47 B.v51 B.v251 = B.v261 := rfl
theorem name_v279 (B : Blk) : k0_pay70 (F := Ideal) B.gpl B.v34 B.v42 B.v45 B.v51 B.v165 B.v251 = B.v279 := rfl
theorem name_v284 (B : Blk) : k0_pay72 (F := Ideal) B.gpl B.v31 B.v34 B.v42 B.v45 B.v51 B.v165 B.v251 = B.v284 := rfl
theorem name_v287 (B : Blk) : k0_pay73 (F := Ideal) B.v1 B.gpl B.v29 B.v34 B.v42 B.v45 B.v51 B.v165 B.v251 = B.v287 := rfl
theorem name_v302 (B : Blk) : k0_pay76 (F := Ideal) B.v1 B.v12 B.gpm B.gpl B.v24 B.v27 B.v34 B.v42 B.v45 B.v51 B.v165 B.v251 = B.v302 := rfl
theorem name_v303 (B : Blk) : k0_pay77 (F := Ideal) B.v1 B.v12 B.gpm B.gpl B.v27 B.v34 B.v42 B.v45 B.v51 B.v165 B.v251 = B.v303 := rfl
theorem name_v308 (B : Blk) : k0_pay79 (F := Ideal) B.v302 B.v303 = B.v308 := rfl
end Cert.Tail
-- ==== Proof.Outputs.lean ====
/- What the body leaves at one grid point in the seven output blocks it writes whole: per row, the quantities of that
   row's token. -/
module

public import proofs.«01_k».proof.Proof.Grid
public import proofs.«01_k».proof.Proof.Names
public import proofs.«01_k».proof.Proof.Tiles

@[expose] public section

set_option maxRecDepth 16384

noncomputable section

namespace Cert.Tail

open Idealize.ShloMosaic Cert.KernelIdeal Cert.KernelIdeal.Gen Idealize.ShloMosaic.TcCoe
open scoped BigOperators

/-- Every column of the hidden layer lies in one of its four blocks. -/
theorem exists_col (f : Fin 4096) : ∃ (j : Fin 4) (e : Fin 1024), f = col j e :=
  ⟨⟨f.val / 1024, by omega⟩, ⟨f.val % 1024, by omega⟩, Fin.ext (by show f.val = 1024 * (f.val / 1024) + f.val % 1024; omega)⟩

variable (m : (ℓ : Loc nD τ sig) → Buf (Elt Ideal) ℓ) (c : Dev nD) (t : Fin cfg0.N)

/-- Gradient by the residual stream. -/
theorem out10_A (h0 : t.val % 8 = 0) (h1 : t.val % 16 = 0) : (outsAt0 m c t.val t.isLt).1 = k0_pay78 (blkAt m c t).v279 := by
  rw [outsAt0_A m c t h0 h1]; frame_out
  simp only [name_x, name_mi, name_tg, name_gt1, name_sh2, name_sc2, name_gt2, name_gpm, name_gpl, name_gpo, name_wo,
    name_w1a, name_w1b, name_w1c, name_w1d, name_w2a, name_w2b, name_w2c, name_w2d, name_v1, name_v3, name_v5,
    name_v7, name_v12, name_v14, name_v24, name_v27, name_v28, name_v29, name_v31, name_v34, name_v42, name_v45,
    name_v47, name_v49, name_v51, name_v56, name_v65, name_v67, name_v79, name_v81, name_v93, name_v95, name_v102,
    name_v107, name_v109, name_v116, name_v127, name_v130, name_v132, name_v134, name_v138, name_v140, name_v147,
    name_v165, name_v170, name_v173, name_v180, name_v186, name_v187, name_v191, name_v202, name_v209, name_v216,
    name_v230, name_v244, name_v251, name_v253, name_v256, name_v261, name_v279, name_v284, name_v287, name_v302,
    name_v303, name_v308]
theorem out10_B (h0 : ¬t.val % 8 = 0) (h1 : ¬t.val % 16 = 0) : (outsAt0 m c t.val t.isLt).1 = k0_pay78 (blkAt m c t).v279 := by
  rw [outsAt0_B m c t h0 h1]; frame_out
  simp only [name_x, name_mi, name_tg, name_gt1, name_sh2, name_sc2, name_gt2, name_gpm, name_gpl, name_gpo, name_wo,
    name_w1a, name_w1b, name_w1c, name_w1d, name_w2a, name_w2b, name_w2c, name_w2d, name_v1, name_v3, name_v5,
    name_v7, name_v12, name_v14, name_v24, name_v27, name_v28, name_v29, name_v31, name_v34, name_v42, name_v45,
    name_v47, name_v49, name_v51, name_v56, name_v65, name_v67, name_v79, name_v81, name_v93, name_v95, name_v102,
    name_v107, name_v109, name_v116, name_v127, name_v130, name_v132, name_v134, name_v138, name_v140, name_v147,
    name_v165, name_v170, name_v173, name_v180, name_v186, name_v187, name_v191, name_v202, name_v209, name_v216,
    name_v230, name_v244, name_v251, name_v253, name_v256, name_v261, name_v279, name_v284, name_v287, name_v302,
    name_v303, name_v308]
theorem out10_C (h0 : t.val % 8 = 0) (h1 : ¬t.val % 16 = 0) : (outsAt0 m c t.val t.isLt).1 = k0_pay78 (blkAt m c t).v279 := by
  rw [outsAt0_C m c t h0 h1]; frame_out
  simp only [name_x, name_mi, name_tg, name_gt1, name_sh2, name_sc2, name_gt2, name_gpm, name_gpl, name_gpo, name_wo,
    name_w1a, name_w1b, name_w1c, name_w1d, name_w2a, name_w2b, name_w2c, name_w2d, name_v1, name_v3, name_v5,
    name_v7, name_v12, name_v14, name_v24, name_v27, name_v28, name_v29, name_v31, name_v34, name_v42, name_v45,
    name_v47, name_v49, name_v51, name_v56, name_v65, name_v67, name_v79, name_v81, name_v93, name_v95, name_v102,
    name_v107, name_v109, name_v116, name_v127, name_v130, name_v132, name_v134, name_v138, name_v140, name_v147,
    name_v165, name_v170, name_v173, name_v180, name_v186, name_v187, name_v191, name_v202, name_v209, name_v216,
    name_v230, name_v244, name_v251, name_v253, name_v256, name_v261, name_v279, name_v284, name_v287, name_v302,
    name_v303, name_v308]
theorem out10 : (outsAt0 m c t.val t.isLt).1 = k0_pay78 (blkAt m c t).v279 := by
  by_cases h0 : t.val % 8 = 0
  · by_cases h1 : t.val % 16 = 0
    · exact out10_A m c t h0 h1
    · exact out10_C m c t h0 h1
  · exact out10_B m c t h0 (by omega)
theorem out10_at (r : Fin 256) (d : Fin 1024) :
    (outsAt0 m c t.val t.isLt).1 (ix3 0 r d) = ((args m c).tok (smp t) (pos t r)).dx d :=
  (congrFun (out10 m c t) _).trans (Blk.dx_row (isRow m c t r) d)
/-- Cotangent of the projection. -/
theorem out11_A (h0 : t.val % 8 = 0) (h1 : t.val % 16 = 0) : (outsAt0 m c t.val t.isLt).2.1 = k0_pay80 (blkAt m c t).v302 (blkAt m c t).v303 := by
  rw [outsAt0_A m c t h0 h1]; frame_out
  simp only [name_x, name_mi, name_tg, name_gt1, name_sh2, name_sc2, name_gt2, name_gpm, name_gpl, name_gpo, name_wo,
    name_w1a, name_w1b, name_w1c, name_w1d, name_w2a, name_w2b, name_w2c, name_w2d, name_v1, name_v3, name_v5,
    name_v7, name_v12, name_v14, name_v24, name_v27, name_v28, name_v29, name_v31, name_v34, name_v42, name_v45,
    name_v47, name_v49, name_v51, name_v56, name_v65, name_v67, name_v79, name_v81, name_v93, name_v95, name_v102,
    name_v107, name_v109, name_v116, name_v127, name_v130, name_v132, name_v134, name_v138, name_v140, name_v147,
    name_v165, name_v170, name_v173, name_v180, name_v186, name_v187, name_v191, name_v202, name_v209, name_v216,
    name_v230, name_v244, name_v251, name_v253, name_v256, name_v261, name_v279, name_v284, name_v287, name_v302,
    name_v303, name_v308]
theorem out11_B (h0 : ¬t.val % 8 = 0) (h1 : ¬t.val % 16 = 0) : (outsAt0 m c t.val t.isLt).2.1 = k0_pay80 (blkAt m c t).v302 (blkAt m c t).v303 := by
  rw [outsAt0_B m c t h0 h1]; frame_out
  simp only [name_x, name_mi, name_tg, name_gt1, name_sh2, name_sc2, name_gt2, name_gpm, name_gpl, name_gpo, name_wo,
    name_w1a, name_w1b, name_w1c, name_w1d, name_w2a, name_w2b, name_w2c, name_w2d, name_v1, name_v3, name_v5,
    name_v7, name_v12, name_v14, name_v24, name_v27, name_v28, name_v29, name_v31, name_v34, name_v42, name_v45,
    name_v47, name_v49, name_v51, name_v56, name_v65, name_v67, name_v79, name_v81, name_v93, name_v95, name_v102,
    name_v107, name_v109, name_v116, name_v127, name_v130, name_v132, name_v134, name_v138, name_v140, name_v147,
    name_v165, name_v170, name_v173, name_v180, name_v186, name_v187, name_v191, name_v202, name_v209, name_v216,
    name_v230, name_v244, name_v251, name_v253, name_v256, name_v261, name_v279, name_v284, name_v287, name_v302,
    name_v303, name_v308]
theorem out11_C (h0 : t.val % 8 = 0) (h1 : ¬t.val % 16 = 0) : (outsAt0 m c t.val t.isLt).2.1 = k0_pay80 (blkAt m c t).v302 (blkAt m c t).v303 := by
  rw [outsAt0_C m c t h0 h1]; frame_out
  simp only [name_x, name_mi, name_tg, name_gt1, name_sh2, name_sc2, name_gt2, name_gpm, name_gpl, name_gpo, name_wo,
    name_w1a, name_w1b, name_w1c, name_w1d, name_w2a, name_w2b, name_w2c, name_w2d, name_v1, name_v3, name_v5,
    name_v7, name_v12, name_v14, name_v24, name_v27, name_v28, name_v29, name_v31, name_v34, name_v42, name_v45,
    name_v47, name_v49, name_v51, name_v56, name_v65, name_v67, name_v79, name_v81, name_v93, name_v95, name_v102,
    name_v107, name_v109, name_v116, name_v127, name_v130, name_v132, name_v134, name_v138, name_v140, name_v147,
    name_v165, name_v170, name_v173, name_v180, name_v186, name_v187, name_v191, name_v202, name_v209, name_v216,
    name_v230, name_v244, name_v251, name_v253, name_v256, name_v261, name_v279, name_v284, name_v287, name_v302,
    name_v303, name_v308]
theorem out11 : (outsAt0 m c t.val t.isLt).2.1 = k0_pay80 (blkAt m c t).v302 (blkAt m c t).v303 := by
  by_cases h0 : t.val % 8 = 0
  · by_cases h1 : t.val % 16 = 0
    · exact out11_A m c t h0 h1
    · exact out11_C m c t h0 h1
  · exact out11_B m c t h0 (by omega)
theorem out11_at (r : Fin 256) (d : Fin 1024) :
    (outsAt0 m c t.val t.isLt).2.1 (ix3 0 r d) = ((args m c).tok (smp t) (pos t r)).dmix d :=
  (congrFun (out11 m c t) _).trans (Blk.dmix_row (isRow m c t r) d)
/-- Input of the MLP. -/
theorem out12_A (h0 : t.val % 8 = 0) (h1 : t.val % 16 = 0) : (outsAt0 m c t.val t.isLt).2.2.1 = k0_pay22 (blkAt m c t).v1 (blkAt m c t).v3 (blkAt m c t).v5 (blkAt m c t).v12 (blkAt m c t).v14 (blkAt m c t).gpm (blkAt m c t).gpl (blkAt m c t).v28 := by
  rw [outsAt0_A m c t h0 h1]; frame_out
  simp only [name_x, name_mi, name_tg, name_gt1, name_sh2, name_sc2, name_gt2, name_gpm, name_gpl, name_gpo, name_wo,
    name_w1a, name_w1b, name_w1c, name_w1d, name_w2a, name_w2b, name_w2c, name_w2d, name_v1, name_v3, name_v5,
    name_v7, name_v12, name_v14, name_v24, name_v27, name_v28, name_v29, name_v31, name_v34, name_v42, name_v45,
    name_v47, name_v49, name_v51, name_v56, name_v65, name_v67, name_v79, name_v81, name_v93, name_v95, name_v102,
    name_v107, name_v109, name_v116, name_v127, name_v130, name_v132, name_v134, name_v138, name_v140, name_v147,
    name_v165, name_v170, name_v173, name_v180, name_v186, name_v187, name_v191, name_v202, name_v209, name_v216,
    name_v230, name_v244, name_v251, name_v253, name_v256, name_v261, name_v279, name_v284, name_v287, name_v302,
    name_v303, name_v308]
theorem out12_B (h0 : ¬t.val % 8 = 0) (h1 : ¬t.val % 16 = 0) : (outsAt0 m c t.val t.isLt).2.2.1 = k0_pay22 (blkAt m c t).v1 (blkAt m c t).v3 (blkAt m c t).v5 (blkAt m c t).v12 (blkAt m c t).v14 (blkAt m c t).gpm (blkAt m c t).gpl (blkAt m c t).v28 := by
  rw [outsAt0_B m c t h0 h1]; frame_out
  simp only [name_x, name_mi, name_tg, name_gt1, name_sh2, name_sc2, name_gt2, name_gpm, name_gpl, name_gpo, name_wo,
    name_w1a, name_w1b, name_w1c, name_w1d, name_w2a, name_w2b, name_w2c, name_w2d, name_v1, name_v3, name_v5,
    name_v7, name_v12, name_v14, name_v24, name_v27, name_v28, name_v29, name_v31, name_v34, name_v42, name_v45,
    name_v47, name_v49, name_v51, name_v56, name_v65, name_v67, name_v79, name_v81, name_v93, name_v95, name_v102,
    name_v107, name_v109, name_v116, name_v127, name_v130, name_v132, name_v134, name_v138, name_v140, name_v147,
    name_v165, name_v170, name_v173, name_v180, name_v186, name_v187, name_v191, name_v202, name_v209, name_v216,
    name_v230, name_v244, name_v251, name_v253, name_v256, name_v261, name_v279, name_v284, name_v287, name_v302,
    name_v303, name_v308]
theorem out12_C (h0 : t.val % 8 = 0) (h1 : ¬t.val % 16 = 0) : (outsAt0 m c t.val t.isLt).2.2.1 = k0_pay22 (blkAt m c t).v1 (blkAt m c t).v3 (blkAt m c t).v5 (blkAt m c t).v12 (blkAt m c t).v14 (blkAt m c t).gpm (blkAt m c t).gpl (blkAt m c t).v28 := by
  rw [outsAt0_C m c t h0 h1]; frame_out
  simp only [name_x, name_mi, name_tg, name_gt1, name_sh2, name_sc2, name_gt2, name_gpm, name_gpl, name_gpo, name_wo,
    name_w1a, name_w1b, name_w1c, name_w1d, name_w2a, name_w2b, name_w2c, name_w2d, name_v1, name_v3, name_v5,
    name_v7, name_v12, name_v14, name_v24, name_v27, name_v28, name_v29, name_v31, name_v34, name_v42, name_v45,
    name_v47, name_v49, name_v51, name_v56, name_v65, name_v67, name_v79, name_v81, name_v93, name_v95, name_v102,
    name_v107, name_v109, name_v116, name_v127, name_v130, name_v132, name_v134, name_v138, name_v140, name_v147,
    name_v165, name_v170, name_v173, name_v180, name_v186, name_v187, name_v191, name_v202, name_v209, name_v216,
    name_v230, name_v244, name_v251, name_v253, name_v256, name_v261, name_v279, name_v284, name_v287, name_v302,
    name_v303, name_v308]
theorem out12 : (outsAt0 m c t.val t.isLt).2.2.1 = k0_pay22 (blkAt m c t).v1 (blkAt m c t).v3 (blkAt m c t).v5 (blkAt m c t).v12 (blkAt m c t).v14 (blkAt m c t).gpm (blkAt m c t).gpl (blkAt m c t).v28 := by
  by_cases h0 : t.val % 8 = 0
  · by_cases h1 : t.val % 16 = 0
    · exact out12_A m c t h0 h1
    · exact out12_C m c t h0 h1
  · exact out12_B m c t h0 (by omega)
theorem out12_at (r : Fin 256) (d : Fin 1024) :
    (outsAt0 m c t.val t.isLt).2.2.1 (ix3 0 r d) = ((args m c).tok (smp t) (pos t r)).h2 d :=
  (congrFun (out12 m c t) _).trans (Blk.h2_row (isRow m c t r) d)
/-- Cotangent of the MLP. -/
theorem out15_A (h0 : t.val % 8 = 0) (h1 : t.val % 16 = 0) : (outsAt0 m c t.val t.isLt).2.2.2.2.2.1 = k0_pay55 (blkAt m c t).v116 (blkAt m c t).v180 (blkAt m c t).v186 (blkAt m c t).v187 := by
  rw [outsAt0_A m c t h0 h1]; frame_out
  simp only [name_x, name_mi, name_tg, name_gt1, name_sh2, name_sc2, name_gt2, name_gpm, name_gpl, name_gpo, name_wo,
    name_w1a, name_w1b, name_w1c, name_w1d, name_w2a, name_w2b, name_w2c, name_w2d, name_v1, name_v3, name_v5,
    name_v7, name_v12, name_v14, name_v24, name_v27, name_v28, name_v29, name_v31, name_v34, name_v42, name_v45,
    name_v47, name_v49, name_v51, name_v56, name_v65, name_v67, name_v79, name_v81, name_v93, name_v95, name_v102,
    name_v107, name_v109, name_v116, name_v127, name_v130, name_v132, name_v134, name_v138, name_v140, name_v147,
    name_v165, name_v170, name_v173, name_v180, name_v186, name_v187, name_v191, name_v202, name_v209, name_v216,
    name_v230, name_v244, name_v251, name_v253, name_v256, name_v261, name_v279, name_v284, name_v287, name_v302,
    name_v303, name_v308]
theorem out15_B (h0 : ¬t.val % 8 = 0) (h1 : ¬t.val % 16 = 0) : (outsAt0 m c t.val t.isLt).2.2.2.2.2.1 = k0_pay55 (blkAt m c t).v116 (blkAt m c t).v180 (blkAt m c t).v186 (blkAt m c t).v187 := by
  rw [outsAt0_B m c t h0 h1]; frame_out
  simp only [name_x, name_mi, name_tg, name_gt1, name_sh2, name_sc2, name_gt2, name_gpm, name_gpl, name_gpo, name_wo,
    name_w1a, name_w1b, name_w1c, name_w1d, name_w2a, name_w2b, name_w2c, name_w2d, name_v1, name_v3, name_v5,
    name_v7, name_v12, name_v14, name_v24, name_v27, name_v28, name_v29, name_v31, name_v34, name_v42, name_v45,
    name_v47, name_v49, name_v51, name_v56, name_v65, name_v67, name_v79, name_v81, name_v93, name_v95, name_v102,
    name_v107, name_v109, name_v116, name_v127, name_v130, name_v132, name_v134, name_v138, name_v140, name_v147,
    name_v165, name_v170, name_v173, name_v180, name_v186, name_v187, name_v191, name_v202, name_v209, name_v216,
    name_v230, name_v244, name_v251, name_v253, name_v256, name_v261, name_v279, name_v284, name_v287, name_v302,
    name_v303, name_v308]
theorem out15_C (h0 : t.val % 8 = 0) (h1 : ¬t.val % 16 = 0) : (outsAt0 m c t.val t.isLt).2.2.2.2.2.1 = k0_pay55 (blkAt m c t).v116 (blkAt m c t).v180 (blkAt m c t).v186 (blkAt m c t).v187 := by
  rw [outsAt0_C m c t h0 h1]; frame_out
  simp only [name_x, name_mi, name_tg, name_gt1, name_sh2, name_sc2, name_gt2, name_gpm, name_gpl, name_gpo, name_wo,
    name_w1a, name_w1b, name_w1c, name_w1d, name_w2a, name_w2b, name_w2c, name_w2d, name_v1, name_v3, name_v5,
    name_v7, name_v12, name_v14, name_v24, name_v27, name_v28, name_v29, name_v31, name_v34, name_v42, name_v45,
    name_v47, name_v49, name_v51, name_v56, name_v65, name_v67, name_v79, name_v81, name_v93, name_v95, name_v102,
    name_v107, name_v109, name_v116, name_v127, name_v130, name_v132, name_v134, name_v138, name_v140, name_v147,
    name_v165, name_v170, name_v173, name_v180, name_v186, name_v187, name_v191, name_v202, name_v209, name_v216,
    name_v230, name_v244, name_v251, name_v253, name_v256, name_v261, name_v279, name_v284, name_v287, name_v302,
    name_v303, name_v308]
theorem out15 : (outsAt0 m c t.val t.isLt).2.2.2.2.2.1 = k0_pay55 (blkAt m c t).v116 (blkAt m c t).v180 (blkAt m c t).v186 (blkAt m c t).v187 := by
  by_cases h0 : t.val % 8 = 0
  · by_cases h1 : t.val % 16 = 0
    · exact out15_A m c t h0 h1
    · exact out15_C m c t h0 h1
  · exact out15_B m c t h0 (by omega)
theorem out15_at (r : Fin 256) (d : Fin 1024) :
    (outsAt0 m c t.val t.isLt).2.2.2.2.2.1 (ix3 0 r d) = ((args m c).tok (smp t) (pos t r)).dm d :=
  (congrFun (out15 m c t) _).trans (Blk.dm_row (isRow m c t r) d)
/-- Gradient by the projection's input. -/
theorem out16_A (h0 : t.val % 8 = 0) (h1 : t.val % 16 = 0) : (outsAt0 m c t.val t.isLt).2.2.2.2.2.2.1 = k0_pay81 (blkAt m c t).v302 (blkAt m c t).v303 (blkAt m c t).wo := by
  rw [outsAt0_A m c t h0 h1]; frame_out
  simp only [name_x, name_mi, name_tg, name_gt1, name_sh2, name_sc2, name_gt2, name_gpm, name_gpl, name_gpo, name_wo,
    name_w1a, name_w1b, name_w1c, name_w1d, name_w2a, name_w2b, name_w2c, name_w2d, name_v1, name_v3, name_v5,
    name_v7, name_v12, name_v14, name_v24, name_v27, name_v28, name_v29, name_v31, name_v34, name_v42, name_v45,
    name_v47, name_v49, name_v51, name_v56, name_v65, name_v67, name_v79, name_v81, name_v93, name_v95, name_v102,
    name_v107, name_v109, name_v116, name_v127, name_v130, name_v132, name_v134, name_v138, name_v140, name_v147,
    name_v165, name_v170, name_v173, name_v180, name_v186, name_v187, name_v191, name_v202, name_v209, name_v216,
    name_v230, name_v244, name_v251, name_v253, name_v256, name_v261, name_v279, name_v284, name_v287, name_v302,
    name_v303, name_v308]
theorem out16_B (h0 : ¬t.val % 8 = 0) (h1 : ¬t.val % 16 = 0) : (outsAt0 m c t.val t.isLt).2.2.2.2.2.2.1 = k0_pay81 (blkAt m c t).v302 (blkAt m c t).v303 (blkAt m c t).wo := by
  rw [outsAt0_B m c t h0 h1]; frame_out
  simp only [name_x, name_mi, name_tg, name_gt1, name_sh2, name_sc2, name_gt2, name_gpm, name_gpl, name_gpo, name_wo,
    name_w1a, name_w1b, name_w1c, name_w1d, name_w2a, name_w2b, name_w2c, name_w2d, name_v1, name_v3, name_v5,
    name_v7, name_v12, name_v14, name_v24, name_v27, name_v28, name_v29, name_v31, name_v34, name_v42, name_v45,
    name_v47, name_v49, name_v51, name_v56, name_v65, name_v67, name_v79, name_v81, name_v93, name_v95, name_v102,
    name_v107, name_v109, name_v116, name_v127, name_v130, name_v132, name_v134, name_v138, name_v140, name_v147,
    name_v165, name_v170, name_v173, name_v180, name_v186, name_v187, name_v191, name_v202, name_v209, name_v216,
    name_v230, name_v244, name_v251, name_v253, name_v256, name_v261, name_v279, name_v284, name_v287, name_v302,
    name_v303, name_v308]
theorem out16_C (h0 : t.val % 8 = 0) (h1 : ¬t.val % 16 = 0) : (outsAt0 m c t.val t.isLt).2.2.2.2.2.2.1 = k0_pay81 (blkAt m c t).v302 (blkAt m c t).v303 (blkAt m c t).wo := by
  rw [outsAt0_C m c t h0 h1]; frame_out
  simp only [name_x, name_mi, name_tg, name_gt1, name_sh2, name_sc2, name_gt2, name_gpm, name_gpl, name_gpo, name_wo,
    name_w1a, name_w1b, name_w1c, name_w1d, name_w2a, name_w2b, name_w2c, name_w2d, name_v1, name_v3, name_v5,
    name_v7, name_v12, name_v14, name_v24, name_v27, name_v28, name_v29, name_v31, name_v34, name_v42, name_v45,
    name_v47, name_v49, name_v51, name_v56, name_v65, name_v67, name_v79, name_v81, name_v93, name_v95, name_v102,
    name_v107, name_v109, name_v116, name_v127, name_v130, name_v132, name_v134, name_v138, name_v140, name_v147,
    name_v165, name_v170, name_v173, name_v180, name_v186, name_v187, name_v191, name_v202, name_v209, name_v216,
    name_v230, name_v244, name_v251, name_v253, name_v256, name_v261, name_v279, name_v284, name_v287, name_v302,
    name_v303, name_v308]
theorem out16 : (outsAt0 m c t.val t.isLt).2.2.2.2.2.2.1 = k0_pay81 (blkAt m c t).v302 (blkAt m c t).v303 (blkAt m c t).wo := by
  by_cases h0 : t.val % 8 = 0
  · by_cases h1 : t.val % 16 = 0
    · exact out16_A m c t h0 h1
    · exact out16_C m c t h0 h1
  · exact out16_B m c t h0 (by omega)
theorem out16_at (r : Fin 256) (d : Fin 1024) :
    (outsAt0 m c t.val t.isLt).2.2.2.2.2.2.1 (ix3 0 r d) = ((args m c).tok (smp t) (pos t r)).dmi d :=
  (congrFun (out16 m c t) _).trans (Blk.dmi_row (isRow m c t r) d)
/-- Cotangent of the hidden layer, four pieces of its columns. -/
def Blk.duPieces (B : Blk) : FVec Ideal S1x256x4096 .bf16 :=
  View.canon (Val := Elt Ideal) (s := S1x256x4096) (e := .bf16) [⟨Rect.unit ![0, 0, 3072] ![1, 256, 1024] inb_S1x256x4096_S1x256x1024_0_0_3072, k0_pay64 B.v107 B.v191 B.w2d⟩,
    ⟨Rect.unit ![0, 0, 2048] ![1, 256, 1024] inb_S1x256x4096_S1x256x1024_0_0_2048, k0_pay62 B.v93 B.v191 B.w2c⟩,
    ⟨Rect.unit ![0, 0, 1024] ![1, 256, 1024] inb_S1x256x4096_S1x256x1024_0_0_1024, k0_pay60 B.v79 B.v116 B.v180 B.v186 B.v187 B.w2b⟩,
    ⟨Rect.unit ![0, 0, 0] ![1, 256, 1024] inb_S1x256x4096_S1x256x1024_0_0_0, k0_pay57 B.v65 B.v116 B.v180 B.v186 B.v187 B.w2a⟩]
theorem out13_A (h0 : t.val % 8 = 0) (h1 : t.val % 16 = 0) : (outsAt0 m c t.val t.isLt).2.2.2.1 = (blkAt m c t).duPieces := by
  rw [outsAt0_A m c t h0 h1]; frame_out
  simp only [name_x, name_mi, name_tg, name_gt1, name_sh2, name_sc2, name_gt2, name_gpm, name_gpl, name_gpo, name_wo,
    name_w1a, name_w1b, name_w1c, name_w1d, name_w2a, name_w2b, name_w2c, name_w2d, name_v1, name_v3, name_v5,
    name_v7, name_v12, name_v14, name_v24, name_v27, name_v28, name_v29, name_v31, name_v34, name_v42, name_v45,
    name_v47, name_v49, name_v51, name_v56, name_v65, name_v67, name_v79, name_v81, name_v93, name_v95, name_v102,
    name_v107, name_v109, name_v116, name_v127, name_v130, name_v132, name_v134, name_v138, name_v140, name_v147,
    name_v165, name_v170, name_v173, name_v180, name_v186, name_v187, name_v191, name_v202, name_v209, name_v216,
    name_v230, name_v244, name_v251, name_v253, name_v256, name_v261, name_v279, name_v284, name_v287, name_v302,
    name_v303, name_v308]
theorem out13_B (h0 : ¬t.val % 8 = 0) (h1 : ¬t.val % 16 = 0) : (outsAt0 m c t.val t.isLt).2.2.2.1 = (blkAt m c t).duPieces := by
  rw [outsAt0_B m c t h0 h1]; frame_out
  simp only [name_x, name_mi, name_tg, name_gt1, name_sh2, name_sc2, name_gt2, name_gpm, name_gpl, name_gpo, name_wo,
    name_w1a, name_w1b, name_w1c, name_w1d, name_w2a, name_w2b, name_w2c, name_w2d, name_v1, name_v3, name_v5,
    name_v7, name_v12, name_v14, name_v24, name_v27, name_v28, name_v29, name_v31, name_v34, name_v42, name_v45,
    name_v47, name_v49, name_v51, name_v56, name_v65, name_v67, name_v79, name_v81, name_v93, name_v95, name_v102,
    name_v107, name_v109, name_v116, name_v127, name_v130, name_v132, name_v134, name_v138, name_v140, name_v147,
    name_v165, name_v170, name_v173, name_v180, name_v186, name_v187, name_v191, name_v202, name_v209, name_v216,
    name_v230, name_v244, name_v251, name_v253, name_v256, name_v261, name_v279, name_v284, name_v287, name_v302,
    name_v303, name_v308]
theorem out13_C (h0 : t.val % 8 = 0) (h1 : ¬t.val % 16 = 0) : (outsAt0 m c t.val t.isLt).2.2.2.1 = (blkAt m c t).duPieces := by
  rw [outsAt0_C m c t h0 h1]; frame_out
  simp only [name_x, name_mi, name_tg, name_gt1, name_sh2, name_sc2, name_gt2, name_gpm, name_gpl, name_gpo, name_wo,
    name_w1a, name_w1b, name_w1c, name_w1d, name_w2a, name_w2b, name_w2c, name_w2d, name_v1, name_v3, name_v5,
    name_v7, name_v12, name_v14, name_v24, name_v27, name_v28, name_v29, name_v31, name_v34, name_v42, name_v45,
    name_v47, name_v49, name_v51, name_v56, name_v65, name_v67, name_v79, name_v81, name_v93, name_v95, name_v102,
    name_v107, name_v109, name_v116, name_v127, name_v130, name_v132, name_v134, name_v138, name_v140, name_v147,
    name_v165, name_v170, name_v173, name_v180, name_v186, name_v187, name_v191, name_v202, name_v209, name_v216,
    name_v230, name_v244, name_v251, name_v253, name_v256, name_v261, name_v279, name_v284, name_v287, name_v302,
    name_v303, name_v308]
theorem out13 : (outsAt0 m c t.val t.isLt).2.2.2.1 = (blkAt m c t).duPieces := by
  by_cases h0 : t.val % 8 = 0
  · by_cases h1 : t.val % 16 = 0
    · exact out13_A m c t h0 h1
    · exact out13_C m c t h0 h1
  · exact out13_B m c t h0 (by omega)
theorem Blk.duPieces_0 (B : Blk) (r : Fin 256) (I : Inp) (h : B.IsRow r I) (e : Fin 1024) :
    B.duPieces (ix3 0 r (col 0 e)) = I.du (col 0 e) := by
  have hv : ((ix3 (0 : Fin 1) r (col 0 e)) 2).val = 0 + e.val := by simp [col]
  unfold Blk.duPieces
  rw [canon_skip _ _ _ _ 2 (Or.inl (lt_of_eq_of_lt hv (by simp <;> omega)))]
  rw [canon_skip _ _ _ _ 2 (Or.inl (lt_of_eq_of_lt hv (by simp <;> omega)))]
  rw [canon_skip _ _ _ _ 2 (Or.inl (lt_of_eq_of_lt hv (by simp <;> omega)))]
  exact (canon_mem3 _ _ _ _ (ix3 0 r e) rfl (Nat.zero_add _).symm hv).trans (Blk.du0_row h e)
theorem Blk.duPieces_1 (B : Blk) (r : Fin 256) (I : Inp) (h : B.IsRow r I) (e : Fin 1024) :
    B.duPieces (ix3 0 r (col 1 e)) = I.du (col 1 e) := by
  have hv : ((ix3 (0 : Fin 1) r (col 1 e)) 2).val = 1024 + e.val := by simp [col]
  unfold Blk.duPieces
  rw [canon_skip _ _ _ _ 2 (Or.inl (lt_of_eq_of_lt hv (by simp <;> omega)))]
  rw [canon_skip _ _ _ _ 2 (Or.inl (lt_of_eq_of_lt hv (by simp <;> omega)))]
  exact (canon_mem3 _ _ _ _ (ix3 0 r e) rfl (Nat.zero_add _).symm hv).trans (Blk.du1_row h e)
theorem Blk.duPieces_2 (B : Blk) (r : Fin 256) (I : Inp) (h : B.IsRow r I) (e : Fin 1024) :
    B.duPieces (ix3 0 r (col 2 e)) = I.du (col 2 e) := by
  have hv : ((ix3 (0 : Fin 1) r (col 2 e)) 2).val = 2048 + e.val := by simp [col]
  unfold Blk.duPieces
  rw [canon_skip _ _ _ _ 2 (Or.inl (lt_of_eq_of_lt hv (by simp <;> omega)))]
  exact (canon_mem3 _ _ _ _ (ix3 0 r e) rfl (Nat.zero_add _).symm hv).trans (Blk.du2_row h e)
theorem Blk.duPieces_3 (B : Blk) (r : Fin 256) (I : Inp) (h : B.IsRow r I) (e : Fin 1024) :
    B.duPieces (ix3 0 r (col 3 e)) = I.du (col 3 e) := by
  have hv : ((ix3 (0 : Fin 1) r (col 3 e)) 2).val = 3072 + e.val := by simp [col]
  unfold Blk.duPieces
  exact (canon_mem3 _ _ _ _ (ix3 0 r e) rfl (Nat.zero_add _).symm hv).trans (Blk.du3_row h e)
theorem out13_at (r : Fin 256) (f : Fin 4096) :
    (outsAt0 m c t.val t.isLt).2.2.2.1 (ix3 0 r f) = ((args m c).tok (smp t) (pos t r)).du f := by
  refine (congrFun (out13 m c t) _).trans ?_
  obtain ⟨j, e, rfl⟩ := exists_col f
  match j with
  | 0 => exact Blk.duPieces_0 _ r _ (isRow m c t r) e
  | 1 => exact Blk.duPieces_1 _ r _ (isRow m c t r) e
  | 2 => exact Blk.duPieces_2 _ r _ (isRow m c t r) e
  | 3 => exact Blk.duPieces_3 _ r _ (isRow m c t r) e
/-- The squared relu, four pieces of its columns. -/
def Blk.actPieces (B : Blk) : FVec Ideal S1x256x4096 .bf16 :=
  View.canon (Val := Elt Ideal) (s := S1x256x4096) (e := .bf16) [⟨Rect.unit ![0, 0, 3072] ![1, 256, 1024] inb_S1x256x4096_S1x256x1024_0_0_3072, k0_pay36 B.v56 B.w1d⟩,
    ⟨Rect.unit ![0, 0, 2048] ![1, 256, 1024] inb_S1x256x4096_S1x256x1024_0_0_2048, k0_pay32 B.v56 B.w1c⟩,
    ⟨Rect.unit ![0, 0, 1024] ![1, 256, 1024] inb_S1x256x4096_S1x256x1024_0_0_1024, k0_pay29 B.v56 B.w1b⟩,
    ⟨Rect.unit ![0, 0, 0] ![1, 256, 1024] inb_S1x256x4096_S1x256x1024_0_0_0, k0_pay26 B.v1 B.v3 B.v5 B.v12 B.v14 B.gpm B.gpl B.v28 B.w1a⟩]
theorem out14_A (h0 : t.val % 8 = 0) (h1 : t.val % 16 = 0) : (outsAt0 m c t.val t.isLt).2.2.2.2.1 = (blkAt m c t).actPieces := by
  rw [outsAt0_A m c t h0 h1]; frame_out
  simp only [name_x, name_mi, name_tg, name_gt1, name_sh2, name_sc2, name_gt2, name_gpm, name_gpl, name_gpo, name_wo,
    name_w1a, name_w1b, name_w1c, name_w1d, name_w2a, name_w2b, name_w2c, name_w2d, name_v1, name_v3, name_v5,
    name_v7, name_v12, name_v14, name_v24, name_v27, name_v28, name_v29, name_v31, name_v34, name_v42, name_v45,
    name_v47, name_v49, name_v51, name_v56, name_v65, name_v67, name_v79, name_v81, name_v93, name_v95, name_v102,
    name_v107, name_v109, name_v116, name_v127, name_v130, name_v132, name_v134, name_v138, name_v140, name_v147,
    name_v165, name_v170, name_v173, name_v180, name_v186, name_v187, name_v191, name_v202, name_v209, name_v216,
    name_v230, name_v244, name_v251, name_v253, name_v256, name_v261, name_v279, name_v284, name_v287, name_v302,
    name_v303, name_v308]
theorem out14_B (h0 : ¬t.val % 8 = 0) (h1 : ¬t.val % 16 = 0) : (outsAt0 m c t.val t.isLt).2.2.2.2.1 = (blkAt m c t).actPieces := by
  rw [outsAt0_B m c t h0 h1]; frame_out
  simp only [name_x, name_mi, name_tg, name_gt1, name_sh2, name_sc2, name_gt2, name_gpm, name_gpl, name_gpo, name_wo,
    name_w1a, name_w1b, name_w1c, name_w1d, name_w2a, name_w2b, name_w2c, name_w2d, name_v1, name_v3, name_v5,
    name_v7, name_v12, name_v14, name_v24, name_v27, name_v28, name_v29, name_v31, name_v34, name_v42, name_v45,
    name_v47, name_v49, name_v51, name_v56, name_v65, name_v67, name_v79, name_v81, name_v93, name_v95, name_v102,
    name_v107, name_v109, name_v116, name_v127, name_v130, name_v132, name_v134, name_v138, name_v140, name_v147,
    name_v165, name_v170, name_v173, name_v180, name_v186, name_v187, name_v191, name_v202, name_v209, name_v216,
    name_v230, name_v244, name_v251, name_v253, name_v256, name_v261, name_v279, name_v284, name_v287, name_v302,
    name_v303, name_v308]
theorem out14_C (h0 : t.val % 8 = 0) (h1 : ¬t.val % 16 = 0) : (outsAt0 m c t.val t.isLt).2.2.2.2.1 = (blkAt m c t).actPieces := by
  rw [outsAt0_C m c t h0 h1]; frame_out
  simp only [name_x, name_mi, name_tg, name_gt1, name_sh2, name_sc2, name_gt2, name_gpm, name_gpl, name_gpo, name_wo,
    name_w1a, name_w1b, name_w1c, name_w1d, name_w2a, name_w2b, name_w2c, name_w2d, name_v1, name_v3, name_v5,
    name_v7, name_v12, name_v14, name_v24, name_v27, name_v28, name_v29, name_v31, name_v34, name_v42, name_v45,
    name_v47, name_v49, name_v51, name_v56, name_v65, name_v67, name_v79, name_v81, name_v93, name_v95, name_v102,
    name_v107, name_v109, name_v116, name_v127, name_v130, name_v132, name_v134, name_v138, name_v140, name_v147,
    name_v165, name_v170, name_v173, name_v180, name_v186, name_v187, name_v191, name_v202, name_v209, name_v216,
    name_v230, name_v244, name_v251, name_v253, name_v256, name_v261, name_v279, name_v284, name_v287, name_v302,
    name_v303, name_v308]
theorem out14 : (outsAt0 m c t.val t.isLt).2.2.2.2.1 = (blkAt m c t).actPieces := by
  by_cases h0 : t.val % 8 = 0
  · by_cases h1 : t.val % 16 = 0
    · exact out14_A m c t h0 h1
    · exact out14_C m c t h0 h1
  · exact out14_B m c t h0 (by omega)
theorem Blk.actPieces_0 (B : Blk) (r : Fin 256) (I : Inp) (h : B.IsRow r I) (e : Fin 1024) :
    B.actPieces (ix3 0 r (col 0 e)) = I.act (col 0 e) := by
  have hv : ((ix3 (0 : Fin 1) r (col 0 e)) 2).val = 0 + e.val := by simp [col]
  unfold Blk.actPieces
  rw [canon_skip _ _ _ _ 2 (Or.inl (lt_of_eq_of_lt hv (by simp <;> omega)))]
  rw [canon_skip _ _ _ _ 2 (Or.inl (lt_of_eq_of_lt hv (by simp <;> omega)))]
  rw [canon_skip _ _ _ _ 2 (Or.inl (lt_of_eq_of_lt hv (by simp <;> omega)))]
  exact (canon_mem3 _ _ _ _ (ix3 0 r e) rfl (Nat.zero_add _).symm hv).trans (Blk.act0_row h e)
theorem Blk.actPieces_1 (B : Blk) (r : Fin 256) (I : Inp) (h : B.IsRow r I) (e : Fin 1024) :
    B.actPieces (ix3 0 r (col 1 e)) = I.act (col 1 e) := by
  have hv : ((ix3 (0 : Fin 1) r (col 1 e)) 2).val = 1024 + e.val := by simp [col]
  unfold Blk.actPieces
  rw [canon_skip _ _ _ _ 2 (Or.inl (lt_of_eq_of_lt hv (by simp <;> omega)))]
  rw [canon_skip _ _ _ _ 2 (Or.inl (lt_of_eq_of_lt hv (by simp <;> omega)))]
  exact (canon_mem3 _ _ _ _ (ix3 0 r e) rfl (Nat.zero_add _).symm hv).trans (Blk.act1_row h e)
theorem Blk.actPieces_2 (B : Blk) (r : Fin 256) (I : Inp) (h : B.IsRow r I) (e : Fin 1024) :
    B.actPieces (ix3 0 r (col 2 e)) = I.act (col 2 e) := by
  have hv : ((ix3 (0 : Fin 1) r (col 2 e)) 2).val = 2048 + e.val := by simp [col]
  unfold Blk.actPieces
  rw [canon_skip _ _ _ _ 2 (Or.inl (lt_of_eq_of_lt hv (by simp <;> omega)))]
  exact (canon_mem3 _ _ _ _ (ix3 0 r e) rfl (Nat.zero_add _).symm hv).trans (Blk.act2_row h e)
theorem Blk.actPieces_3 (B : Blk) (r : Fin 256) (I : Inp) (h : B.IsRow r I) (e : Fin 1024) :
    B.actPieces (ix3 0 r (col 3 e)) = I.act (col 3 e) := by
  have hv : ((ix3 (0 : Fin 1) r (col 3 e)) 2).val = 3072 + e.val := by simp [col]
  unfold Blk.actPieces
  exact (canon_mem3 _ _ _ _ (ix3 0 r e) rfl (Nat.zero_add _).symm hv).trans (Blk.act3_row h e)
theorem out14_at (r : Fin 256) (f : Fin 4096) :
    (outsAt0 m c t.val t.isLt).2.2.2.2.1 (ix3 0 r f) = ((args m c).tok (smp t) (pos t r)).act f := by
  refine (congrFun (out14 m c t) _).trans ?_
  obtain ⟨j, e, rfl⟩ := exists_col f
  match j with
  | 0 => exact Blk.actPieces_0 _ r _ (isRow m c t r) e
  | 1 => exact Blk.actPieces_1 _ r _ (isRow m c t r) e
  | 2 => exact Blk.actPieces_2 _ r _ (isRow m c t r) e
  | 3 => exact Blk.actPieces_3 _ r _ (isRow m c t r) e
end Cert.Tail
-- ==== Proof.Rows.lean ====
/- The rows of the accumulated blocks: what storing "row + part" over a zeroed block, or over the previous contents,
   leaves at each row. -/
module

public import proofs.«01_k».proof.Proof.Gen.KernelIdeal.Skeleton
public import proofs.«01_k».proof.Proof.Tiles

@[expose] public section

set_option maxRecDepth 16384

noncomputable section

namespace Cert.Tail

open Idealize.ShloMosaic Cert.KernelIdeal Cert.KernelIdeal.Gen Idealize.ShloMosaic.TcCoe
open scoped BigOperators

variable {sig' : RefSig} {κ : Kind} {sp : Space}

section
variable {e : EltTy}

/-- What the newest store of a literal box leaves inside it, rank three and two. -/
theorem stored3 {d o z : Fin 3 → ℕ} (v : View sig' κ sp ⟨3, d⟩ e) (u : v.ty.Contents (Elt Ideal))
    (inb : ∀ a : Fin 3, o a + z a ≤ d a) (w : (Rect.unit (s := ⟨3, d⟩) o z inb).shape.Idx → Elt Ideal e)
    (L : List (View.Piece (Elt Ideal) ⟨3, d⟩ e)) (y : (⟨3, d⟩ : Shape).Idx) (x : (⟨3, z⟩ : Shape).Idx)
    (h₀ : (y 0).val = o 0 + (x 0).val) (h₁ : (y 1).val = o 1 + (x 1).val) (h₂ : (y 2).val = o 2 + (x 2).val) :
    v.read (Elt Ideal) (v.writes (Elt Ideal) u ((⟨Rect.unit (s := ⟨3, d⟩) o z inb, w⟩ : View.Piece (Elt Ideal) ⟨3, d⟩ e) :: L)) y = w x :=
  View.read_writes_cons_unit_of_mem v u inb w L y x rfl fun a => match a with
    | ⟨0, _⟩ => h₀
    | ⟨1, _⟩ => h₁
    | ⟨2, _⟩ => h₂
theorem stored2 {d o z : Fin 2 → ℕ} (v : View sig' κ sp ⟨2, d⟩ e) (u : v.ty.Contents (Elt Ideal))
    (inb : ∀ a : Fin 2, o a + z a ≤ d a) (w : (Rect.unit (s := ⟨2, d⟩) o z inb).shape.Idx → Elt Ideal e)
    (L : List (View.Piece (Elt Ideal) ⟨2, d⟩ e)) (y : (⟨2, d⟩ : Shape).Idx) (x : (⟨2, z⟩ : Shape).Idx)
    (h₀ : (y 0).val = o 0 + (x 0).val) (h₁ : (y 1).val = o 1 + (x 1).val) :
    v.read (Elt Ideal) (v.writes (Elt Ideal) u ((⟨Rect.unit (s := ⟨2, d⟩) o z inb, w⟩ : View.Piece (Elt Ideal) ⟨2, d⟩ e) :: L)) y = w x :=
  View.read_writes_cons_unit_of_mem v u inb w L y x rfl fun a => match a with
    | ⟨0, _⟩ => h₀
    | ⟨1, _⟩ => h₁

end

theorem pay85_at (g : FVec Ideal S1x1024 .f32) (w : FVec Ideal S1x1x1024 .f32) (d : Fin 1024) :
    k0_pay85 (F := Ideal) g w (ix3 0 0 d) = w (ix3 0 0 d) + g (ix2 0 d) := by pointwise [k0_pay85]
theorem pay86_at (g : FVec Ideal S1x1024 .f32) (w : FVec Ideal S1x1x1024 .f32) (d : Fin 1024) :
    k0_pay86 (F := Ideal) g w (ix3 0 0 d) = w (ix3 0 0 d) + g (ix2 0 d) := by pointwise [k0_pay86]
theorem pay87_at (g : FVec Ideal S1x1024 .f32) (w : FVec Ideal S1x1x1024 .f32) (d : Fin 1024) :
    k0_pay87 (F := Ideal) g w (ix3 0 0 d) = w (ix3 0 0 d) + g (ix2 0 d) := by pointwise [k0_pay87]
theorem pay88_at (g : FVec Ideal S1x1024 .f32) (w : FVec Ideal S1x1x1024 .f32) (d : Fin 1024) :
    k0_pay88 (F := Ideal) g w (ix3 0 0 d) = w (ix3 0 0 d) + g (ix2 0 d) := by pointwise [k0_pay88]
theorem pay89_at (g w : FVec Ideal S1x1024 .f32) (d : Fin 1024) :
    k0_pay89 (F := Ideal) g w (ix2 0 d) = w (ix2 0 d) + g (ix2 0 d) := by pointwise [k0_pay89]
theorem pay90_at (g w : FVec Ideal S1x1024 .f32) (d : Fin 1024) :
    k0_pay90 (F := Ideal) g w (ix2 0 d) = w (ix2 0 d) + g (ix2 0 d) := by pointwise [k0_pay90]
theorem pay91_at (g w : FVec Ideal S1x1024 .f32) (d : Fin 1024) :
    k0_pay91 (F := Ideal) g w (ix2 0 d) = w (ix2 0 d) + g (ix2 0 d) := by pointwise [k0_pay91]
theorem pay82_at (k : Fin 6) (d : Fin 1024) : k0_pay82 (F := Ideal) (ix3 0 k d) = 0 := by pointwise [k0_pay82]
theorem pay83_at (k : Fin 8) (d : Fin 1024) : k0_pay83 (F := Ideal) (ix2 k d) = 0 := by pointwise [k0_pay83]
theorem pay84_at (k : Fin 8) (d : Fin 128) : k0_pay84 (F := Ideal) (ix2 k d) = 0 := by pointwise [k0_pay84]
theorem pay1_at (l : FVec Ideal S1x1 .f32) (w : FVec Ideal S8x128 .f32) (k : Fin 8) (d : Fin 128) :
    k0_pay1 (F := Ideal) l w (ix2 k d) = w (ix2 k d) + l (ix2 0 0) := by pointwise [k0_pay1]

/-- Four rows `2 … 5` of a block of six, the other two zero. -/
def rows6 (g2 g3 g4 g5 : Fin 1024 → EReal) (k : Fin 6) (d : Fin 1024) : EReal := match k with
  | 0 => 0
  | 1 => 0
  | 2 => g2 d
  | 3 => g3 d
  | 4 => g4 d
  | 5 => g5 d

/-- Three rows `0 … 2` of a block of eight, the others zero. -/
def rows8 (g0 g1 g2 : Fin 1024 → EReal) (k : Fin 8) (d : Fin 1024) : EReal := match k with
  | 0 => g0 d
  | 1 => g1 d
  | 2 => g2 d
  | _ => 0

theorem zero6 (k : Fin 6) (d : Fin 1024) :
    View.canon (Val := Elt Ideal) (s := S1x6x1024) (e := .f32) [⟨Rect.unit (s := S1x6x1024) ![0, 0, 0] ![1, 6, 1024] inb_S1x6x1024_S1x6x1024_0_0_0, k0_pay82 (F := Ideal)⟩] (ix3 0 k d) = 0 :=
  (canon_mem3 _ _ _ _ (ix3 0 k d) (Nat.zero_add _).symm (Nat.zero_add _).symm (Nat.zero_add _).symm).trans (pay82_at k d)
theorem zero8 (k : Fin 8) (d : Fin 1024) :
    View.canon (Val := Elt Ideal) (s := S8x1024) (e := .f32) [⟨Rect.unit (s := S8x1024) ![0, 0] ![8, 1024] inb_S8x1024_S8x1024_0_0, k0_pay83 (F := Ideal)⟩] (ix2 k d) = 0 :=
  (canon_mem2 _ _ _ _ (ix2 k d) (Nat.zero_add _).symm (Nat.zero_add _).symm).trans (pay83_at k d)

/-! A row's load before its own store finds the zero fill. -/

theorem load6_2 (v : View sig' κ sp S1x6x1024 .f32)  (d : Fin 1024) :
    v.readCov (Val := Elt Ideal) [⟨Rect.unit (s := S1x6x1024) ![0, 0, 0] ![1, 6, 1024] inb_S1x6x1024_S1x6x1024_0_0_0, k0_pay82 (F := Ideal)⟩]
      (Rect.unit (s := S1x6x1024) ![0, 2, 0] ![1, 1, 1024] inb_S1x6x1024_S1x1x1024_0_2_0).toLoadRect (ix3 0 0 d) = (0 : EReal) := by
  refine (readCov_at (Val := Elt Ideal) (S := S1x6x1024) (e := .f32) v _ inb_S1x6x1024_S1x1x1024_0_2_0 (ix3 0 0 d) (ix3 0 2 d) (coord3 rfl rfl (Nat.zero_add _).symm)).trans ?_
  exact zero6 2 d
theorem load6_3 (v : View sig' κ sp S1x6x1024 .f32) (w2 : FVec Ideal S1x1x1024 .f32) (d : Fin 1024) :
    v.readCov (Val := Elt Ideal) [⟨Rect.unit (s := S1x6x1024) ![0, 2, 0] ![1, 1, 1024] inb_S1x6x1024_S1x1x1024_0_2_0, w2⟩, ⟨Rect.unit (s := S1x6x1024) ![0, 0, 0] ![1, 6, 1024] inb_S1x6x1024_S1x6x1024_0_0_0, k0_pay82 (F := Ideal)⟩]
      (Rect.unit (s := S1x6x1024) ![0, 3, 0] ![1, 1, 1024] inb_S1x6x1024_S1x1x1024_0_3_0).toLoadRect (ix3 0 0 d) = (0 : EReal) := by
  refine (readCov_at (Val := Elt Ideal) (S := S1x6x1024) (e := .f32) v _ inb_S1x6x1024_S1x1x1024_0_3_0 (ix3 0 0 d) (ix3 0 3 d) (coord3 rfl rfl (Nat.zero_add _).symm)).trans ?_
  rw [canon_skip _ _ _ _ 1 (Or.inr (by show 2 + 1 ≤ 3; omega))]
  exact zero6 3 d
theorem load6_4 (v : View sig' κ sp S1x6x1024 .f32) (w3 : FVec Ideal S1x1x1024 .f32) (w2 : FVec Ideal S1x1x1024 .f32) (d : Fin 1024) :
    v.readCov (Val := Elt Ideal) [⟨Rect.unit (s := S1x6x1024) ![0, 3, 0] ![1, 1, 1024] inb_S1x6x1024_S1x1x1024_0_3_0, w3⟩, ⟨Rect.unit (s := S1x6x1024) ![0, 2, 0] ![1, 1, 1024] inb_S1x6x1024_S1x1x1024_0_2_0, w2⟩, ⟨Rect.unit (s := S1x6x1024) ![0, 0, 0] ![1, 6, 1024] inb_S1x6x1024_S1x6x1024_0_0_0, k0_pay82 (F := Ideal)⟩]
      (Rect.unit (s := S1x6x1024) ![0, 4, 0] ![1, 1, 1024] inb_S1x6x1024_S1x1x1024_0_4_0).toLoadRect (ix3 0 0 d) = (0 : EReal) := by
  refine (readCov_at (Val := Elt Ideal) (S := S1x6x1024) (e := .f32) v _ inb_S1x6x1024_S1x1x1024_0_4_0 (ix3 0 0 d) (ix3 0 4 d) (coord3 rfl rfl (Nat.zero_add _).symm)).trans ?_
  rw [canon_skip _ _ _ _ 1 (Or.inr (by show 3 + 1 ≤ 4; omega))]
  rw [canon_skip _ _ _ _ 1 (Or.inr (by show 2 + 1 ≤ 4; omega))]
  exact zero6 4 d
theorem load6_5 (v : View sig' κ sp S1x6x1024 .f32) (w4 : FVec Ideal S1x1x1024 .f32) (w3 : FVec Ideal S1x1x1024 .f32) (w2 : FVec Ideal S1x1x1024 .f32) (d : Fin 1024) :
    v.readCov (Val := Elt Ideal) [⟨Rect.unit (s := S1x6x1024) ![0, 4, 0] ![1, 1, 1024] inb_S1x6x1024_S1x1x1024_0_4_0, w4⟩, ⟨Rect.unit (s := S1x6x1024) ![0, 3, 0] ![1, 1, 1024] inb_S1x6x1024_S1x1x1024_0_3_0, w3⟩, ⟨Rect.unit (s := S1x6x1024) ![0, 2, 0] ![1, 1, 1024] inb_S1x6x1024_S1x1x1024_0_2_0, w2⟩, ⟨Rect.unit (s := S1x6x1024) ![0, 0, 0] ![1, 6, 1024] inb_S1x6x1024_S1x6x1024_0_0_0, k0_pay82 (F := Ideal)⟩]
      (Rect.unit (s := S1x6x1024) ![0, 5, 0] ![1, 1, 1024] inb_S1x6x1024_S1x1x1024_0_5_0).toLoadRect (ix3 0 0 d) = (0 : EReal) := by
  refine (readCov_at (Val := Elt Ideal) (S := S1x6x1024) (e := .f32) v _ inb_S1x6x1024_S1x1x1024_0_5_0 (ix3 0 0 d) (ix3 0 5 d) (coord3 rfl rfl (Nat.zero_add _).symm)).trans ?_
  rw [canon_skip _ _ _ _ 1 (Or.inr (by show 4 + 1 ≤ 5; omega))]
  rw [canon_skip _ _ _ _ 1 (Or.inr (by show 3 + 1 ≤ 5; omega))]
  rw [canon_skip _ _ _ _ 1 (Or.inr (by show 2 + 1 ≤ 5; omega))]
  exact zero6 5 d
theorem load8_0 (v : View sig' κ sp S8x1024 .f32)  (d : Fin 1024) :
    v.readCov (Val := Elt Ideal) [⟨Rect.unit (s := S8x1024) ![0, 0] ![8, 1024] inb_S8x1024_S8x1024_0_0, k0_pay83 (F := Ideal)⟩]
      (Rect.unit (s := S8x1024) ![0, 0] ![1, 1024] inb_S8x1024_S1x1024_0_0).toLoadRect (ix2 0 d) = (0 : EReal) := by
  refine (readCov_at (Val := Elt Ideal) (S := S8x1024) (e := .f32) v _ inb_S8x1024_S1x1024_0_0 (ix2 0 d) (ix2 0 d) (coord2 rfl (Nat.zero_add _).symm)).trans ?_
  exact zero8 0 d
theorem load8_1 (v : View sig' κ sp S8x1024 .f32) (w0 : FVec Ideal S1x1024 .f32) (d : Fin 1024) :
    v.readCov (Val := Elt Ideal) [⟨Rect.unit (s := S8x1024) ![0, 0] ![1, 1024] inb_S8x1024_S1x1024_0_0, w0⟩, ⟨Rect.unit (s := S8x1024) ![0, 0] ![8, 1024] inb_S8x1024_S8x1024_0_0, k0_pay83 (F := Ideal)⟩]
      (Rect.unit (s := S8x1024) ![1, 0] ![1, 1024] inb_S8x1024_S1x1024_1_0).toLoadRect (ix2 0 d) = (0 : EReal) := by
  refine (readCov_at (Val := Elt Ideal) (S := S8x1024) (e := .f32) v _ inb_S8x1024_S1x1024_1_0 (ix2 0 d) (ix2 1 d) (coord2 rfl (Nat.zero_add _).symm)).trans ?_
  rw [canon_skip _ _ _ _ 0 (Or.inr (by show 0 + 1 ≤ 1; omega))]
  exact zero8 1 d
theorem load8_2 (v : View sig' κ sp S8x1024 .f32) (w1 : FVec Ideal S1x1024 .f32) (w0 : FVec Ideal S1x1024 .f32) (d : Fin 1024) :
    v.readCov (Val := Elt Ideal) [⟨Rect.unit (s := S8x1024) ![1, 0] ![1, 1024] inb_S8x1024_S1x1024_1_0, w1⟩, ⟨Rect.unit (s := S8x1024) ![0, 0] ![1, 1024] inb_S8x1024_S1x1024_0_0, w0⟩, ⟨Rect.unit (s := S8x1024) ![0, 0] ![8, 1024] inb_S8x1024_S8x1024_0_0, k0_pay83 (F := Ideal)⟩]
      (Rect.unit (s := S8x1024) ![2, 0] ![1, 1024] inb_S8x1024_S1x1024_2_0).toLoadRect (ix2 0 d) = (0 : EReal) := by
  refine (readCov_at (Val := Elt Ideal) (S := S8x1024) (e := .f32) v _ inb_S8x1024_S1x1024_2_0 (ix2 0 d) (ix2 2 d) (coord2 rfl (Nat.zero_add _).symm)).trans ?_
  rw [canon_skip _ _ _ _ 0 (Or.inr (by show 1 + 1 ≤ 2; omega))]
  rw [canon_skip _ _ _ _ 0 (Or.inr (by show 0 + 1 ≤ 2; omega))]
  exact zero8 2 d

/-- Each row stored once over a zeroed block. -/
theorem fill6 (g2 g3 g4 g5 : FVec Ideal S1x1024 .f32) (w2 w3 w4 w5 : FVec Ideal S1x1x1024 .f32)
    (h2 : ∀ d, w2 (ix3 0 0 d) = 0) (h3 : ∀ d, w3 (ix3 0 0 d) = 0) (h4 : ∀ d, w4 (ix3 0 0 d) = 0)
    (h5 : ∀ d, w5 (ix3 0 0 d) = 0) (k : Fin 6) (d : Fin 1024) :
    View.canon (Val := Elt Ideal) (s := S1x6x1024) (e := .f32) [⟨Rect.unit (s := S1x6x1024) ![0, 5, 0] ![1, 1, 1024] inb_S1x6x1024_S1x1x1024_0_5_0, k0_pay88 g5 w5⟩,
      ⟨Rect.unit (s := S1x6x1024) ![0, 4, 0] ![1, 1, 1024] inb_S1x6x1024_S1x1x1024_0_4_0, k0_pay87 g4 w4⟩,
      ⟨Rect.unit (s := S1x6x1024) ![0, 3, 0] ![1, 1, 1024] inb_S1x6x1024_S1x1x1024_0_3_0, k0_pay86 g3 w3⟩,
      ⟨Rect.unit (s := S1x6x1024) ![0, 2, 0] ![1, 1, 1024] inb_S1x6x1024_S1x1x1024_0_2_0, k0_pay85 g2 w2⟩,
      ⟨Rect.unit (s := S1x6x1024) ![0, 0, 0] ![1, 6, 1024] inb_S1x6x1024_S1x6x1024_0_0_0, k0_pay82 (F := Ideal)⟩] (ix3 0 k d)
      = rows6 (fun d => g2 (ix2 0 d)) (fun d => g3 (ix2 0 d)) (fun d => g4 (ix2 0 d)) (fun d => g5 (ix2 0 d)) k d := by
  match k with
  | 0 =>
    rw [canon_skip _ _ _ _ 1 (Or.inl (by show 0 < 5; omega))]
    rw [canon_skip _ _ _ _ 1 (Or.inl (by show 0 < 4; omega))]
    rw [canon_skip _ _ _ _ 1 (Or.inl (by show 0 < 3; omega))]
    rw [canon_skip _ _ _ _ 1 (Or.inl (by show 0 < 2; omega))]
    exact zero6 0 d
  | 1 =>
    rw [canon_skip _ _ _ _ 1 (Or.inl (by show 1 < 5; omega))]
    rw [canon_skip _ _ _ _ 1 (Or.inl (by show 1 < 4; omega))]
    rw [canon_skip _ _ _ _ 1 (Or.inl (by show 1 < 3; omega))]
    rw [canon_skip _ _ _ _ 1 (Or.inl (by show 1 < 2; omega))]
    exact zero6 1 d
  | 2 =>
    rw [canon_skip _ _ _ _ 1 (Or.inl (by show 2 < 5; omega))]
    rw [canon_skip _ _ _ _ 1 (Or.inl (by show 2 < 4; omega))]
    rw [canon_skip _ _ _ _ 1 (Or.inl (by show 2 < 3; omega))]
    rw [canon_mem3 _ _ _ _ (ix3 0 0 d) rfl rfl (Nat.zero_add _).symm, pay85_at, h2, zero_add]; rfl
  | 3 =>
    rw [canon_skip _ _ _ _ 1 (Or.inl (by show 3 < 5; omega))]
    rw [canon_skip _ _ _ _ 1 (Or.inl (by show 3 < 4; omega))]
    rw [canon_mem3 _ _ _ _ (ix3 0 0 d) rfl rfl (Nat.zero_add _).symm, pay86_at, h3, zero_add]; rfl
  | 4 =>
    rw [canon_skip _ _ _ _ 1 (Or.inl (by show 4 < 5; omega))]
    rw [canon_mem3 _ _ _ _ (ix3 0 0 d) rfl rfl (Nat.zero_add _).symm, pay87_at, h4, zero_add]; rfl
  | 5 =>
    rw [canon_mem3 _ _ _ _ (ix3 0 0 d) rfl rfl (Nat.zero_add _).symm, pay88_at, h5, zero_add]; rfl

theorem fill8 (g0 g1 g2 w0 w1 w2 : FVec Ideal S1x1024 .f32)
    (h0 : ∀ d, w0 (ix2 0 d) = 0) (h1 : ∀ d, w1 (ix2 0 d) = 0) (h2 : ∀ d, w2 (ix2 0 d) = 0) (k : Fin 8) (d : Fin 1024) :
    View.canon (Val := Elt Ideal) (s := S8x1024) (e := .f32) [⟨Rect.unit (s := S8x1024) ![2, 0] ![1, 1024] inb_S8x1024_S1x1024_2_0, k0_pay91 g2 w2⟩,
      ⟨Rect.unit (s := S8x1024) ![1, 0] ![1, 1024] inb_S8x1024_S1x1024_1_0, k0_pay90 g1 w1⟩,
      ⟨Rect.unit (s := S8x1024) ![0, 0] ![1, 1024] inb_S8x1024_S1x1024_0_0, k0_pay89 g0 w0⟩,
      ⟨Rect.unit (s := S8x1024) ![0, 0] ![8, 1024] inb_S8x1024_S8x1024_0_0, k0_pay83 (F := Ideal)⟩] (ix2 k d)
      = rows8 (fun d => g0 (ix2 0 d)) (fun d => g1 (ix2 0 d)) (fun d => g2 (ix2 0 d)) k d := by
  match k with
  | 0 =>
    rw [canon_skip _ _ _ _ 0 (Or.inl (by show 0 < 2; omega))]
    rw [canon_skip _ _ _ _ 0 (Or.inl (by show 0 < 1; omega))]
    rw [canon_mem2 _ _ _ _ (ix2 0 d) rfl (Nat.zero_add _).symm, pay89_at, h0, zero_add]; rfl
  | 1 =>
    rw [canon_skip _ _ _ _ 0 (Or.inl (by show 1 < 2; omega))]
    rw [canon_mem2 _ _ _ _ (ix2 0 d) rfl (Nat.zero_add _).symm, pay90_at, h1, zero_add]; rfl
  | 2 =>
    rw [canon_mem2 _ _ _ _ (ix2 0 d) rfl (Nat.zero_add _).symm, pay91_at, h2, zero_add]; rfl
  | 3 =>
    rw [canon_skip _ _ _ _ 0 (Or.inr (by show 2 + 1 ≤ 3; omega))]
    rw [canon_skip _ _ _ _ 0 (Or.inr (by show 1 + 1 ≤ 3; omega))]
    rw [canon_skip _ _ _ _ 0 (Or.inr (by show 0 + 1 ≤ 3; omega))]
    exact zero8 3 d
  | 4 =>
    rw [canon_skip _ _ _ _ 0 (Or.inr (by show 2 + 1 ≤ 4; omega))]
    rw [canon_skip _ _ _ _ 0 (Or.inr (by show 1 + 1 ≤ 4; omega))]
    rw [canon_skip _ _ _ _ 0 (Or.inr (by show 0 + 1 ≤ 4; omega))]
    exact zero8 4 d
  | 5 =>
    rw [canon_skip _ _ _ _ 0 (Or.inr (by show 2 + 1 ≤ 5; omega))]
    rw [canon_skip _ _ _ _ 0 (Or.inr (by show 1 + 1 ≤ 5; omega))]
    rw [canon_skip _ _ _ _ 0 (Or.inr (by show 0 + 1 ≤ 5; omega))]
    exact zero8 5 d
  | 6 =>
    rw [canon_skip _ _ _ _ 0 (Or.inr (by show 2 + 1 ≤ 6; omega))]
    rw [canon_skip _ _ _ _ 0 (Or.inr (by show 1 + 1 ≤ 6; omega))]
    rw [canon_skip _ _ _ _ 0 (Or.inr (by show 0 + 1 ≤ 6; omega))]
    exact zero8 6 d
  | 7 =>
    rw [canon_skip _ _ _ _ 0 (Or.inr (by show 2 + 1 ≤ 7; omega))]
    rw [canon_skip _ _ _ _ 0 (Or.inr (by show 1 + 1 ≤ 7; omega))]
    rw [canon_skip _ _ _ _ 0 (Or.inr (by show 0 + 1 ≤ 7; omega))]
    exact zero8 7 d

/-- Each row stored once over the previous contents. -/
theorem step6 (v : View sig' κ sp S1x6x1024 .f32) (u : v.ty.Contents (Elt Ideal)) (P : FVec Ideal S1x6x1024 .f32) (hu : v.read (Elt Ideal) u = P)
    (g2 g3 g4 g5 : FVec Ideal S1x1024 .f32) (k : Fin 6) (d : Fin 1024) :
    (v.read (Elt Ideal) (v.writes (Elt Ideal) u [⟨Rect.unit (s := S1x6x1024) ![0, 5, 0] ![1, 1, 1024] inb_S1x6x1024_S1x1x1024_0_5_0, k0_pay88 g5 (View.ld (Val := Elt Ideal) (S := S1x6x1024) (e' := .f32) P (Rect.unit (s := S1x6x1024) ![0, 5, 0] ![1, 1, 1024] inb_S1x6x1024_S1x1x1024_0_5_0))⟩,
      ⟨Rect.unit (s := S1x6x1024) ![0, 4, 0] ![1, 1, 1024] inb_S1x6x1024_S1x1x1024_0_4_0, k0_pay87 g4 (View.ld (Val := Elt Ideal) (S := S1x6x1024) (e' := .f32) P (Rect.unit (s := S1x6x1024) ![0, 4, 0] ![1, 1, 1024] inb_S1x6x1024_S1x1x1024_0_4_0))⟩,
      ⟨Rect.unit (s := S1x6x1024) ![0, 3, 0] ![1, 1, 1024] inb_S1x6x1024_S1x1x1024_0_3_0, k0_pay86 g3 (View.ld (Val := Elt Ideal) (S := S1x6x1024) (e' := .f32) P (Rect.unit (s := S1x6x1024) ![0, 3, 0] ![1, 1, 1024] inb_S1x6x1024_S1x1x1024_0_3_0))⟩,
      ⟨Rect.unit (s := S1x6x1024) ![0, 2, 0] ![1, 1, 1024] inb_S1x6x1024_S1x1x1024_0_2_0, k0_pay85 g2 (View.ld (Val := Elt Ideal) (S := S1x6x1024) (e' := .f32) P (Rect.unit (s := S1x6x1024) ![0, 2, 0] ![1, 1, 1024] inb_S1x6x1024_S1x1x1024_0_2_0))⟩]) (ix3 0 k d) : EReal)
      = P (ix3 0 k d)
        + rows6 (fun d => g2 (ix2 0 d)) (fun d => g3 (ix2 0 d)) (fun d => g4 (ix2 0 d)) (fun d => g5 (ix2 0 d)) k d := by
  match k with
  | 0 =>
    rw [View.read_writes_cons_unit_of_not_mem v u _ _ _ _ rfl 1 (Or.inl (by show 0 < 5; omega))]
    rw [View.read_writes_cons_unit_of_not_mem v u _ _ _ _ rfl 1 (Or.inl (by show 0 < 4; omega))]
    rw [View.read_writes_cons_unit_of_not_mem v u _ _ _ _ rfl 1 (Or.inl (by show 0 < 3; omega))]
    rw [View.read_writes_cons_unit_of_not_mem v u _ _ _ _ rfl 1 (Or.inl (by show 0 < 2; omega))]
    rw [View.writes_nil, hu]; exact (add_zero _).symm
  | 1 =>
    rw [View.read_writes_cons_unit_of_not_mem v u _ _ _ _ rfl 1 (Or.inl (by show 1 < 5; omega))]
    rw [View.read_writes_cons_unit_of_not_mem v u _ _ _ _ rfl 1 (Or.inl (by show 1 < 4; omega))]
    rw [View.read_writes_cons_unit_of_not_mem v u _ _ _ _ rfl 1 (Or.inl (by show 1 < 3; omega))]
    rw [View.read_writes_cons_unit_of_not_mem v u _ _ _ _ rfl 1 (Or.inl (by show 1 < 2; omega))]
    rw [View.writes_nil, hu]; exact (add_zero _).symm
  | 2 =>
    rw [View.read_writes_cons_unit_of_not_mem v u _ _ _ _ rfl 1 (Or.inl (by show 2 < 5; omega))]
    rw [View.read_writes_cons_unit_of_not_mem v u _ _ _ _ rfl 1 (Or.inl (by show 2 < 4; omega))]
    rw [View.read_writes_cons_unit_of_not_mem v u _ _ _ _ rfl 1 (Or.inl (by show 2 < 3; omega))]
    rw [stored3 v u _ _ _ _ (ix3 0 0 d) rfl rfl (Nat.zero_add _).symm, pay85_at]
    exact congrArg (· + g2 (ix2 0 d))
      (ld_at (Val := Elt Ideal) (S := S1x6x1024) (e := .f32) P inb_S1x6x1024_S1x1x1024_0_2_0 (ix3 0 0 d) (ix3 0 2 d) (coord3 rfl rfl (Nat.zero_add _).symm))
  | 3 =>
    rw [View.read_writes_cons_unit_of_not_mem v u _ _ _ _ rfl 1 (Or.inl (by show 3 < 5; omega))]
    rw [View.read_writes_cons_unit_of_not_mem v u _ _ _ _ rfl 1 (Or.inl (by show 3 < 4; omega))]
    rw [stored3 v u _ _ _ _ (ix3 0 0 d) rfl rfl (Nat.zero_add _).symm, pay86_at]
    exact congrArg (· + g3 (ix2 0 d))
      (ld_at (Val := Elt Ideal) (S := S1x6x1024) (e := .f32) P inb_S1x6x1024_S1x1x1024_0_3_0 (ix3 0 0 d) (ix3 0 3 d) (coord3 rfl rfl (Nat.zero_add _).symm))
  | 4 =>
    rw [View.read_writes_cons_unit_of_not_mem v u _ _ _ _ rfl 1 (Or.inl (by show 4 < 5; omega))]
    rw [stored3 v u _ _ _ _ (ix3 0 0 d) rfl rfl (Nat.zero_add _).symm, pay87_at]
    exact congrArg (· + g4 (ix2 0 d))
      (ld_at (Val := Elt Ideal) (S := S1x6x1024) (e := .f32) P inb_S1x6x1024_S1x1x1024_0_4_0 (ix3 0 0 d) (ix3 0 4 d) (coord3 rfl rfl (Nat.zero_add _).symm))
  | 5 =>
    rw [stored3 v u _ _ _ _ (ix3 0 0 d) rfl rfl (Nat.zero_add _).symm, pay88_at]
    exact congrArg (· + g5 (ix2 0 d))
      (ld_at (Val := Elt Ideal) (S := S1x6x1024) (e := .f32) P inb_S1x6x1024_S1x1x1024_0_5_0 (ix3 0 0 d) (ix3 0 5 d) (coord3 rfl rfl (Nat.zero_add _).symm))

theorem step8 (v : View sig' κ sp S8x1024 .f32) (u : v.ty.Contents (Elt Ideal)) (P : FVec Ideal S8x1024 .f32) (hu : v.read (Elt Ideal) u = P)
    (g0 g1 g2 : FVec Ideal S1x1024 .f32) (k : Fin 8) (d : Fin 1024) :
    (v.read (Elt Ideal) (v.writes (Elt Ideal) u [⟨Rect.unit (s := S8x1024) ![2, 0] ![1, 1024] inb_S8x1024_S1x1024_2_0, k0_pay91 g2 (View.ld (Val := Elt Ideal) (S := S8x1024) (e' := .f32) P (Rect.unit (s := S8x1024) ![2, 0] ![1, 1024] inb_S8x1024_S1x1024_2_0))⟩,
      ⟨Rect.unit (s := S8x1024) ![1, 0] ![1, 1024] inb_S8x1024_S1x1024_1_0, k0_pay90 g1 (View.ld (Val := Elt Ideal) (S := S8x1024) (e' := .f32) P (Rect.unit (s := S8x1024) ![1, 0] ![1, 1024] inb_S8x1024_S1x1024_1_0))⟩,
      ⟨Rect.unit (s := S8x1024) ![0, 0] ![1, 1024] inb_S8x1024_S1x1024_0_0, k0_pay89 g0 (View.ld (Val := Elt Ideal) (S := S8x1024) (e' := .f32) P (Rect.unit (s := S8x1024) ![0, 0] ![1, 1024] inb_S8x1024_S1x1024_0_0))⟩]) (ix2 k d) : EReal)
      = P (ix2 k d) + rows8 (fun d => g0 (ix2 0 d)) (fun d => g1 (ix2 0 d)) (fun d => g2 (ix2 0 d)) k d := by
  match k with
  | 0 =>
    rw [View.read_writes_cons_unit_of_not_mem v u _ _ _ _ rfl 0 (Or.inl (by show 0 < 2; omega))]
    rw [View.read_writes_cons_unit_of_not_mem v u _ _ _ _ rfl 0 (Or.inl (by show 0 < 1; omega))]
    rw [stored2 v u _ _ _ _ (ix2 0 d) rfl (Nat.zero_add _).symm, pay89_at]
    exact congrArg (· + g0 (ix2 0 d))
      (ld_at (Val := Elt Ideal) (S := S8x1024) (e := .f32) P inb_S8x1024_S1x1024_0_0 (ix2 0 d) (ix2 0 d) (coord2 rfl (Nat.zero_add _).symm))
  | 1 =>
    rw [View.read_writes_cons_unit_of_not_mem v u _ _ _ _ rfl 0 (Or.inl (by show 1 < 2; omega))]
    rw [stored2 v u _ _ _ _ (ix2 0 d) rfl (Nat.zero_add _).symm, pay90_at]
    exact congrArg (· + g1 (ix2 0 d))
      (ld_at (Val := Elt Ideal) (S := S8x1024) (e := .f32) P inb_S8x1024_S1x1024_1_0 (ix2 0 d) (ix2 1 d) (coord2 rfl (Nat.zero_add _).symm))
  | 2 =>
    rw [stored2 v u _ _ _ _ (ix2 0 d) rfl (Nat.zero_add _).symm, pay91_at]
    exact congrArg (· + g2 (ix2 0 d))
      (ld_at (Val := Elt Ideal) (S := S8x1024) (e := .f32) P inb_S8x1024_S1x1024_2_0 (ix2 0 d) (ix2 2 d) (coord2 rfl (Nat.zero_add _).symm))
  | 3 =>
    rw [View.read_writes_cons_unit_of_not_mem v u _ _ _ _ rfl 0 (Or.inr (by show 2 + 1 ≤ 3; omega))]
    rw [View.read_writes_cons_unit_of_not_mem v u _ _ _ _ rfl 0 (Or.inr (by show 1 + 1 ≤ 3; omega))]
    rw [View.read_writes_cons_unit_of_not_mem v u _ _ _ _ rfl 0 (Or.inr (by show 0 + 1 ≤ 3; omega))]
    rw [View.writes_nil, hu]; exact (add_zero _).symm
  | 4 =>
    rw [View.read_writes_cons_unit_of_not_mem v u _ _ _ _ rfl 0 (Or.inr (by show 2 + 1 ≤ 4; omega))]
    rw [View.read_writes_cons_unit_of_not_mem v u _ _ _ _ rfl 0 (Or.inr (by show 1 + 1 ≤ 4; omega))]
    rw [View.read_writes_cons_unit_of_not_mem v u _ _ _ _ rfl 0 (Or.inr (by show 0 + 1 ≤ 4; omega))]
    rw [View.writes_nil, hu]; exact (add_zero _).symm
  | 5 =>
    rw [View.read_writes_cons_unit_of_not_mem v u _ _ _ _ rfl 0 (Or.inr (by show 2 + 1 ≤ 5; omega))]
    rw [View.read_writes_cons_unit_of_not_mem v u _ _ _ _ rfl 0 (Or.inr (by show 1 + 1 ≤ 5; omega))]
    rw [View.read_writes_cons_unit_of_not_mem v u _ _ _ _ rfl 0 (Or.inr (by show 0 + 1 ≤ 5; omega))]
    rw [View.writes_nil, hu]; exact (add_zero _).symm
  | 6 =>
    rw [View.read_writes_cons_unit_of_not_mem v u _ _ _ _ rfl 0 (Or.inr (by show 2 + 1 ≤ 6; omega))]
    rw [View.read_writes_cons_unit_of_not_mem v u _ _ _ _ rfl 0 (Or.inr (by show 1 + 1 ≤ 6; omega))]
    rw [View.read_writes_cons_unit_of_not_mem v u _ _ _ _ rfl 0 (Or.inr (by show 0 + 1 ≤ 6; omega))]
    rw [View.writes_nil, hu]; exact (add_zero _).symm
  | 7 =>
    rw [View.read_writes_cons_unit_of_not_mem v u _ _ _ _ rfl 0 (Or.inr (by show 2 + 1 ≤ 7; omega))]
    rw [View.read_writes_cons_unit_of_not_mem v u _ _ _ _ rfl 0 (Or.inr (by show 1 + 1 ≤ 7; omega))]
    rw [View.read_writes_cons_unit_of_not_mem v u _ _ _ _ rfl 0 (Or.inr (by show 0 + 1 ≤ 7; omega))]
    rw [View.writes_nil, hu]; exact (add_zero _).symm

end Cert.Tail
-- ==== Proof.Accumulate.lean ====
/- What the body leaves at one grid point in the three accumulated blocks: the tile's part over zero at a first point,
   over the previous contents elsewhere. -/
module

public import proofs.«01_k».proof.Proof.Grid
public import proofs.«01_k».proof.Proof.Names
public import proofs.«01_k».proof.Proof.Rows
public import proofs.«01_k».proof.Proof.Stored

@[expose] public section

set_option maxRecDepth 16384

noncomputable section

namespace Cert.Tail

open Idealize.ShloMosaic Cert.KernelIdeal Cert.KernelIdeal.Gen Idealize.ShloMosaic.TcCoe
open scoped BigOperators

variable (m : (ℓ : Loc nD τ sig) → Buf (Elt Ideal) ℓ) (c : Dev nD) (t : Fin cfg0.N)

/-- The token of row `r` of point `t`. -/
abbrev tokAt (r : Fin 256) : Inp := (args m c).tok (smp t) (pos t r)

/-- A tile's part of the gradients by the modulation rows. -/
def dmodPart (k : Fin 6) (d : Fin 1024) : EReal :=
  rows6 (fun d => ∑ r, (tokAt m c t r).gGt1 d) (fun d => ∑ r, (tokAt m c t r).dh2 d)
    (fun d => ∑ r, (tokAt m c t r).gSc2 d) (fun d => ∑ r, (tokAt m c t r).gGt2 d) k d
/-- A tile's part of the gradients by the three norm gains. -/
def dgPart (k : Fin 8) (d : Fin 1024) : EReal :=
  rows8 (fun d => ∑ r, (tokAt m c t r).gGpm d) (fun d => ∑ r, (tokAt m c t r).gGpl d)
    (fun d => ∑ r, (tokAt m c t r).gGpo d) k d
/-- A tile's part of the loss. -/
def lossPart : EReal := cHalf * ∑ r, (tokAt m c t r).mse

theorem dmodPart_eq (k : Fin 6) (d : Fin 1024) :
    rows6 (fun d => (blkAt m c t).v284 (ix2 0 d)) (fun d => (blkAt m c t).v253 (ix2 0 d))
      (fun d => (blkAt m c t).v256 (ix2 0 d)) (fun d => (blkAt m c t).v170 (ix2 0 d)) k d = dmodPart m c t k d := by
  have h := isRow m c t
  rw [show (fun d => (blkAt m c t).v284 (ix2 0 d)) = _ from funext fun d => Blk.v284_sum h d,
    show (fun d => (blkAt m c t).v253 (ix2 0 d)) = _ from funext fun d => Blk.v253_sum h d,
    show (fun d => (blkAt m c t).v256 (ix2 0 d)) = _ from funext fun d => Blk.v256_sum h d,
    show (fun d => (blkAt m c t).v170 (ix2 0 d)) = _ from funext fun d => Blk.v170_sum h d]
  rfl
theorem dgPart_eq (k : Fin 8) (d : Fin 1024) :
    rows8 (fun d => (blkAt m c t).v287 (ix2 0 d)) (fun d => (blkAt m c t).v261 (ix2 0 d))
      (fun d => (blkAt m c t).v173 (ix2 0 d)) k d = dgPart m c t k d := by
  have h := isRow m c t
  rw [show (fun d => (blkAt m c t).v287 (ix2 0 d)) = _ from funext fun d => Blk.v287_sum h d,
    show (fun d => (blkAt m c t).v261 (ix2 0 d)) = _ from funext fun d => Blk.v261_sum h d,
    show (fun d => (blkAt m c t).v173 (ix2 0 d)) = _ from funext fun d => Blk.v173_sum h d]
  rfl
theorem lossPart_eq : (blkAt m c t).v147 (ix2 0 0) = lossPart m c t := Blk.v147_sum (isRow m c t)

theorem out17_A (h0 : t.val % 8 = 0) (h1 : t.val % 16 = 0) (k : Fin 6) (d : Fin 1024) :
    ((outsAt0 m c t.val t.isLt).2.2.2.2.2.2.2.1 (ix3 0 k d) : EReal) = dmodPart m c t k d := by
  rw [outsAt0_A m c t h0 h1]; frame_out
  simp only [name_x, name_mi, name_tg, name_gt1, name_sh2, name_sc2, name_gt2, name_gpm, name_gpl, name_gpo, name_wo,
    name_w1a, name_w1b, name_w1c, name_w1d, name_w2a, name_w2b, name_w2c, name_w2d, name_v1, name_v3, name_v5,
    name_v7, name_v12, name_v14, name_v24, name_v27, name_v28, name_v29, name_v31, name_v34, name_v42,
    name_v45,     name_v47, name_v49, name_v51, name_v56, name_v65, name_v67, name_v79, name_v81, name_v93,
    name_v95, name_v102,     name_v107, name_v109, name_v116, name_v127, name_v130, name_v132, name_v134,
    name_v138, name_v140, name_v147,     name_v165, name_v170, name_v173, name_v180, name_v186, name_v187,
    name_v191, name_v202, name_v209, name_v216,     name_v230, name_v244, name_v251, name_v253, name_v256,
    name_v261, name_v279, name_v284, name_v287, name_v302,     name_v303, name_v308]
  exact (fill6 _ _ _ _ _ _ _ _ (load6_2 _) (load6_3 _ _) (load6_4 _ _ _) (load6_5 _ _ _ _) k d).trans (dmodPart_eq m c t k d)
theorem out17_B (h0 : ¬t.val % 8 = 0) (h1 : ¬t.val % 16 = 0) (k : Fin 6) (d : Fin 1024) :
    ((outsAt0 m c t.val t.isLt).2.2.2.2.2.2.2.1 (ix3 0 k d) : EReal) = (outsAt0 m c (t.val - 1) (Nat.lt_of_le_of_lt (Nat.sub_le _ _) t.isLt)).2.2.2.2.2.2.2.1 (ix3 0 k d) + dmodPart m c t k d := by
  rw [outsAt0_B m c t h0 h1]; frame_out
  simp only [name_x, name_mi, name_tg, name_gt1, name_sh2, name_sc2, name_gt2, name_gpm, name_gpl, name_gpo, name_wo,
    name_w1a, name_w1b, name_w1c, name_w1d, name_w2a, name_w2b, name_w2c, name_w2d, name_v1, name_v3, name_v5,
    name_v7, name_v12, name_v14, name_v24, name_v27, name_v28, name_v29, name_v31, name_v34, name_v42,
    name_v45,     name_v47, name_v49, name_v51, name_v56, name_v65, name_v67, name_v79, name_v81, name_v93,
    name_v95, name_v102,     name_v107, name_v109, name_v116, name_v127, name_v130, name_v132, name_v134,
    name_v138, name_v140, name_v147,     name_v165, name_v170, name_v173, name_v180, name_v186, name_v187,
    name_v191, name_v202, name_v209, name_v216,     name_v230, name_v244, name_v251, name_v253, name_v256,
    name_v261, name_v279, name_v284, name_v287, name_v302,     name_v303, name_v308]
  exact (step6 _ _ _ (Memref.IsWhole.read_unread _ _) _ _ _ _ k d).trans (congrArg _ (dmodPart_eq m c t k d))
theorem out17_C (h0 : t.val % 8 = 0) (h1 : ¬t.val % 16 = 0) (k : Fin 6) (d : Fin 1024) :
    ((outsAt0 m c t.val t.isLt).2.2.2.2.2.2.2.1 (ix3 0 k d) : EReal) = dmodPart m c t k d := by
  rw [outsAt0_C m c t h0 h1]; frame_out
  simp only [name_x, name_mi, name_tg, name_gt1, name_sh2, name_sc2, name_gt2, name_gpm, name_gpl, name_gpo, name_wo,
    name_w1a, name_w1b, name_w1c, name_w1d, name_w2a, name_w2b, name_w2c, name_w2d, name_v1, name_v3, name_v5,
    name_v7, name_v12, name_v14, name_v24, name_v27, name_v28, name_v29, name_v31, name_v34, name_v42,
    name_v45,     name_v47, name_v49, name_v51, name_v56, name_v65, name_v67, name_v79, name_v81, name_v93,
    name_v95, name_v102,     name_v107, name_v109, name_v116, name_v127, name_v130, name_v132, name_v134,
    name_v138, name_v140, name_v147,     name_v165, name_v170, name_v173, name_v180, name_v186, name_v187,
    name_v191, name_v202, name_v209, name_v216,     name_v230, name_v244, name_v251, name_v253, name_v256,
    name_v261, name_v279, name_v284, name_v287, name_v302,     name_v303, name_v308]
  exact (fill6 _ _ _ _ _ _ _ _ (load6_2 _) (load6_3 _ _) (load6_4 _ _ _) (load6_5 _ _ _ _) k d).trans (dmodPart_eq m c t k d)
theorem out18_A (h0 : t.val % 8 = 0) (h1 : t.val % 16 = 0) (k : Fin 8) (d : Fin 1024) :
    ((outsAt0 m c t.val t.isLt).2.2.2.2.2.2.2.2.1 (ix2 k d) : EReal) = dgPart m c t k d := by
  rw [outsAt0_A m c t h0 h1]; frame_out
  simp only [name_x, name_mi, name_tg, name_gt1, name_sh2, name_sc2, name_gt2, name_gpm, name_gpl, name_gpo, name_wo,
    name_w1a, name_w1b, name_w1c, name_w1d, name_w2a, name_w2b, name_w2c, name_w2d, name_v1, name_v3, name_v5,
    name_v7, name_v12, name_v14, name_v24, name_v27, name_v28, name_v29, name_v31, name_v34, name_v42,
    name_v45,     name_v47, name_v49, name_v51, name_v56, name_v65, name_v67, name_v79, name_v81, name_v93,
    name_v95, name_v102,     name_v107, name_v109, name_v116, name_v127, name_v130, name_v132, name_v134,
    name_v138, name_v140, name_v147,     name_v165, name_v170, name_v173, name_v180, name_v186, name_v187,
    name_v191, name_v202, name_v209, name_v216,     name_v230, name_v244, name_v251, name_v253, name_v256,
    name_v261, name_v279, name_v284, name_v287, name_v302,     name_v303, name_v308]
  exact (fill8 _ _ _ _ _ _ (load8_0 _) (load8_1 _ _) (load8_2 _ _ _) k d).trans (dgPart_eq m c t k d)
theorem out18_B (h0 : ¬t.val % 8 = 0) (h1 : ¬t.val % 16 = 0) (k : Fin 8) (d : Fin 1024) :
    ((outsAt0 m c t.val t.isLt).2.2.2.2.2.2.2.2.1 (ix2 k d) : EReal) = (outsAt0 m c (t.val - 1) (Nat.lt_of_le_of_lt (Nat.sub_le _ _) t.isLt)).2.2.2.2.2.2.2.2.1 (ix2 k d) + dgPart m c t k d := by
  rw [outsAt0_B m c t h0 h1]; frame_out
  simp only [name_x, name_mi, name_tg, name_gt1, name_sh2, name_sc2, name_gt2, name_gpm, name_gpl, name_gpo, name_wo,
    name_w1a, name_w1b, name_w1c, name_w1d, name_w2a, name_w2b, name_w2c, name_w2d, name_v1, name_v3, name_v5,
    name_v7, name_v12, name_v14, name_v24, name_v27, name_v28, name_v29, name_v31, name_v34, name_v42,
    name_v45,     name_v47, name_v49, name_v51, name_v56, name_v65, name_v67, name_v79, name_v81, name_v93,
    name_v95, name_v102,     name_v107, name_v109, name_v116, name_v127, name_v130, name_v132, name_v134,
    name_v138, name_v140, name_v147,     name_v165, name_v170, name_v173, name_v180, name_v186, name_v187,
    name_v191, name_v202, name_v209, name_v216,     name_v230, name_v244, name_v251, name_v253, name_v256,
    name_v261, name_v279, name_v284, name_v287, name_v302,     name_v303, name_v308]
  exact (step8 _ _ _ (Memref.IsWhole.read_unread _ _) _ _ _ k d).trans (congrArg _ (dgPart_eq m c t k d))
theorem out18_C (h0 : t.val % 8 = 0) (h1 : ¬t.val % 16 = 0) (k : Fin 8) (d : Fin 1024) :
    ((outsAt0 m c t.val t.isLt).2.2.2.2.2.2.2.2.1 (ix2 k d) : EReal) = (outsAt0 m c (t.val - 1) (Nat.lt_of_le_of_lt (Nat.sub_le _ _) t.isLt)).2.2.2.2.2.2.2.2.1 (ix2 k d) + dgPart m c t k d := by
  rw [outsAt0_C m c t h0 h1]; frame_out
  simp only [name_x, name_mi, name_tg, name_gt1, name_sh2, name_sc2, name_gt2, name_gpm, name_gpl, name_gpo, name_wo,
    name_w1a, name_w1b, name_w1c, name_w1d, name_w2a, name_w2b, name_w2c, name_w2d, name_v1, name_v3, name_v5,
    name_v7, name_v12, name_v14, name_v24, name_v27, name_v28, name_v29, name_v31, name_v34, name_v42,
    name_v45,     name_v47, name_v49, name_v51, name_v56, name_v65, name_v67, name_v79, name_v81, name_v93,
    name_v95, name_v102,     name_v107, name_v109, name_v116, name_v127, name_v130, name_v132, name_v134,
    name_v138, name_v140, name_v147,     name_v165, name_v170, name_v173, name_v180, name_v186, name_v187,
    name_v191, name_v202, name_v209, name_v216,     name_v230, name_v244, name_v251, name_v253, name_v256,
    name_v261, name_v279, name_v284, name_v287, name_v302,     name_v303, name_v308]
  exact (step8 _ _ _ (Memref.IsWhole.read_unread _ _) _ _ _ k d).trans (congrArg _ (dgPart_eq m c t k d))
theorem out19_A (h0 : t.val % 8 = 0) (h1 : t.val % 16 = 0) (k : Fin 8) (d : Fin 128) :
    ((outsAt0 m c t.val t.isLt).2.2.2.2.2.2.2.2.2 (ix2 k d) : EReal) = lossPart m c t  := by
  rw [outsAt0_A m c t h0 h1]; frame_out
  simp only [name_x, name_mi, name_tg, name_gt1, name_sh2, name_sc2, name_gt2, name_gpm, name_gpl, name_gpo, name_wo,
    name_w1a, name_w1b, name_w1c, name_w1d, name_w2a, name_w2b, name_w2c, name_w2d, name_v1, name_v3, name_v5,
    name_v7, name_v12, name_v14, name_v24, name_v27, name_v28, name_v29, name_v31, name_v34, name_v42,
    name_v45,     name_v47, name_v49, name_v51, name_v56, name_v65, name_v67, name_v79, name_v81, name_v93,
    name_v95, name_v102,     name_v107, name_v109, name_v116, name_v127, name_v130, name_v132, name_v134,
    name_v138, name_v140, name_v147,     name_v165, name_v170, name_v173, name_v180, name_v186, name_v187,
    name_v191, name_v202, name_v209, name_v216,     name_v230, name_v244, name_v251, name_v253, name_v256,
    name_v261, name_v279, name_v284, name_v287, name_v302,     name_v303, name_v308]
  rw [pay1_at, pay84_at, zero_add]; exact lossPart_eq m c t
theorem out19_B (h0 : ¬t.val % 8 = 0) (h1 : ¬t.val % 16 = 0) (k : Fin 8) (d : Fin 128) :
    ((outsAt0 m c t.val t.isLt).2.2.2.2.2.2.2.2.2 (ix2 k d) : EReal) = (outsAt0 m c (t.val - 1) (Nat.lt_of_le_of_lt (Nat.sub_le _ _) t.isLt)).2.2.2.2.2.2.2.2.2 (ix2 k d) + lossPart m c t  := by
  rw [outsAt0_B m c t h0 h1]; frame_out
  simp only [name_x, name_mi, name_tg, name_gt1, name_sh2, name_sc2, name_gt2, name_gpm, name_gpl, name_gpo, name_wo,
    name_w1a, name_w1b, name_w1c, name_w1d, name_w2a, name_w2b, name_w2c, name_w2d, name_v1, name_v3, name_v5,
    name_v7, name_v12, name_v14, name_v24, name_v27, name_v28, name_v29, name_v31, name_v34, name_v42,
    name_v45,     name_v47, name_v49, name_v51, name_v56, name_v65, name_v67, name_v79, name_v81, name_v93,
    name_v95, name_v102,     name_v107, name_v109, name_v116, name_v127, name_v130, name_v132, name_v134,
    name_v138, name_v140, name_v147,     name_v165, name_v170, name_v173, name_v180, name_v186, name_v187,
    name_v191, name_v202, name_v209, name_v216,     name_v230, name_v244, name_v251, name_v253, name_v256,
    name_v261, name_v279, name_v284, name_v287, name_v302,     name_v303, name_v308]
  rw [pay1_at]; exact congrArg _ (lossPart_eq m c t)
theorem out19_C (h0 : t.val % 8 = 0) (h1 : ¬t.val % 16 = 0) (k : Fin 8) (d : Fin 128) :
    ((outsAt0 m c t.val t.isLt).2.2.2.2.2.2.2.2.2 (ix2 k d) : EReal) = (outsAt0 m c (t.val - 1) (Nat.lt_of_le_of_lt (Nat.sub_le _ _) t.isLt)).2.2.2.2.2.2.2.2.2 (ix2 k d) + lossPart m c t  := by
  rw [outsAt0_C m c t h0 h1]; frame_out
  simp only [name_x, name_mi, name_tg, name_gt1, name_sh2, name_sc2, name_gt2, name_gpm, name_gpl, name_gpo, name_wo,
    name_w1a, name_w1b, name_w1c, name_w1d, name_w2a, name_w2b, name_w2c, name_w2d, name_v1, name_v3, name_v5,
    name_v7, name_v12, name_v14, name_v24, name_v27, name_v28, name_v29, name_v31, name_v34, name_v42,
    name_v45,     name_v47, name_v49, name_v51, name_v56, name_v65, name_v67, name_v79, name_v81, name_v93,
    name_v95, name_v102,     name_v107, name_v109, name_v116, name_v127, name_v130, name_v132, name_v134,
    name_v138, name_v140, name_v147,     name_v165, name_v170, name_v173, name_v180, name_v186, name_v187,
    name_v191, name_v202, name_v209, name_v216,     name_v230, name_v244, name_v251, name_v253, name_v256,
    name_v261, name_v279, name_v284, name_v287, name_v302,     name_v303, name_v308]
  rw [pay1_at]; exact congrArg _ (lossPart_eq m c t)

end Cert.Tail
-- ==== Proof.RefBackward.lean ====
/- The reference's intermediate arrays, backward: each entry as the mathematics of one token. -/
module

public import proofs.«01_k».proof.Proof.RefForward

@[expose] public section

set_option maxRecDepth 16384

noncomputable section

namespace Cert.Tail.Ref

open Idealize.ShloMosaic Cert.ReferenceIdeal Cert.ReferenceIdeal.Gen Cert.ReferenceIdeal.Read
open scoped BigOperators

variable (A : Args) (b : Fin 2) (n : Fin 2048)

/-- Twice a number is the number and itself. -/
theorem two_times (x : EReal) : cTwo * x = x + x := by
  have h : cTwo = 1 + 1 := by
    rw [show (1 : EReal) + 1 = ((2 : ℝ) : EReal) by norm_cast]
    simp [cTwo, Ideal.ofBits, Ideal.ieee, -EReal.coe_mul]; norm_num
  rw [h, EReal.right_distrib_of_nonneg zero_le_one zero_le_one, one_mul]

theorem v99_at (d : Fin 1024) : val_main_v99 (F := Ideal) A.x0 A.x1 A.x2 A.x3 A.x4 A.x5 A.x6 A.x7 A.x8 A.x9 (ix3 b n d) = (A.tok b n).dy d := by
  pointwise [val_main_v99, val_main_v98, val_main_v97, val_main_v96, val_main_cst_22, val_main_v95, val_main_v94, val_main_cst_20, val_main_cst_21, val_main_v88, val_main_v87, val_main_cst_15]
  simp only [v85_at]
  change Inp.cErr * (cTwo * _) = _
  rw [mul_left_comm, two_times, Inp.dy, mul_comm _ Inp.cErr]

theorem v101_at (d : Fin 1024) : val_main_v101 (F := Ideal) A.x0 A.x1 A.x2 A.x3 A.x4 A.x5 A.x6 A.x7 A.x8 A.x9 (ix3 b n d) = (A.tok b n).dmG d := by
  pointwise [val_main_v101]; simp only [v99_at, v100_at, Inp.dmG]

theorem v109_at (d : Fin 1024) : val_main_v109 (F := Ideal) A.x0 A.x1 A.x2 A.x3 A.x4 A.x5 A.x6 A.x7 A.x8 A.x9 (ix3 b n d) = (A.tok b n).dmG d * (A.tok b n).gpo d := by
  pointwise [val_main_v109]; simp only [v101_at, v108_at]

theorem v120_at (d : Fin 1024) : val_main_v120 (F := Ideal) A.x0 A.x1 A.x2 A.x3 A.x4 A.x5 A.x6 A.x7 A.x8 A.x9 (ix3 b n d) = corr (A.tok b n).m (fun d => (A.tok b n).dmG d * (A.tok b n).gpo d) := by
  pointwise [val_main_v120, val_main_v119, val_main_cst_28, val_main_v118, val_main_v117, val_main_cst_27, val_main_v116, val_main_v113, val_main_v112, val_main_cst_26, val_main_v111]
  simp only [v65_at, v109_at, v76_at, sum_one, corr]; rfl

theorem v124_at (d : Fin 1024) : val_main_v124 (F := Ideal) A.x0 A.x1 A.x2 A.x3 A.x4 A.x5 A.x6 A.x7 A.x8 A.x9 (ix3 b n d) = (A.tok b n).dm d := by
  pointwise [val_main_v124, val_main_v122, val_main_v123, val_main_v121, val_main_v115, val_main_v114]
  simp only [v65_at, v109_at, v73_at, v120_at, nrmBwd, Inp.dm, Inp.dmix]

theorem v128_at (f : Fin 4096) : val_main_v128 (F := Ideal) A.x0 A.x1 A.x2 A.x3 A.x4 A.x5 A.x6 A.x7 A.x8 A.x9 (ix3 b n f) = (A.tok b n).du f := by
  pointwise [val_main_v128, val_main_v127, val_main_cst_29, val_main_v126, val_main_v125, val_main_v64, val_main_v63, val_main_cst_10, val_main_v60, val_main_v59, val_main_cst_8]
  simp only [v124_at, v57_at, v58_at]
  by_cases hu : 0 < (A.tok b n).u f
  · rw [if_pos hu]; rfl
  · rw [if_neg hu, Inp.du, Inp.relu, max_eq_right (not_lt.mp hu), mul_zero, mul_zero]

theorem v129_at (d : Fin 1024) : val_main_v129 (F := Ideal) A.x0 A.x1 A.x2 A.x3 A.x4 A.x5 A.x6 A.x7 A.x8 A.x9 (ix3 b n d) = (A.tok b n).dh2 d := by
  pointwise [val_main_v129]; simp only [v128_at, Inp.dh2]; rfl

theorem v136_at (d : Fin 1024) : val_main_v136 (F := Ideal) A.x0 A.x1 A.x2 A.x3 A.x4 A.x5 A.x6 A.x7 A.x8 A.x9 (ix3 b n d) = (A.tok b n).dx1G d := by
  pointwise [val_main_v136]; simp only [v129_at, v135_at, Inp.dx1G]

theorem v141_at (d : Fin 1024) : val_main_v141 (F := Ideal) A.x0 A.x1 A.x2 A.x3 A.x4 A.x5 A.x6 A.x7 A.x8 A.x9 (ix3 b n d) = (A.tok b n).dx1G d * (A.tok b n).gpl d := by
  pointwise [val_main_v141]; simp only [v136_at, v140_at]

theorem v152_at (d : Fin 1024) : val_main_v152 (F := Ideal) A.x0 A.x1 A.x2 A.x3 A.x4 A.x5 A.x6 A.x7 A.x8 A.x9 (ix3 b n d) = corr (A.tok b n).x1 (fun d => (A.tok b n).dx1G d * (A.tok b n).gpl d) := by
  pointwise [val_main_v152, val_main_v151, val_main_cst_36, val_main_v150, val_main_v149, val_main_cst_35, val_main_v148, val_main_v145, val_main_v144, val_main_cst_34, val_main_v143]
  simp only [v34_at, v141_at, v45_at, sum_one, corr]; rfl

theorem v156_at (d : Fin 1024) : val_main_v156 (F := Ideal) A.x0 A.x1 A.x2 A.x3 A.x4 A.x5 A.x6 A.x7 A.x8 A.x9 (ix3 b n d) = nrmBwd (A.tok b n).x1 (fun d => (A.tok b n).dx1G d * (A.tok b n).gpl d) d := by
  pointwise [val_main_v156, val_main_v154, val_main_v155, val_main_v153, val_main_v147, val_main_v146]
  simp only [v34_at, v141_at, v42_at, v152_at, nrmBwd, Inp.dm, Inp.dmix]

theorem v157_at (d : Fin 1024) : val_main_v157 (F := Ideal) A.x0 A.x1 A.x2 A.x3 A.x4 A.x5 A.x6 A.x7 A.x8 A.x9 (ix3 b n d) = (A.tok b n).dx d := by
  pointwise [val_main_v157]; simp only [v99_at, v156_at, Inp.dx]

theorem v159_at (d : Fin 1024) : val_main_v159 (F := Ideal) A.x0 A.x1 A.x2 A.x3 A.x4 A.x5 A.x6 A.x7 A.x8 A.x9 (ix3 b n d) = (A.tok b n).dmixG d := by
  pointwise [val_main_v159]; simp only [v157_at, v158_at, Inp.dmixG]

theorem v167_at (d : Fin 1024) : val_main_v167 (F := Ideal) A.x0 A.x1 A.x2 A.x3 A.x4 A.x5 A.x6 A.x7 A.x8 A.x9 (ix3 b n d) = (A.tok b n).dmixG d * (A.tok b n).gpm d := by
  pointwise [val_main_v167]; simp only [v159_at, v166_at]

theorem v178_at (d : Fin 1024) : val_main_v178 (F := Ideal) A.x0 A.x1 A.x2 A.x3 A.x4 A.x5 A.x6 A.x7 A.x8 A.x9 (ix3 b n d) = corr (A.tok b n).mix (fun d => (A.tok b n).dmixG d * (A.tok b n).gpm d) := by
  pointwise [val_main_v178, val_main_v177, val_main_cst_42, val_main_v176, val_main_v175, val_main_cst_41, val_main_v174, val_main_v171, val_main_v170, val_main_cst_40, val_main_v169]
  simp only [v15_at, v167_at, v26_at, sum_one, corr]; rfl

theorem v182_at (d : Fin 1024) : val_main_v182 (F := Ideal) A.x0 A.x1 A.x2 A.x3 A.x4 A.x5 A.x6 A.x7 A.x8 A.x9 (ix3 b n d) = (A.tok b n).dmix d := by
  pointwise [val_main_v182, val_main_v180, val_main_v181, val_main_v179, val_main_v173, val_main_v172]
  simp only [v15_at, v167_at, v23_at, v178_at, nrmBwd, Inp.dm, Inp.dmix]

theorem v183_at (d : Fin 1024) : val_main_v183 (F := Ideal) A.x0 A.x1 A.x2 A.x3 A.x4 A.x5 A.x6 A.x7 A.x8 A.x9 (ix3 b n d) = (A.tok b n).dmi d := by
  pointwise [val_main_v183]; simp only [v182_at, Inp.dmi]; rfl

end Cert.Tail.Ref

end
-- ==== Proof.RefResults.lean ====
/- The reference's summed results: the gradients of the modulation and of the gains, and the loss. -/
module

public import proofs.«01_k».proof.Proof.RefBackward

@[expose] public section

set_option maxRecDepth 16384

noncomputable section

namespace Cert.Tail.Ref

open Idealize.ShloMosaic Cert.ReferenceIdeal Cert.ReferenceIdeal.Gen Cert.ReferenceIdeal.Read
open scoped BigOperators

/-- The host's sum over the first two of three axes, read at an index of the third. -/
theorem reduce_two {a b n : Nat} (h : (⟨3, ![a, b, n]⟩ : Shape).ReducesTo [0, 1] ⟨1, ![n]⟩)
    (v : (⟨3, ![a, b, n]⟩ : Shape).Idx → EReal) (init : EReal) (e : Fin n) :
    Ideal.hostReduceAdd h v init (ix1 e) = init + ∑ k, ∑ l, v (ix3 k l e) := by
  refine congrArg (init + ·) ?_
  refine (Finset.sum_filter_eq_sum_of_fiber _ (fun p : Fin a × Fin b => (ix3 p.1 p.2 e : (⟨3, ![a, b, n]⟩ : Shape).Idx))
    (fun _ _ e => Prod.ext (congrFun e 0) (congrFun e 1)) (fun i => ?_) v).trans ?_
  · constructor
    · intro q
      refine ⟨(i 0, i 1), funext fun x => Fin.ext ?_⟩
      match x with
      | ⟨0, _⟩ => rfl
      | ⟨1, _⟩ => rfl
      | ⟨2, _⟩ => exact (congrArg Fin.val (congrFun q 0)).symm
    · rintro ⟨p, rfl⟩
      refine funext fun x => Fin.ext ?_
      match x with
      | ⟨0, _⟩ => rfl
  · simp only [Fintype.sum_prod_type]

variable (A : Args)

theorem v104_at (b : Fin 2) (d : Fin 1024) : val_main_v104 (F := Ideal) A.x0 A.x1 A.x2 A.x3 A.x4 A.x5 A.x6 A.x7 A.x8 A.x9 (ix3 b 0 d) = ∑ n, (A.tok b n).gGt2 d := by
  pointwise [val_main_v104, val_main_v103, val_main_cst_23, val_main_v102]
  simp only [v99_at, v81_at, Inp.gGt2]
theorem v131_at (b : Fin 2) (d : Fin 1024) : val_main_v131 (F := Ideal) A.x0 A.x1 A.x2 A.x3 A.x4 A.x5 A.x6 A.x7 A.x8 A.x9 (ix3 b 0 d) = ∑ n, (A.tok b n).dh2 d := by
  pointwise [val_main_v131, val_main_v130, val_main_cst_30]
  simp only [v129_at]
theorem v134_at (b : Fin 2) (d : Fin 1024) : val_main_v134 (F := Ideal) A.x0 A.x1 A.x2 A.x3 A.x4 A.x5 A.x6 A.x7 A.x8 A.x9 (ix3 b 0 d) = ∑ n, (A.tok b n).gSc2 d := by
  pointwise [val_main_v134, val_main_v133, val_main_cst_31, val_main_v132]
  simp only [v50_at, v129_at, Inp.gSc2]
theorem v162_at (b : Fin 2) (d : Fin 1024) : val_main_v162 (F := Ideal) A.x0 A.x1 A.x2 A.x3 A.x4 A.x5 A.x6 A.x7 A.x8 A.x9 (ix3 b 0 d) = ∑ n, (A.tok b n).gGt1 d := by
  pointwise [val_main_v162, val_main_v161, val_main_cst_37, val_main_v160]
  simp only [v157_at, v31_at, Inp.gGt1]

theorem v106_at (d : Fin 1024) : val_main_v106 (F := Ideal) A.x0 A.x1 A.x2 A.x3 A.x4 A.x5 A.x6 A.x7 A.x8 A.x9 (ix1 d) = ∑ b, ∑ n, (A.tok b n).gGpo d := by
  refine (reduce_two _ _ _ _).trans ?_
  pointwise [val_main_v105, val_main_cst_24]
  simp only [v78_at, v101_at, Inp.gGpo]
theorem v110_at (d : Fin 1024) : val_main_v110 (F := Ideal) A.x0 A.x1 A.x2 A.x3 A.x4 A.x5 A.x6 A.x7 A.x8 A.x9 (ix1 d) = ∑ b, ∑ n, (A.tok b n).gGpo d := by
  refine (reduce_two _ _ _ _).trans ?_
  pointwise [val_main_v107, val_main_cst_25]
  simp only [sum_one]
  exact v106_at A d
theorem v138_at (d : Fin 1024) : val_main_v138 (F := Ideal) A.x0 A.x1 A.x2 A.x3 A.x4 A.x5 A.x6 A.x7 A.x8 A.x9 (ix1 d) = ∑ b, ∑ n, (A.tok b n).gGpl d := by
  refine (reduce_two _ _ _ _).trans ?_
  pointwise [val_main_v137, val_main_cst_32]
  simp only [v47_at, v136_at, Inp.gGpl]
theorem v142_at (d : Fin 1024) : val_main_v142 (F := Ideal) A.x0 A.x1 A.x2 A.x3 A.x4 A.x5 A.x6 A.x7 A.x8 A.x9 (ix1 d) = ∑ b, ∑ n, (A.tok b n).gGpl d := by
  refine (reduce_two _ _ _ _).trans ?_
  pointwise [val_main_v139, val_main_cst_33]
  simp only [sum_one]
  exact v138_at A d
theorem v164_at (d : Fin 1024) : val_main_v164 (F := Ideal) A.x0 A.x1 A.x2 A.x3 A.x4 A.x5 A.x6 A.x7 A.x8 A.x9 (ix1 d) = ∑ b, ∑ n, (A.tok b n).gGpm d := by
  refine (reduce_two _ _ _ _).trans ?_
  pointwise [val_main_v163, val_main_cst_38]
  simp only [v28_at, v159_at, Inp.gGpm]
theorem v168_at (d : Fin 1024) : val_main_v168 (F := Ideal) A.x0 A.x1 A.x2 A.x3 A.x4 A.x5 A.x6 A.x7 A.x8 A.x9 (ix1 d) = ∑ b, ∑ n, (A.tok b n).gGpm d := by
  refine (reduce_two _ _ _ _).trans ?_
  pointwise [val_main_v165, val_main_cst_39]
  simp only [sum_one]
  exact v164_at A d

/-- The gradient of the modulation at an index. -/
def dmod (b : Fin 2) (k : Fin 6) (d : Fin 1024) : EReal := match k with
  | 0 => 0
  | 1 => 0
  | 2 => ∑ n, (A.tok b n).gGt1 d
  | 3 => ∑ n, (A.tok b n).dh2 d
  | 4 => ∑ n, (A.tok b n).gSc2 d
  | 5 => ∑ n, (A.tok b n).gGt2 d

/-- The gradient of the gains at an index. -/
def dg (k : Fin 8) (d : Fin 1024) : EReal := match k with
  | 0 => ∑ b, ∑ n, (A.tok b n).gGpm d
  | 1 => ∑ b, ∑ n, (A.tok b n).gGpl d
  | 2 => ∑ b, ∑ n, (A.tok b n).gGpo d
  | _ => 0

theorem v185_at (b : Fin 2) (k : Fin 6) (d : Fin 1024) : val_main_v185 (F := Ideal) A.x0 A.x1 A.x2 A.x3 A.x4 A.x5 A.x6 A.x7 A.x8 A.x9 (ix3 b k d) = dmod A b k d := by
  match k with
  | 0 => pointwise [val_main_v185, val_main_v184, val_main_cst_43]; rfl
  | 1 => pointwise [val_main_v185, val_main_v184, val_main_cst_43]; rfl
  | 2 => pointwise [val_main_v185]; exact v162_at A b d
  | 3 => pointwise [val_main_v185]; exact v131_at A b d
  | 4 => pointwise [val_main_v185]; exact v134_at A b d
  | 5 => pointwise [val_main_v185]; exact v104_at A b d

theorem v191_at (k : Fin 8) (d : Fin 1024) : val_main_v191 (F := Ideal) A.x0 A.x1 A.x2 A.x3 A.x4 A.x5 A.x6 A.x7 A.x8 A.x9 (ix2 k d) = dg A k d := by
  match k with
  | 0 => pointwise [val_main_v191, val_main_v189, val_main_v186]; exact v168_at A d
  | 1 => pointwise [val_main_v191, val_main_v189, val_main_v187]; exact v142_at A d
  | 2 => pointwise [val_main_v191, val_main_v189, val_main_v188]; exact v110_at A d
  | 3 => pointwise [val_main_v191, val_main_v190, val_main_cst_44]; rfl
  | 4 => pointwise [val_main_v191, val_main_v190, val_main_cst_44]; rfl
  | 5 => pointwise [val_main_v191, val_main_v190, val_main_cst_44]; rfl
  | 6 => pointwise [val_main_v191, val_main_v190, val_main_cst_44]; rfl
  | 7 => pointwise [val_main_v191, val_main_v190, val_main_cst_44]; rfl

theorem v198_at (r : Fin 8) (s : Fin 128) : val_main_v198 (F := Ideal) A.x0 A.x1 A.x2 A.x3 A.x4 A.x5 A.x6 A.x7 A.x8 A.x9 (ix2 r s) = cHalf * ∑ b, ∑ n, (A.tok b n).mse := by
  pointwise [val_main_v198, val_main_v93, val_main_v92, val_main_cst_18, val_main_cst_19]
  simp only [v91_at]
  rfl

end Cert.Tail.Ref

end
-- ==== Proof.Totals.lean ====
/- What the three accumulated blocks hold when they are written back: sums over all tokens. -/
module

public import proofs.«01_k».proof.Proof.Accumulate
public import proofs.«01_k».proof.Proof.RefResults

@[expose] public section

set_option maxRecDepth 16384

noncomputable section

namespace Cert.Tail

open Idealize.ShloMosaic Cert.KernelIdeal Cert.KernelIdeal.Gen Idealize.ShloMosaic.TcCoe
open scoped BigOperators

variable (m : (ℓ : Loc nD τ sig) → Buf (Elt Ideal) ℓ) (c : Dev nD)

/-- One sample's eight tiles are its tokens. -/
theorem sum_tiles (f : Inp → EReal) (b : Fin 2) (p : Fin 8 → Fin cfg0.N) (hp : ∀ s, (p s).val = 8 * b.val + s.val) :
    ∑ s, ∑ r, f (tokAt m c (p s) r) = ∑ n, f ((args m c).tok b n) :=
  Fin.sum_mul_add_congr (S := 8) (n := 256) (fun s r hl => by
    have h := hp s
    have h1 : smp (p s) = b := Fin.ext (by show (p s).val / 8 = b.val; omega)
    have h2 : pos (p s) r = ⟨s.val * 256 + r.val, hl⟩ :=
      Fin.ext (by show 256 * ((p s).val % 8) + r.val = s.val * 256 + r.val; omega)
    rw [tokAt, h1, h2])

/-- All sixteen tiles are the tokens of both samples. -/
theorem sum_points (f : Inp → EReal) :
    ∑ p : Fin cfg0.N, ∑ r, f (tokAt m c p r) = ∑ b, ∑ n, f ((args m c).tok b n) :=
  Fin.sum_points_lanes_congr (N := cfg0.N) (n := 256) (A := 2) (L := 2048) 8 (fun p r ha hl => by
    have h1 : smp p = ⟨p.val / 8, ha⟩ := rfl
    have h2 : pos p r = ⟨p.val % 8 * 256 + r.val, hl⟩ :=
      Fin.ext (by show 256 * (p.val % 8) + r.val = p.val % 8 * 256 + r.val; omega)
    rw [tokAt, h1, h2])

theorem cHalf_eq : cHalf = ((1 / 2 : ℝ) : EReal) := by
  rw [cHalf]; simp [Ideal.ofBits, Ideal.ieee, -EReal.coe_mul]; norm_num

/-- One half times a sum. -/
theorem cHalf_sum {n : ℕ} (f : Fin n → EReal) : ∑ p, cHalf * f p = cHalf * ∑ p, f p := by
  have h0 : (0 : EReal) ≤ cHalf := by rw [cHalf_eq]; exact_mod_cast (by norm_num : (0 : ℝ) ≤ 1 / 2)
  have h1 : cHalf ≠ ⊤ := by rw [cHalf_eq]; exact EReal.coe_ne_top _
  exact (map_sum (⟨⟨fun x => cHalf * x, mul_zero _⟩, fun x y => EReal.left_distrib_of_nonneg_of_ne_top h0 h1 x y⟩ : EReal →+ EReal)
    f Finset.univ).symm

/-- The modulation gradient's block at the last tile of a sample. -/
theorem total17 (t : Fin cfg0.N) (ht : t.val % 8 = 7) (k : Fin 6) (d : Fin 1024) :
    ((outsAt0 m c t.val t.isLt).2.2.2.2.2.2.2.1 (ix3 0 k d) : EReal) = Ref.dmod (args m c) (smp t) k d := by
  have h := Pipeline.eq_sum_fin_of_reset_step_apply_of_flush (M := EReal) (ι := Unit)
    (fun n hn _ => (outsAt0 m c n hn).2.2.2.2.2.2.2.1 (ix3 0 k d)) 8 (fun _ => 0)
    (fun t _ => dmodPart m c t k d)
    (fun t h0 _ => by
      rw [zero_add]
      by_cases h1 : t.val % 16 = 0
      · exact out17_A m c t h0 h1 k d
      · exact out17_C m c t h0 h1 k d)
    (fun t h0 _ => out17_B m c t h0 (by omega) k d) t ht ()
  rw [zero_add] at h
  refine h.trans ?_
  match k with
  | 0 => exact Finset.sum_const_zero
  | 1 => exact Finset.sum_const_zero
  | 2 => exact sum_tiles m c (fun I => I.gGt1 d) (smp t) _ fun s => rfl
  | 3 => exact sum_tiles m c (fun I => I.dh2 d) (smp t) _ fun s => rfl
  | 4 => exact sum_tiles m c (fun I => I.gSc2 d) (smp t) _ fun s => rfl
  | 5 => exact sum_tiles m c (fun I => I.gGt2 d) (smp t) _ fun s => rfl

/-- The gain gradient's block at the last tile. -/
theorem total18 (t : Fin cfg0.N) (ht : t.val + 1 = cfg0.N) (k : Fin 8) (d : Fin 1024) :
    ((outsAt0 m c t.val t.isLt).2.2.2.2.2.2.2.2.1 (ix2 k d) : EReal) = Ref.dg (args m c) k d := by
  have h := Pipeline.eq_sum_fin_of_reset_step_apply_last (M := EReal) (ι := Unit)
    (fun n hn _ => (outsAt0 m c n hn).2.2.2.2.2.2.2.2.1 (ix2 k d)) 16 (fun _ => 0)
    (fun t _ => dgPart m c t k d)
    (fun t h1 _ => by rw [zero_add]; exact out18_A m c t (by omega) h1 k d)
    (fun t h1 _ => by
      by_cases h0 : t.val % 8 = 0
      · exact out18_C m c t h0 h1 k d
      · exact out18_B m c t h0 h1 k d) (by decide) t ht ()
  rw [zero_add] at h
  refine h.trans ?_
  match k with
  | 0 => exact sum_points m c (fun I => I.gGpm d)
  | 1 => exact sum_points m c (fun I => I.gGpl d)
  | 2 => exact sum_points m c (fun I => I.gGpo d)
  | 3 => exact Finset.sum_const_zero
  | 4 => exact Finset.sum_const_zero
  | 5 => exact Finset.sum_const_zero
  | 6 => exact Finset.sum_const_zero
  | 7 => exact Finset.sum_const_zero

/-- The loss block at the last tile. -/
theorem total19 (t : Fin cfg0.N) (ht : t.val + 1 = cfg0.N) (k : Fin 8) (d : Fin 128) :
    ((outsAt0 m c t.val t.isLt).2.2.2.2.2.2.2.2.2 (ix2 k d) : EReal) = cHalf * ∑ b, ∑ n, ((args m c).tok b n).mse := by
  have h := Pipeline.eq_sum_fin_of_reset_step_apply_last (M := EReal) (ι := Unit)
    (fun n hn _ => (outsAt0 m c n hn).2.2.2.2.2.2.2.2.2 (ix2 k d)) 16 (fun _ => 0)
    (fun t _ => lossPart m c t)
    (fun t h1 _ => by rw [zero_add]; exact out19_A m c t (by omega) h1 k d)
    (fun t h1 _ => by
      by_cases h0 : t.val % 8 = 0
      · exact out19_C m c t h0 h1 k d
      · exact out19_B m c t h0 h1 k d) (by decide) t ht ()
  rw [zero_add] at h
  exact h.trans ((cHalf_sum _).trans (congrArg (cHalf * ·) (sum_points m c (fun I => I.mse))))

end Cert.Tail
-- ==== Proof.Arrays.lean ====
/- The kernel's ten final arrays are the reference's ten results. -/
module

public import proofs.«01_k».proof.Proof.Outputs
public import proofs.«01_k».proof.Proof.Totals
public import proofs.«01_k».proof.Proof.RefResults
public import proofs.«01_k».proof.Proof.Coordinates

@[expose] public section

set_option maxRecDepth 16384

noncomputable section

namespace Cert.Tail

open Idealize.ShloMosaic Cert.KernelIdeal Cert.KernelIdeal.Gen Idealize.ShloMosaic.TcCoe
open scoped BigOperators

open Cert.ReferenceIdeal.Read Cert.Coordinates

variable (m : (ℓ : Loc nD τ sig) → Buf (Elt Ideal) ℓ) (c : Dev nD)

/-- Output 0: `dx`. -/
theorem array10 : (dats m 0 c).arrAt 10 cfg0.N = val_main_v157 (F := Ideal) (args m c).x0 (args m c).x1 (args m c).x2 (args m c).x3 (args m c).x4 (args m c).x5 (args m c).x6 (args m c).x7 (args m c).x8 (args m c).x9 := by
  refine (dats m 0 c).arrAt_eq_of_covers 10 _ (by decide +kernel) fun t hf y => ?_
  obtain ⟨r, d, rfl⟩ := split3 y
  have he : ((cfg0.win 10).blk t).view.emb (ix3 0 r d) = ix3 (smp t) (pos t r) d := by blk_ext [idx t, smp, pos]
  rw [after0_10]
  refine (out10_at m c t r d).trans ?_
  refine Eq.trans ?_ (congrArg (val_main_v157 (F := Ideal) (args m c).x0 (args m c).x1 (args m c).x2 (args m c).x3 (args m c).x4 (args m c).x5 (args m c).x6 (args m c).x7 (args m c).x8 (args m c).x9) he).symm
  exact (Ref.v157_at (args m c) (smp t) (pos t r) d).symm
/-- Output 1: `dmix`. -/
theorem array11 : (dats m 0 c).arrAt 11 cfg0.N = val_main_v192 (F := Ideal) (args m c).x0 (args m c).x1 (args m c).x2 (args m c).x3 (args m c).x4 (args m c).x5 (args m c).x6 (args m c).x7 (args m c).x8 (args m c).x9 := by
  refine (dats m 0 c).arrAt_eq_of_covers 11 _ (by decide +kernel) fun t hf y => ?_
  obtain ⟨r, d, rfl⟩ := split3 y
  have he : ((cfg0.win 11).blk t).view.emb (ix3 0 r d) = ix3 (smp t) (pos t r) d := by blk_ext [idx t, smp, pos]
  rw [after0_11]
  refine (out11_at m c t r d).trans ?_
  refine Eq.trans ?_ (congrArg (val_main_v192 (F := Ideal) (args m c).x0 (args m c).x1 (args m c).x2 (args m c).x3 (args m c).x4 (args m c).x5 (args m c).x6 (args m c).x7 (args m c).x8 (args m c).x9) he).symm
  exact (Ref.v182_at (args m c) (smp t) (pos t r) d).symm
/-- Output 2: `h2`. -/
theorem array12 : (dats m 0 c).arrAt 12 cfg0.N = val_main_v193 (F := Ideal) (args m c).x0 (args m c).x1 (args m c).x3 (args m c).x4 (args m c).x5 (args m c).x7 := by
  refine (dats m 0 c).arrAt_eq_of_covers 12 _ (by decide +kernel) fun t hf y => ?_
  obtain ⟨r, d, rfl⟩ := split3 y
  have he : ((cfg0.win 12).blk t).view.emb (ix3 0 r d) = ix3 (smp t) (pos t r) d := by blk_ext [idx t, smp, pos]
  rw [after0_12]
  refine (out12_at m c t r d).trans ?_
  refine Eq.trans ?_ (congrArg (val_main_v193 (F := Ideal) (args m c).x0 (args m c).x1 (args m c).x3 (args m c).x4 (args m c).x5 (args m c).x7) he).symm
  exact (Ref.v56_at (args m c) (smp t) (pos t r) d).symm
/-- Output 3: `du`. -/
theorem array13 : (dats m 0 c).arrAt 13 cfg0.N = val_main_v194 (F := Ideal) (args m c).x0 (args m c).x1 (args m c).x2 (args m c).x3 (args m c).x4 (args m c).x5 (args m c).x6 (args m c).x7 (args m c).x8 (args m c).x9 := by
  refine (dats m 0 c).arrAt_eq_of_covers 13 _ (by decide +kernel) fun t hf y => ?_
  obtain ⟨r, d, rfl⟩ := split3 y
  have he : ((cfg0.win 13).blk t).view.emb (ix3 0 r d) = ix3 (smp t) (pos t r) d := by blk_ext [idx t, smp, pos]
  rw [after0_13]
  refine (out13_at m c t r d).trans ?_
  refine Eq.trans ?_ (congrArg (val_main_v194 (F := Ideal) (args m c).x0 (args m c).x1 (args m c).x2 (args m c).x3 (args m c).x4 (args m c).x5 (args m c).x6 (args m c).x7 (args m c).x8 (args m c).x9) he).symm
  exact (Ref.v128_at (args m c) (smp t) (pos t r) d).symm
/-- Output 4: `act`. -/
theorem array14 : (dats m 0 c).arrAt 14 cfg0.N = val_main_v195 (F := Ideal) (args m c).x0 (args m c).x1 (args m c).x3 (args m c).x4 (args m c).x5 (args m c).x7 (args m c).x8 := by
  refine (dats m 0 c).arrAt_eq_of_covers 14 _ (by decide +kernel) fun t hf y => ?_
  obtain ⟨r, d, rfl⟩ := split3 y
  have he : ((cfg0.win 14).blk t).view.emb (ix3 0 r d) = ix3 (smp t) (pos t r) d := by blk_ext [idx t, smp, pos]
  rw [after0_14]
  refine (out14_at m c t r d).trans ?_
  refine Eq.trans ?_ (congrArg (val_main_v195 (F := Ideal) (args m c).x0 (args m c).x1 (args m c).x3 (args m c).x4 (args m c).x5 (args m c).x7 (args m c).x8) he).symm
  exact (Ref.v62_at (args m c) (smp t) (pos t r) d).symm
/-- Output 5: `dm`. -/
theorem array15 : (dats m 0 c).arrAt 15 cfg0.N = val_main_v196 (F := Ideal) (args m c).x0 (args m c).x1 (args m c).x2 (args m c).x3 (args m c).x4 (args m c).x5 (args m c).x6 (args m c).x7 (args m c).x8 (args m c).x9 := by
  refine (dats m 0 c).arrAt_eq_of_covers 15 _ (by decide +kernel) fun t hf y => ?_
  obtain ⟨r, d, rfl⟩ := split3 y
  have he : ((cfg0.win 15).blk t).view.emb (ix3 0 r d) = ix3 (smp t) (pos t r) d := by blk_ext [idx t, smp, pos]
  rw [after0_15]
  refine (out15_at m c t r d).trans ?_
  refine Eq.trans ?_ (congrArg (val_main_v196 (F := Ideal) (args m c).x0 (args m c).x1 (args m c).x2 (args m c).x3 (args m c).x4 (args m c).x5 (args m c).x6 (args m c).x7 (args m c).x8 (args m c).x9) he).symm
  exact (Ref.v124_at (args m c) (smp t) (pos t r) d).symm
/-- Output 6: `dmi`. -/
theorem array16 : (dats m 0 c).arrAt 16 cfg0.N = val_main_v197 (F := Ideal) (args m c).x0 (args m c).x1 (args m c).x2 (args m c).x3 (args m c).x4 (args m c).x5 (args m c).x6 (args m c).x7 (args m c).x8 (args m c).x9 := by
  refine (dats m 0 c).arrAt_eq_of_covers 16 _ (by decide +kernel) fun t hf y => ?_
  obtain ⟨r, d, rfl⟩ := split3 y
  have he : ((cfg0.win 16).blk t).view.emb (ix3 0 r d) = ix3 (smp t) (pos t r) d := by blk_ext [idx t, smp, pos]
  rw [after0_16]
  refine (out16_at m c t r d).trans ?_
  refine Eq.trans ?_ (congrArg (val_main_v197 (F := Ideal) (args m c).x0 (args m c).x1 (args m c).x2 (args m c).x3 (args m c).x4 (args m c).x5 (args m c).x6 (args m c).x7 (args m c).x8 (args m c).x9) he).symm
  exact (Ref.v183_at (args m c) (smp t) (pos t r) d).symm
/-- Output 7: the gradient of the modulation. -/
theorem array17 : (dats m 0 c).arrAt 17 cfg0.N = val_main_v185 (F := Ideal) (args m c).x0 (args m c).x1 (args m c).x2 (args m c).x3 (args m c).x4 (args m c).x5 (args m c).x6 (args m c).x7 (args m c).x8 (args m c).x9 := by
  refine (dats m 0 c).arrAt_eq_of_covers 17 _ (by decide +kernel) fun t hf y => ?_
  obtain ⟨k, d, rfl⟩ := split3 y
  have he : ((cfg0.win 17).blk t).view.emb (ix3 0 k d) = ix3 (smp t) k d := by blk_ext [idx t, smp]
  rw [after0_17]
  refine (total17 m c t ((flush0_17 t).mp hf) k d).trans ?_
  refine Eq.trans ?_ (congrArg (val_main_v185 (F := Ideal) (args m c).x0 (args m c).x1 (args m c).x2 (args m c).x3 (args m c).x4 (args m c).x5 (args m c).x6 (args m c).x7 (args m c).x8 (args m c).x9) he).symm
  exact (Ref.v185_at (args m c) (smp t) k d).symm
/-- Output 8: the gradient of the gains. -/
theorem array18 : (dats m 0 c).arrAt 18 cfg0.N = val_main_v191 (F := Ideal) (args m c).x0 (args m c).x1 (args m c).x2 (args m c).x3 (args m c).x4 (args m c).x5 (args m c).x6 (args m c).x7 (args m c).x8 (args m c).x9 := by
  refine (dats m 0 c).arrAt_eq_of_covers 18 _ (by decide +kernel) fun t hf y => ?_
  obtain ⟨k, d, rfl⟩ := split2 y
  have he : ((cfg0.win 18).blk t).view.emb (ix2 k d) = ix2 k d := by blk_ext [idx t]
  rw [after0_18]
  have hl : t.val + 1 = cfg0.N := by
    have h1 := (flush0_18 t).mp hf
    have h2 := tlt t
    show t.val + 1 = 16
    omega
  refine (total18 m c t hl k d).trans ?_
  refine Eq.trans ?_ (congrArg (val_main_v191 (F := Ideal) (args m c).x0 (args m c).x1 (args m c).x2 (args m c).x3 (args m c).x4 (args m c).x5 (args m c).x6 (args m c).x7 (args m c).x8 (args m c).x9) he).symm
  exact (Ref.v191_at (args m c) k d).symm
/-- Output 9: the loss. -/
theorem array19 : (dats m 0 c).arrAt 19 cfg0.N = val_main_v198 (F := Ideal) (args m c).x0 (args m c).x1 (args m c).x2 (args m c).x3 (args m c).x4 (args m c).x5 (args m c).x6 (args m c).x7 (args m c).x8 (args m c).x9 := by
  refine (dats m 0 c).arrAt_eq_of_covers 19 _ (by decide +kernel) fun t hf y => ?_
  obtain ⟨k, d, rfl⟩ := split2 y
  have he : ((cfg0.win 19).blk t).view.emb (ix2 k d) = ix2 k d := by blk_ext [idx t]
  rw [after0_19]
  have hl : t.val + 1 = cfg0.N := by
    have h1 := (flush0_19 t).mp hf
    have h2 := tlt t
    show t.val + 1 = 16
    omega
  refine (total19 m c t hl k d).trans ?_
  refine Eq.trans ?_ (congrArg (val_main_v198 (F := Ideal) (args m c).x0 (args m c).x1 (args m c).x2 (args m c).x3 (args m c).x4 (args m c).x5 (args m c).x6 (args m c).x7 (args m c).x8 (args m c).x9) he).symm
  exact (Ref.v198_at (args m c) k d).symm

end Cert.Tail
-- ==== Proof.lean ====
/- The claims, five of each of seven calls: the kernel and its ideal form run to the end and keep their arguments, so does
   the reference; the ideal form is the kernel over the reals; and over the reals the kernel's results are the
   reference's. The first call is the tail of the block with its ten results, four others a weight's gradient
   each, the last two the mixer's input projection of the tokens and of the contexts. -/
module

public import proofs.«01_k».proof.Defs
public import proofs.«01_k».proof.Proof.Gen.Kernel.Frame
public import proofs.«01_k».proof.Proof.Gen.KernelIdeal.Value
public import proofs.«01_k».proof.Proof.Gen.ReferenceIdeal.Read
public import proofs.«01_k».proof.Proof.Gen.Kernel2.Frame
public import proofs.«01_k».proof.Proof.WeightOut
public import proofs.«01_k».proof.Proof.Gen.Kernel3.Frame
public import proofs.«01_k».proof.Proof.WeightUp
public import proofs.«01_k».proof.Proof.Gen.Kernel4.Frame
public import proofs.«01_k».proof.Proof.WeightDown
public import proofs.«01_k».proof.Proof.Gen.Kernel5.Frame
public import proofs.«01_k».proof.Proof.WeightIn
public import proofs.«01_k».proof.Proof.ProjSame
public import proofs.«01_k».proof.Proof.Gen.Kernel7.Frame
public import proofs.«01_k».proof.Proof.ProjContext
public import proofs.«01_k».proof.Proof.ProjValues
public import proofs.«01_k».proof.Proof.Arrays
public import Idealize.ShloMosaic.Adequacy
public import Idealize.ShloMosaic.Init

@[expose] public section

set_option maxRecDepth 16384

noncomputable section

namespace Cert.Proof

open Idealize.ShloMosaic Idealize.SL.Sem Idealize.ShloMosaic.TcCoe Cert.Tail

/-- The reference's run, its results read at the kernel's arguments. -/
theorem reference_run (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (g' : Dev Cert.ReferenceIdeal.nD → PrngReg)
    (ha : ∀ c : Dev Cert.KernelIdeal.nD,
      m' ((c.tc : Thread Cert.ReferenceIdeal.nD Cert.ReferenceIdeal.τ).loc Cert.ReferenceIdeal.main_arg0) = (args m c).x0
      ∧ m' ((c.tc : Thread Cert.ReferenceIdeal.nD Cert.ReferenceIdeal.τ).loc Cert.ReferenceIdeal.main_arg1) = (args m c).x1
      ∧ m' ((c.tc : Thread Cert.ReferenceIdeal.nD Cert.ReferenceIdeal.τ).loc Cert.ReferenceIdeal.main_arg2) = (args m c).x2
      ∧ m' ((c.tc : Thread Cert.ReferenceIdeal.nD Cert.ReferenceIdeal.τ).loc Cert.ReferenceIdeal.main_arg3) = (args m c).x3
      ∧ m' ((c.tc : Thread Cert.ReferenceIdeal.nD Cert.ReferenceIdeal.τ).loc Cert.ReferenceIdeal.main_arg4) = (args m c).x4
      ∧ m' ((c.tc : Thread Cert.ReferenceIdeal.nD Cert.ReferenceIdeal.τ).loc Cert.ReferenceIdeal.main_arg5) = (args m c).x5
      ∧ m' ((c.tc : Thread Cert.ReferenceIdeal.nD Cert.ReferenceIdeal.τ).loc Cert.ReferenceIdeal.main_arg6) = (args m c).x6
      ∧ m' ((c.tc : Thread Cert.ReferenceIdeal.nD Cert.ReferenceIdeal.τ).loc Cert.ReferenceIdeal.main_arg7) = (args m c).x7
      ∧ m' ((c.tc : Thread Cert.ReferenceIdeal.nD Cert.ReferenceIdeal.τ).loc Cert.ReferenceIdeal.main_arg8) = (args m c).x8
      ∧ m' ((c.tc : Thread Cert.ReferenceIdeal.nD Cert.ReferenceIdeal.τ).loc Cert.ReferenceIdeal.main_arg9) = (args m c).x9) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v157) = (Cert.KernelIdeal.Gen.dats m 0 c).arrAt 10 Cert.KernelIdeal.cfg0.N
      ∧ r.2.mem ((c.tc : Thread Cert.ReferenceIdeal.nD Cert.ReferenceIdeal.τ).loc Cert.ReferenceIdeal.main_v192) = (Cert.KernelIdeal.Gen.dats m 0 c).arrAt 11 Cert.KernelIdeal.cfg0.N
      ∧ r.2.mem ((c.tc : Thread Cert.ReferenceIdeal.nD Cert.ReferenceIdeal.τ).loc Cert.ReferenceIdeal.main_v193) = (Cert.KernelIdeal.Gen.dats m 0 c).arrAt 12 Cert.KernelIdeal.cfg0.N
      ∧ r.2.mem ((c.tc : Thread Cert.ReferenceIdeal.nD Cert.ReferenceIdeal.τ).loc Cert.ReferenceIdeal.main_v194) = (Cert.KernelIdeal.Gen.dats m 0 c).arrAt 13 Cert.KernelIdeal.cfg0.N
      ∧ r.2.mem ((c.tc : Thread Cert.ReferenceIdeal.nD Cert.ReferenceIdeal.τ).loc Cert.ReferenceIdeal.main_v195) = (Cert.KernelIdeal.Gen.dats m 0 c).arrAt 14 Cert.KernelIdeal.cfg0.N
      ∧ r.2.mem ((c.tc : Thread Cert.ReferenceIdeal.nD Cert.ReferenceIdeal.τ).loc Cert.ReferenceIdeal.main_v196) = (Cert.KernelIdeal.Gen.dats m 0 c).arrAt 15 Cert.KernelIdeal.cfg0.N
      ∧ r.2.mem ((c.tc : Thread Cert.ReferenceIdeal.nD Cert.ReferenceIdeal.τ).loc Cert.ReferenceIdeal.main_v197) = (Cert.KernelIdeal.Gen.dats m 0 c).arrAt 16 Cert.KernelIdeal.cfg0.N
      ∧ r.2.mem ((c.tc : Thread Cert.ReferenceIdeal.nD Cert.ReferenceIdeal.τ).loc Cert.ReferenceIdeal.main_v185) = (Cert.KernelIdeal.Gen.dats m 0 c).arrAt 17 Cert.KernelIdeal.cfg0.N
      ∧ r.2.mem ((c.tc : Thread Cert.ReferenceIdeal.nD Cert.ReferenceIdeal.τ).loc Cert.ReferenceIdeal.main_v191) = (Cert.KernelIdeal.Gen.dats m 0 c).arrAt 18 Cert.KernelIdeal.cfg0.N
      ∧ r.2.mem ((c.tc : Thread Cert.ReferenceIdeal.nD Cert.ReferenceIdeal.τ).loc Cert.ReferenceIdeal.main_v198) = (Cert.KernelIdeal.Gen.dats m 0 c).arrAt 19 Cert.KernelIdeal.cfg0.N
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)) := by
  refine (θ_run _ _ _).mono (fun r h c => ?_) (Cert.ReferenceIdeal.Value.run (F := Ideal) m' g')
  obtain ⟨a0, a1, a2, a3, a4, a5, a6, a7, a8, a9⟩ := ha c
  obtain ⟨h0, h1, h2, h3, h4, h5, h6, h7, h8, h9, hk⟩ := h c
  have e0 : r.2.mem ((c.tc : Thread Cert.ReferenceIdeal.nD Cert.ReferenceIdeal.τ).loc Cert.ReferenceIdeal.main_v157) = Cert.ReferenceIdeal.Read.val_main_v157 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) :=
    h0.trans (Cert.ReferenceIdeal.Read.val_main_v157_eq (F := Ideal) (StableHlo.launchContents m' c))
  have e1 : r.2.mem ((c.tc : Thread Cert.ReferenceIdeal.nD Cert.ReferenceIdeal.τ).loc Cert.ReferenceIdeal.main_v192) = Cert.ReferenceIdeal.Read.val_main_v192 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) :=
    h1.trans (Cert.ReferenceIdeal.Read.val_main_v192_eq (F := Ideal) (StableHlo.launchContents m' c))
  have e2 : r.2.mem ((c.tc : Thread Cert.ReferenceIdeal.nD Cert.ReferenceIdeal.τ).loc Cert.ReferenceIdeal.main_v193) = Cert.ReferenceIdeal.Read.val_main_v193 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg7)) :=
    h2.trans (Cert.ReferenceIdeal.Read.val_main_v193_eq (F := Ideal) (StableHlo.launchContents m' c))
  have e3 : r.2.mem ((c.tc : Thread Cert.ReferenceIdeal.nD Cert.ReferenceIdeal.τ).loc Cert.ReferenceIdeal.main_v194) = Cert.ReferenceIdeal.Read.val_main_v194 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) :=
    h3.trans (Cert.ReferenceIdeal.Read.val_main_v194_eq (F := Ideal) (StableHlo.launchContents m' c))
  have e4 : r.2.mem ((c.tc : Thread Cert.ReferenceIdeal.nD Cert.ReferenceIdeal.τ).loc Cert.ReferenceIdeal.main_v195) = Cert.ReferenceIdeal.Read.val_main_v195 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) :=
    h4.trans (Cert.ReferenceIdeal.Read.val_main_v195_eq (F := Ideal) (StableHlo.launchContents m' c))
  have e5 : r.2.mem ((c.tc : Thread Cert.ReferenceIdeal.nD Cert.ReferenceIdeal.τ).loc Cert.ReferenceIdeal.main_v196) = Cert.ReferenceIdeal.Read.val_main_v196 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) :=
    h5.trans (Cert.ReferenceIdeal.Read.val_main_v196_eq (F := Ideal) (StableHlo.launchContents m' c))
  have e6 : r.2.mem ((c.tc : Thread Cert.ReferenceIdeal.nD Cert.ReferenceIdeal.τ).loc Cert.ReferenceIdeal.main_v197) = Cert.ReferenceIdeal.Read.val_main_v197 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) :=
    h6.trans (Cert.ReferenceIdeal.Read.val_main_v197_eq (F := Ideal) (StableHlo.launchContents m' c))
  have e7 : r.2.mem ((c.tc : Thread Cert.ReferenceIdeal.nD Cert.ReferenceIdeal.τ).loc Cert.ReferenceIdeal.main_v185) = Cert.ReferenceIdeal.Read.val_main_v185 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) :=
    h7.trans (Cert.ReferenceIdeal.Read.val_main_v185_eq (F := Ideal) (StableHlo.launchContents m' c))
  have e8 : r.2.mem ((c.tc : Thread Cert.ReferenceIdeal.nD Cert.ReferenceIdeal.τ).loc Cert.ReferenceIdeal.main_v191) = Cert.ReferenceIdeal.Read.val_main_v191 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) :=
    h8.trans (Cert.ReferenceIdeal.Read.val_main_v191_eq (F := Ideal) (StableHlo.launchContents m' c))
  have e9 : r.2.mem ((c.tc : Thread Cert.ReferenceIdeal.nD Cert.ReferenceIdeal.τ).loc Cert.ReferenceIdeal.main_v198) = Cert.ReferenceIdeal.Read.val_main_v198 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) :=
    h9.trans (Cert.ReferenceIdeal.Read.val_main_v198_eq (F := Ideal) (StableHlo.launchContents m' c))
  rw [a0, a1, a2, a3, a4, a5, a6, a7, a8, a9] at e0
  rw [a0, a1, a2, a3, a4, a5, a6, a7, a8, a9] at e1
  rw [a0, a1, a3, a4, a5, a7] at e2
  rw [a0, a1, a2, a3, a4, a5, a6, a7, a8, a9] at e3
  rw [a0, a1, a3, a4, a5, a7, a8] at e4
  rw [a0, a1, a2, a3, a4, a5, a6, a7, a8, a9] at e5
  rw [a0, a1, a2, a3, a4, a5, a6, a7, a8, a9] at e6
  rw [a0, a1, a2, a3, a4, a5, a6, a7, a8, a9] at e7
  rw [a0, a1, a2, a3, a4, a5, a6, a7, a8, a9] at e8
  rw [a0, a1, a2, a3, a4, a5, a6, a7, a8, a9] at e9
  exact ⟨e0.trans (array10 m c).symm, e1.trans (array11 m c).symm, e2.trans (array12 m c).symm, e3.trans (array13 m c).symm, e4.trans (array14 m c).symm, e5.trans (array15 m c).symm, e6.trans (array16 m c).symm, e7.trans (array17 m c).symm, e8.trans (array18 m c).symm, e9.trans (array19 m c).symm, hk⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    fun m ρ _ => Cert.Kernel.Gen.frame m ρ,
    fun m ρ _ => Cert.KernelIdeal.Gen.frame m ρ,
    fun m ρ _ => (θ_run _ _ _).mono (fun r h => ⟨fun c => by
      obtain ⟨_, _, _, _, _, _, _, _, _, _, hk⟩ := h c
      exact hk, sem_eq_zero_of_no_sems (by decide) r.2⟩) (Cert.ReferenceIdeal.Value.run (F := Ideal) m ρ),
    fun m ρ _ => Cert.Kernel2.Gen.frame m ρ,
    fun m ρ _ => Cert.Kernel2Ideal.Gen.frame m ρ,
    fun m ρ _ => (θ_run _ _ _).mono (fun r h => ⟨fun c => (h c).2, sem_eq_zero_of_no_sems (by decide) r.2⟩)
      (Cert.Reference2Ideal.Value.run (F := Ideal) m ρ),
    fun m ρ _ => Cert.Kernel3.Gen.frame m ρ,
    fun m ρ _ => Cert.Kernel3Ideal.Gen.frame m ρ,
    fun m ρ _ => (θ_run _ _ _).mono (fun r h => ⟨fun c => (h c).2, sem_eq_zero_of_no_sems (by decide) r.2⟩)
      (Cert.Reference3Ideal.Value.run (F := Ideal) m ρ),
    fun m ρ _ => Cert.Kernel4.Gen.frame m ρ,
    fun m ρ _ => Cert.Kernel4Ideal.Gen.frame m ρ,
    fun m ρ _ => (θ_run _ _ _).mono (fun r h => ⟨fun c => (h c).2, sem_eq_zero_of_no_sems (by decide) r.2⟩)
      (Cert.Reference4Ideal.Value.run (F := Ideal) m ρ),
    fun m ρ _ => Cert.Kernel5.Gen.frame m ρ,
    fun m ρ _ => Cert.Kernel5Ideal.Gen.frame m ρ,
    fun m ρ _ => (θ_run _ _ _).mono (fun r h => ⟨fun c => (h c).2, sem_eq_zero_of_no_sems (by decide) r.2⟩)
      (Cert.Reference5Ideal.Value.run (F := Ideal) m ρ),
    fun m ρ _ => Cert.ProjSame.kept m ρ,
    fun m ρ _ => Cert.ProjFrame.kept m ρ,
    fun m ρ _ => (θ_run _ _ _).mono (fun r h => ⟨fun c => (h c).2.2.2.2, sem_eq_zero_of_no_sems (by decide) r.2⟩)
      (Cert.Reference6Ideal.Value.run (F := Ideal) m ρ),
    fun m ρ _ => Cert.Kernel7.Gen.frame m ρ,
    fun m ρ _ => Cert.Kernel7Ideal.Gen.frame m ρ,
    fun m ρ _ => (θ_run _ _ _).mono (fun r h => ⟨fun c => (h c).2.2.2, sem_eq_zero_of_no_sems (by decide) r.2⟩)
      (Cert.Reference7Ideal.Value.run (F := Ideal) m ρ),
    trivial,
    fun m g m' g' _ ha =>
      ⟨fun c => (Cert.KernelIdeal.Gen.dats m 0 c).arrAt 10 Cert.KernelIdeal.cfg0.N, fun c => (Cert.KernelIdeal.Gen.dats m 0 c).arrAt 11 Cert.KernelIdeal.cfg0.N, fun c => (Cert.KernelIdeal.Gen.dats m 0 c).arrAt 12 Cert.KernelIdeal.cfg0.N, fun c => (Cert.KernelIdeal.Gen.dats m 0 c).arrAt 13 Cert.KernelIdeal.cfg0.N, fun c => (Cert.KernelIdeal.Gen.dats m 0 c).arrAt 14 Cert.KernelIdeal.cfg0.N, fun c => (Cert.KernelIdeal.Gen.dats m 0 c).arrAt 15 Cert.KernelIdeal.cfg0.N, fun c => (Cert.KernelIdeal.Gen.dats m 0 c).arrAt 16 Cert.KernelIdeal.cfg0.N, fun c => (Cert.KernelIdeal.Gen.dats m 0 c).arrAt 17 Cert.KernelIdeal.cfg0.N, fun c => (Cert.KernelIdeal.Gen.dats m 0 c).arrAt 18 Cert.KernelIdeal.cfg0.N, fun c => (Cert.KernelIdeal.Gen.dats m 0 c).arrAt 19 Cert.KernelIdeal.cfg0.N,
        Cert.KernelIdeal.Value.run_blocks (F := Ideal) m g, reference_run m m' g' ha⟩,
    trivial,
    fun m g m' g' _ ha => ⟨fun c => (Cert.Kernel2Ideal.Gen.dats m 0 c).arrAt 2 Cert.Kernel2Ideal.cfg0.N,
      Cert.WeightOut.kernel_run m g, Cert.WeightOut.reference_run m m' g' ha⟩,
    trivial,
    fun m g m' g' _ ha => ⟨fun c => (Cert.Kernel3Ideal.Gen.dats m 0 c).arrAt 2 Cert.Kernel3Ideal.cfg0.N,
      Cert.WeightUp.kernel_run m g, Cert.WeightUp.reference_run m m' g' ha⟩,
    trivial,
    fun m g m' g' _ ha => ⟨fun c => (Cert.Kernel4Ideal.Gen.dats m 0 c).arrAt 2 Cert.Kernel4Ideal.cfg0.N,
      Cert.WeightDown.kernel_run m g, Cert.WeightDown.reference_run m m' g' ha⟩,
    trivial,
    fun m g m' g' _ ha => ⟨fun c => (Cert.Kernel5Ideal.Gen.dats m 0 c).arrAt 4 Cert.Kernel5Ideal.cfg0.N,
      Cert.WeightIn.kernel_run m g, Cert.WeightIn.reference_run m m' g' ha⟩,
    trivial,
    fun m g m' g' _ ha => ⟨fun c => (Cert.ProjFrame.dats m 0 c).arrAt 4 Cert.Kernel6Ideal.cfg0.N,
      fun c => (Cert.ProjFrame.dats m 0 c).arrAt 5 Cert.Kernel6Ideal.cfg0.N, fun c => (Cert.ProjFrame.dats m 0 c).arrAt 6 Cert.Kernel6Ideal.cfg0.N,
      fun c => (Cert.ProjFrame.dats m 0 c).arrAt 7 Cert.Kernel6Ideal.cfg0.N,
      Cert.Proj.kernel_run m g, Cert.Proj.reference_run m m' g' ha⟩,
    trivial,
    fun m g m' g' _ ha => ⟨fun c => (Cert.Kernel7Ideal.Gen.dats m 0 c).arrAt 4 Cert.Kernel7Ideal.cfg0.N,
      fun c => (Cert.Kernel7Ideal.Gen.dats m 0 c).arrAt 5 Cert.Kernel7Ideal.cfg0.N, fun c => (Cert.Kernel7Ideal.Gen.dats m 0 c).arrAt 6 Cert.Kernel7Ideal.cfg0.N,
      Cert.ProjContext.kernel_run m g, Cert.ProjContext.reference_run m m' g' ha⟩⟩

end Cert.Proof

end
